-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_scores.lean ====
abbrev S8x4096x3072 : Shape := ⟨3, ![8, 4096, 3072]⟩
abbrev S8x256x3072 : Shape := ⟨3, ![8, 256, 3072]⟩
abbrev S8x4096x2560 : Shape := ⟨3, ![8, 4096, 2560]⟩
abbrev S_ : Shape := ⟨0, ![]⟩
abbrev S8x256x512 : Shape := ⟨3, ![8, 256, 512]⟩

class Facts : Prop where
  slices_S8x4096x3072_S8x4096x2560_0_0_0 : S8x4096x3072.Slices ![0, 0, 0] S8x4096x2560
  bitsLt_bf16_f32 : FTy.bits .bf16 < FTy.bits .f32
  bcast_S_S8x4096x2560 : S_.BroadcastsInDim S8x4096x2560 (![] : Fin 0 → Fin S8x4096x2560.rank)
  slices_S8x256x3072_S8x256x512_0_0_2048 : S8x256x3072.Slices ![0, 0, 2048] S8x256x512
  bcast_S_S8x256x512 : S_.BroadcastsInDim S8x256x512 (![] : Fin 0 → Fin S8x256x512.rank)

variable [Facts]

def fn {F : FTy → Type} [FloatOps F] (main_arg0 : FVec F S8x4096x3072 .bf16) (main_arg1 : FVec F S8x256x3072 .bf16) : IVec S8x4096x2560 1 × IVec S8x256x512 1 :=
  let main_v0 : FVec F S8x4096x2560 .bf16 := (extractStridedSlice S8x4096x2560 ![0, 0, 0] · slices_S8x4096x3072_S8x4096x2560_0_0_0) main_arg0
  let main_v1 : FVec F S8x4096x2560 .f32 := (extf .f32 · bitsLt_bf16_f32) main_v0
  let main_v2 : FVec F S8x4096x2560 .f32 := Host.absf main_v1
  let main_cst : FVec F S_ .f32 := constant S_ .f32 0x7F800000#32
  let main_v3 : FVec F S8x4096x2560 .f32 := broadcastInDim S8x4096x2560 ![] bcast_S_S8x4096x2560 main_cst
  let main_v4 : IVec S8x4096x2560 1 := cmpf .olt main_v2 main_v3
  let main_v5 : FVec F S8x256x512 .bf16 := (extractStridedSlice S8x256x512 ![0, 0, 2048] · slices_S8x256x3072_S8x256x512_0_0_2048) main_arg1
  let main_v6 : FVec F S8x256x512 .f32 := (extf .f32 · bitsLt_bf16_f32) main_v5
  let main_v7 : FVec F S8x256x512 .f32 := Host.absf main_v6
  let main_cst_0 : FVec F S_ .f32 := constant S_ .f32 0x7F800000#32
  let main_v8 : FVec F S8x256x512 .f32 := broadcastInDim S8x256x512 ![] bcast_S_S8x256x512 main_cst_0
  let main_v9 : IVec S8x256x512 1 := cmpf .olt main_v7 main_v8
  (main_v4, main_v9)
-- ==== Kernel.lean ====
abbrev S8x4096x3072 : Shape := ⟨3, ![8, 4096, 3072]⟩
abbrev S8x256x3072 : Shape := ⟨3, ![8, 256, 3072]⟩
abbrev S8x4096x2048 : Shape := ⟨3, ![8, 4096, 2048]⟩
abbrev S1x512x128 : Shape := ⟨3, ![1, 512, 128]⟩
abbrev S1x256x128 : Shape := ⟨3, ![1, 256, 128]⟩
abbrev S1x4096x128 : Shape := ⟨3, ![1, 4096, 128]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S512x1024 : Shape := ⟨2, ![512, 1024]⟩

abbrev nBuf : Space → Nat
  | .hbm => 3
  | .vmem => 12
  | .smem => 0
  | _ => 0

abbrev bufTy : (tb : Table) → Fin (tcTables nBuf tb) → BufTy
  | .hbm, ⟨0, _⟩ => ⟨S8x4096x3072, .bf16⟩
  | .hbm, ⟨1, _⟩ => ⟨S8x256x3072, .bf16⟩
  | .hbm, ⟨2, _⟩ => ⟨S8x4096x2048, .bf16⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x512x128, .bf16⟩
  | .local _ .vmem, ⟨11, _⟩ => ⟨S1x512x128, .bf16⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  let c0_i32_5 : BitVec 32 := 0#32
  ![arg0.toNat, c0_i32_4.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c20_i32 : BitVec 32 := 20#32
  let v17 : BitVec 32 := Scalar.addi c20_i32 v16
  let c0_i32_4 : BitVec 32 := 0#32
  let c0_i32_5 : BitVec 32 := 0#32
  ![arg0.toNat, c0_i32_4.toNat, v17.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  let c0_i32_5 : BitVec 32 := 0#32
  ![arg0.toNat, c0_i32_4.toNat, v17.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c20_i32 : BitVec 32 := 20#32
  let v17 : BitVec 32 := Scalar.addi c20_i32 v16
  let c0_i32_4 : BitVec 32 := 0#32
  let c0_i32_5 : BitVec 32 := 0#32
  ![arg0.toNat, c0_i32_4.toNat, v17.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x3072 : Shape := ⟨3, ![8, 4096, 3072]⟩
abbrev S8x256x3072 : Shape := ⟨3, ![8, 256, 3072]⟩
abbrev S8x4096x2048 : Shape := ⟨3, ![8, 4096, 2048]⟩
abbrev S8x4096x4x4x128 : Shape := ⟨5, ![8, 4096, 4, 4, 128]⟩
abbrev S8x256x512 : Shape := ⟨3, ![8, 256, 512]⟩
abbrev S8x4096x512 : Shape := ⟨3, ![8, 4096, 512]⟩
abbrev S8x4352x512 : Shape := ⟨3, ![8, 4352, 512]⟩
abbrev S8x4352x4x128 : Shape := ⟨4, ![8, 4352, 4, 128]⟩
abbrev S8x4x4352x4096x4 : Shape := ⟨5, ![8, 4, 4352, 4096, 4]⟩
abbrev S8x4x4x4096x4352 : Shape := ⟨5, ![8, 4, 4, 4096, 4352]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x256x3072, .bf16⟩
  | .hbm, ⟨2, _⟩ => ⟨S8x4096x3072, .f32⟩
  | .hbm, ⟨3, _⟩ => ⟨S8x256x3072, .f32⟩
  | .hbm, ⟨4, _⟩ => ⟨S8x4096x2048, .f32⟩
  | .hbm, ⟨5, _⟩ => ⟨S8x4096x4x4x128, .f32⟩
  | .hbm, ⟨6, _⟩ => ⟨S8x256x512, .f32⟩
  | .hbm, ⟨7, _⟩ => ⟨S8x4096x512, .f32⟩
  | .hbm, ⟨8, _⟩ => ⟨S8x4352x512, .f32⟩
  | .hbm, ⟨9, _⟩ => ⟨S8x4352x4x128, .f32⟩
  | .hbm, ⟨10, _⟩ => ⟨S8x256x512, .f32⟩
  | .hbm, ⟨11, _⟩ => ⟨S8x4096x512, .f32⟩
  | .hbm, ⟨12, _⟩ => ⟨S8x4352x512, .f32⟩
  | .hbm, ⟨13, _⟩ => ⟨S8x4352x4x128, .f32⟩
  | .hbm, ⟨14, _⟩ => ⟨S8x4x4352x4096x4, .f32⟩
  | .hbm, ⟨15, _⟩ => ⟨S8x4x4x4096x4352, .f32⟩
  | .hbm, ⟨16, _⟩ => ⟨S_, .f32⟩
  | .hbm, ⟨17, _⟩ => ⟨S8x4x4x4096, .f32⟩
  | .hbm, ⟨18, _⟩ => ⟨S_, .f32⟩
  | .hbm, ⟨19, _⟩ => ⟨S8x4x4x4096, .f32⟩
  | .hbm, ⟨20, _⟩ => ⟨S8x4x4x4096, .f32⟩
  | .hbm, ⟨21, _⟩ => ⟨S8x4x4x4096x1, .f32⟩
  | .hbm, ⟨22, _⟩ => ⟨S8x4x4x4096x4352, .f32⟩
  | .hbm, ⟨23, _⟩ => ⟨S8x4x4x4096x4352, .f32⟩
  | .hbm, ⟨24, _⟩ => ⟨S8x4x4x4096x4352, .f32⟩
  | .hbm, ⟨25, _⟩ => ⟨S_, .f32⟩
  | .hbm, ⟨26, _⟩ => ⟨S8x4x4x4096, .f32⟩
  | .hbm, ⟨27, _⟩ => ⟨S8x4x4x4096x1, .f32⟩
  | .hbm, ⟨28, _⟩ => ⟨S8x4x4x4096x4352, .f32⟩
  | .hbm, ⟨29, _⟩ => ⟨S8x4x4x4096x4352, .f32⟩
  | .hbm, ⟨30, _⟩ => ⟨S8x4x128x4x4096, .f32⟩
  | .hbm, ⟨31, _⟩ => ⟨S8x4096x4x4x128, .f32⟩
  | .hbm, ⟨32, _⟩ => ⟨S8x4096x2048, .f32⟩
  | .hbm, ⟨33, _⟩ => ⟨S8x4096x2048, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048 : Shape := ⟨1, ![2048]⟩
abbrev S8x1x2048 : Shape := ⟨3, ![8, 1, 2048]⟩
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S1x2048 : Shape := ⟨2, ![1, 2048]⟩
abbrev S8x4096x5632 : Shape := ⟨3, ![8, 4096, 5632]⟩
abbrev S1x1024x2048 : Shape := ⟨3, ![1, 1024, 2048]⟩
abbrev S1x16x2048 : Shape := ⟨3, ![1, 16, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S1x1024x512 : Shape := ⟨3, ![1, 1024, 512]⟩
abbrev S1056x2048 : Shape := ⟨2, ![1056, 2048]⟩
abbrev S1024x2048 : Shape := ⟨2, ![1024, 2048]⟩
abbrev S1024 : Shape := ⟨1, ![1024]⟩
abbrev S1024x1 : Shape := ⟨2, ![1024, 1]⟩
abbrev S1x128x2048 : Shape := ⟨3, ![1, 128, 2048]⟩
abbrev S128x2048 : Shape := ⟨2, ![128, 2048]⟩
abbrev S128x1 : Shape := ⟨2, ![128, 1]⟩
abbrev S16x2048 : Shape := ⟨2, ![16, 2048]⟩
abbrev S16 : Shape := ⟨1, ![16]⟩
abbrev S16x1 : Shape := ⟨2, ![16, 1]⟩
abbrev S1056x512 : Shape := ⟨2, ![1056, 512]⟩
abbrev S1024x512 : Shape := ⟨2, ![1024, 512]⟩

abbrev nBuf : Space → Nat
  | .hbm => 11
  | .vmem => 26
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x11264, .f32⟩
  | .hbm, ⟨5, _⟩ => ⟨S3x11264, .f32⟩
  | .hbm, ⟨6, _⟩ => ⟨S11264, .f32⟩
  | .hbm, ⟨7, _⟩ => ⟨S2048x11264, .bf16⟩
  | .hbm, ⟨8, _⟩ => ⟨S1x11264, .f32⟩
  | .hbm, ⟨9, _⟩ => ⟨S1x2048, .f32⟩
  | .hbm, ⟨10, _⟩ => ⟨S8x4096x5632, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S3x512, .f32⟩
  | .local _ .vmem, ⟨16, _⟩ => ⟨S3x512, .f32⟩
  | .local _ .vmem, ⟨17, _⟩ => ⟨S1x512, .f32⟩
  | .local _ .vmem, ⟨18, _⟩ => ⟨S1x512, .f32⟩
  | .local _ .vmem, ⟨19, _⟩ => ⟨S3x512, .f32⟩
  | .local _ .vmem, ⟨20, _⟩ => ⟨S3x512, .f32⟩
  | .local _ .vmem, ⟨21, _⟩ => ⟨S1x512, .f32⟩
  | .local _ .vmem, ⟨22, _⟩ => ⟨S1x512, .f32⟩
  | .local _ .vmem, ⟨23, _⟩ => ⟨S1x1024x512, .bf16⟩
  | .local _ .vmem, ⟨24, _⟩ => ⟨S1x1024x512, .bf16⟩
  | .local _ .vmem, ⟨25, _⟩ => ⟨S1056x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![8, 4, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Reference2Ideal.lean ====
abbrev S8x4096x2048 : Shape := ⟨3, ![8, 4096, 2048]⟩
abbrev S2048 : Shape := ⟨1, ![2048]⟩
abbrev S8x1x2048 : Shape := ⟨3, ![8, 1, 2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x1x11264 : Shape := ⟨3, ![8, 1, 11264]⟩
abbrev S8x4095x11264 : Shape := ⟨3, ![8, 4095, 11264]⟩
abbrev S1x11264 : Shape := ⟨2, ![1, 11264]⟩
abbrev S1x1x11264 : Shape := ⟨3, ![1, 1, 11264]⟩
abbrev S8x4096x5632 : Shape := ⟨3, ![8, 4096, 5632]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x11264, .f32⟩
  | .hbm, ⟨5, _⟩ => ⟨S3x11264, .f32⟩
  | .hbm, ⟨6, _⟩ => ⟨S11264, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x11264, .f32⟩
  | .hbm, ⟨31, _⟩ => ⟨S_, .f32⟩
  | .hbm, ⟨32, _⟩ => ⟨S8x1x11264, .f32⟩
  | .hbm, ⟨33, _⟩ => ⟨S8x4095x11264, .f32⟩
  | .hbm, ⟨34, _⟩ => ⟨S8x4096x11264, .f32⟩
  | .hbm, ⟨35, _⟩ => ⟨S8x4095x11264, .f32⟩
  | .hbm, ⟨36, _⟩ => ⟨S8x4096x11264, .f32⟩
  | .hbm, ⟨37, _⟩ => ⟨S1x11264, .f32⟩
  | .hbm, ⟨38, _⟩ => ⟨S11264, .f32⟩
  | .hbm, ⟨39, _⟩ => ⟨S1x1x11264, .f32⟩
  | .hbm, ⟨40, _⟩ => ⟨S8x4096x11264, .f32⟩
  | .hbm, ⟨41, _⟩ => ⟨S8x4096x11264, .f32⟩
  | .hbm, ⟨42, _⟩ => ⟨S1x11264, .f32⟩
  | .hbm, ⟨43, _⟩ => ⟨S11264, .f32⟩
  | .hbm, ⟨44, _⟩ => ⟨S1x1x11264, .f32⟩
  | .hbm, ⟨45, _⟩ => ⟨S8x4096x11264, .f32⟩
  | .hbm, ⟨46, _⟩ => ⟨S8x4096x11264, .f32⟩
  | .hbm, ⟨47, _⟩ => ⟨S8x4096x11264, .f32⟩
  | .hbm, ⟨48, _⟩ => ⟨S1x11264, .f32⟩
  | .hbm, ⟨49, _⟩ => ⟨S11264, .f32⟩
  | .hbm, ⟨50, _⟩ => ⟨S1x1x11264, .f32⟩
  | .hbm, ⟨51, _⟩ => ⟨S8x4096x11264, .f32⟩
  | .hbm, ⟨52, _⟩ => ⟨S8x4096x11264, .f32⟩
  | .hbm, ⟨53, _⟩ => ⟨S8x4096x11264, .f32⟩
  | .hbm, ⟨54, _⟩ => ⟨S1x1x11264, .f32⟩
  | .hbm, ⟨55, _⟩ => ⟨S8x4096x11264, .f32⟩
  | .hbm, ⟨56, _⟩ => ⟨S8x4096x11264, .f32⟩
  | .hbm, ⟨57, _⟩ => ⟨S8x4096x5632, .f32⟩
  | .hbm, ⟨58, _⟩ => ⟨S8x4096x5632, .f32⟩
  | .hbm, ⟨59, _⟩ => ⟨S8x4096x5632, .f32⟩
  | .hbm, ⟨60, _⟩ => ⟨S8x4096x5632, .f32⟩
  | .hbm, ⟨61, _⟩ => ⟨S_, .f32⟩
  | .hbm, ⟨62, _⟩ => ⟨S8x4096x5632, .f32⟩
  | .hbm, ⟨63, _⟩ => ⟨S8x4096x5632, .f32⟩
  | .hbm, ⟨64, _⟩ => ⟨S_, .f32⟩
  | .hbm, ⟨65, _⟩ => ⟨S8x4096x5632, .f32⟩
  | .hbm, ⟨66, _⟩ => ⟨S8x4096x5632, .f32⟩
  | .hbm, ⟨67, _⟩ => ⟨S8x4096x5632, .f32⟩
  | .hbm, ⟨68, _⟩ => ⟨S8x4096x5632, .f32⟩
  | .hbm, ⟨69, _⟩ => ⟨S8x4096x5632, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Kernel3.lean ====
abbrev S8x4096x5632 : Shape := ⟨3, ![8, 4096, 5632]⟩
abbrev S5632x2048 : Shape := ⟨2, ![5632, 2048]⟩
abbrev S8x4096x2048 : Shape := ⟨3, ![8, 4096, 2048]⟩
abbrev S8x1x2048 : Shape := ⟨3, ![8, 1, 2048]⟩
abbrev S2048 : Shape := ⟨1, ![2048]⟩
abbrev S1x2048 : Shape := ⟨2, ![1, 2048]⟩
abbrev S1x512x5632 : Shape := ⟨3, ![1, 512, 5632]⟩
abbrev S5632x512 : Shape := ⟨2, ![5632, 512]⟩
abbrev S1x512x2048 : Shape := ⟨3, ![1, 512, 2048]⟩
abbrev S1x1x2048 : Shape := ⟨3, ![1, 1, 2048]⟩
abbrev S4x512x512 : Shape := ⟨3, ![4, 512, 512]⟩
abbrev S512x5632 : Shape := ⟨2, ![512, 5632]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x5632, .bf16⟩
  | .hbm, ⟨1, _⟩ => ⟨S5632x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S8x4096x2048, .f32⟩
  | .local _ .vmem, ⟨0, _⟩ => ⟨S1x512x5632, .bf16⟩
  | .local _ .vmem, ⟨1, _⟩ => ⟨S1x512x5632, .bf16⟩
  | .local _ .vmem, ⟨2, _⟩ => ⟨S5632x512, .bf16⟩
  | .local _ .vmem, ⟨3, _⟩ => ⟨S5632x512, .bf16⟩
  | .local _ .vmem, ⟨4, _⟩ => ⟨S1x512x2048, .f32⟩
  | .local _ .vmem, ⟨5, _⟩ => ⟨S1x512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | .local _ .vmem, ⟨11, _⟩ => ⟨S4x512x512, .f32⟩
  | _, _ => ⟨S8x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 4], ![false, false, false]⟩

def k0_off1 (i : grid0.Coords) : Fin 3 → Nat :=
  let arg2 : BitVec 32 := BitVec.ofNat 32 (i 2).val
  let v5 : Index := Scalar.indexCast arg2
  let c0_4 : Index := 0#32
  let c0_5 : Index := 0#32
  ![v5.toNat, 0, 0]
def k0_cond1 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32 : BitVec 32 := 0#32
  let v11 : BitVec 1 := Scalar.cmpi .ne v10 c0_i32
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S8x4096x5632 : Shape := ⟨3, ![8, 4096, 5632]⟩
abbrev S5632x2048 : Shape := ⟨2, ![5632, 2048]⟩
abbrev S8x4096x2048 : Shape := ⟨3, ![8, 4096, 2048]⟩
abbrev S8x1x2048 : Shape := ⟨3, ![8, 1, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x5632, .bf16⟩
  | .hbm, ⟨1, _⟩ => ⟨S5632x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S8x4096x5632, .f32⟩
  | .hbm, ⟨6, _⟩ => ⟨S8x4096x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | _, _ => ⟨S8x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S8x4096x2048 : Shape := ⟨3, ![8, 4096, 2048]⟩
abbrev S2048 : Shape := ⟨1, ![2048]⟩
abbrev S8x1x2048 : Shape := ⟨3, ![8, 1, 2048]⟩
abbrev S2048x10368 : Shape := ⟨2, ![2048, 10368]⟩
abbrev S3x6144 : Shape := ⟨2, ![3, 6144]⟩
abbrev S6144 : Shape := ⟨1, ![6144]⟩
abbrev S2048x6144 : Shape := ⟨2, ![2048, 6144]⟩
abbrev S1x6144 : Shape := ⟨2, ![1, 6144]⟩
abbrev S1x2048 : Shape := ⟨2, ![1, 2048]⟩
abbrev S8x4096x6144 : Shape := ⟨3, ![8, 4096, 6144]⟩
abbrev S1x1024x2048 : Shape := ⟨3, ![1, 1024, 2048]⟩
abbrev S1x16x2048 : Shape := ⟨3, ![1, 16, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S1x1024x512 : Shape := ⟨3, ![1, 1024, 512]⟩
abbrev S1056x2048 : Shape := ⟨2, ![1056, 2048]⟩
abbrev S1024x2048 : Shape := ⟨2, ![1024, 2048]⟩
abbrev S1024 : Shape := ⟨1, ![1024]⟩
abbrev S1024x1 : Shape := ⟨2, ![1024, 1]⟩
abbrev S1x128x2048 : Shape := ⟨3, ![1, 128, 2048]⟩
abbrev S128x2048 : Shape := ⟨2, ![128, 2048]⟩
abbrev S128x1 : Shape := ⟨2, ![128, 1]⟩
abbrev S16x2048 : Shape := ⟨2, ![16, 2048]⟩
abbrev S16 : Shape := ⟨1, ![16]⟩
abbrev S16x1 : Shape := ⟨2, ![16, 1]⟩
abbrev S1056x512 : Shape := ⟨2, ![1056, 512]⟩
abbrev S1024x512 : Shape := ⟨2, ![1024, 512]⟩

abbrev nBuf : Space → Nat
  | .hbm => 12
  | .vmem => 20
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x10368, .f32⟩
  | .hbm, ⟨5, _⟩ => ⟨S3x6144, .f32⟩
  | .hbm, ⟨6, _⟩ => ⟨S6144, .f32⟩
  | .hbm, ⟨7, _⟩ => ⟨S2048x6144, .f32⟩
  | .hbm, ⟨8, _⟩ => ⟨S2048x6144, .bf16⟩
  | .hbm, ⟨9, _⟩ => ⟨S1x6144, .f32⟩
  | .hbm, ⟨10, _⟩ => ⟨S1x2048, .f32⟩
  | .hbm, ⟨11, _⟩ => ⟨S8x4096x6144, .f32⟩
  | .local _ .vmem, ⟨0, _⟩ => ⟨S1x1024x2048, .f32⟩
  | .local _ .vmem, ⟨1, _⟩ => ⟨S1x1024x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S2048x512, .bf16⟩
  | .local _ .vmem, ⟨12, _⟩ => ⟨S2048x512, .bf16⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S1x1024x512, .f32⟩
  | .local _ .vmem, ⟨18, _⟩ => ⟨S1x1024x512, .f32⟩
  | .local _ .vmem, ⟨19, _⟩ => ⟨S1056x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 4, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference4Ideal.lean ====
abbrev S8x4096x2048 : Shape := ⟨3, ![8, 4096, 2048]⟩
abbrev S2048 : Shape := ⟨1, ![2048]⟩
abbrev S8x1x2048 : Shape := ⟨3, ![8, 1, 2048]⟩
abbrev S2048x10368 : Shape := ⟨2, ![2048, 10368]⟩
abbrev S3x6144 : Shape := ⟨2, ![3, 6144]⟩
abbrev S6144 : Shape := ⟨1, ![6144]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x6144 : Shape := ⟨2, ![2048, 6144]⟩
abbrev S8x4096x6144 : Shape := ⟨3, ![8, 4096, 6144]⟩
abbrev S8x1x6144 : Shape := ⟨3, ![8, 1, 6144]⟩
abbrev S8x4095x6144 : Shape := ⟨3, ![8, 4095, 6144]⟩
abbrev S1x6144 : Shape := ⟨2, ![1, 6144]⟩
abbrev S1x1x6144 : Shape := ⟨3, ![1, 1, 6144]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x10368, .f32⟩
  | .hbm, ⟨5, _⟩ => ⟨S3x6144, .f32⟩
  | .hbm, ⟨6, _⟩ => ⟨S6144, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S2048x6144, .f32⟩
  | .hbm, ⟨31, _⟩ => ⟨S8x4096x6144, .f32⟩
  | .hbm, ⟨32, _⟩ => ⟨S_, .f32⟩
  | .hbm, ⟨33, _⟩ => ⟨S8x1x6144, .f32⟩
  | .hbm, ⟨34, _⟩ => ⟨S8x4095x6144, .f32⟩
  | .hbm, ⟨35, _⟩ => ⟨S8x4096x6144, .f32⟩
  | .hbm, ⟨36, _⟩ => ⟨S8x4095x6144, .f32⟩
  | .hbm, ⟨37, _⟩ => ⟨S8x4096x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S8x4096x6144, .f32⟩
  | .hbm, ⟨42, _⟩ => ⟨S8x4096x6144, .f32⟩
  | .hbm, ⟨43, _⟩ => ⟨S1x6144, .f32⟩
  | .hbm, ⟨44, _⟩ => ⟨S6144, .f32⟩
  | .hbm, ⟨45, _⟩ => ⟨S1x1x6144, .f32⟩
  | .hbm, ⟨46, _⟩ => ⟨S8x4096x6144, .f32⟩
  | .hbm, ⟨47, _⟩ => ⟨S8x4096x6144, .f32⟩
  | .hbm, ⟨48, _⟩ => ⟨S8x4096x6144, .f32⟩
  | .hbm, ⟨49, _⟩ => ⟨S1x6144, .f32⟩
  | .hbm, ⟨50, _⟩ => ⟨S6144, .f32⟩
  | .hbm, ⟨51, _⟩ => ⟨S1x1x6144, .f32⟩
  | .hbm, ⟨52, _⟩ => ⟨S8x4096x6144, .f32⟩
  | .hbm, ⟨53, _⟩ => ⟨S8x4096x6144, .f32⟩
  | .hbm, ⟨54, _⟩ => ⟨S8x4096x6144, .f32⟩
  | .hbm, ⟨55, _⟩ => ⟨S1x1x6144, .f32⟩
  | .hbm, ⟨56, _⟩ => ⟨S8x4096x6144, .f32⟩
  | .hbm, ⟨57, _⟩ => ⟨S8x4096x6144, .f32⟩
  | .hbm, ⟨58, _⟩ => ⟨S8x4096x6144, .f32⟩
  | .hbm, ⟨59, _⟩ => ⟨S8x4096x6144, .f32⟩
  | .hbm, ⟨60, _⟩ => ⟨S_, .f32⟩
  | .hbm, ⟨61, _⟩ => ⟨S8x4096x6144, .f32⟩
  | .hbm, ⟨62, _⟩ => ⟨S8x4096x6144, .f32⟩
  | .hbm, ⟨63, _⟩ => ⟨S_, .f32⟩
  | .hbm, ⟨64, _⟩ => ⟨S8x4096x6144, .f32⟩
  | .hbm, ⟨65, _⟩ => ⟨S8x4096x6144, .f32⟩
  | .hbm, ⟨66, _⟩ => ⟨S8x4096x6144, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel5.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S8x1x2048 : Shape := ⟨3, ![8, 1, 2048]⟩
abbrev S2048 : Shape := ⟨1, ![2048]⟩
abbrev S1x2048 : Shape := ⟨2, ![1, 2048]⟩
abbrev S1x512x4096 : Shape := ⟨3, ![1, 512, 4096]⟩
abbrev S4096x512 : Shape := ⟨2, ![4096, 512]⟩
abbrev S1x512x2048 : Shape := ⟨3, ![1, 512, 2048]⟩
abbrev S1x1x2048 : Shape := ⟨3, ![1, 1, 2048]⟩
abbrev S4x512x512 : Shape := ⟨3, ![4, 512, 512]⟩
abbrev S512x4096 : Shape := ⟨2, ![512, 4096]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x4096, .bf16⟩
  | .hbm, ⟨1, _⟩ => ⟨S4096x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S4096x2048, .bf16⟩
  | .hbm, ⟨6, _⟩ => ⟨S1x2048, .f32⟩
  | .hbm, ⟨7, _⟩ => ⟨S8x4096x2048, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512x2048, .f32⟩
  | .local _ .vmem, ⟨5, _⟩ => ⟨S1x512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | .local _ .vmem, ⟨11, _⟩ => ⟨S4x512x512, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 4], ![false, false, false]⟩

def k0_off1 (i : grid0.Coords) : Fin 3 → Nat :=
  let arg2 : BitVec 32 := BitVec.ofNat 32 (i 2).val
  let v5 : Index := Scalar.indexCast arg2
  let c0_4 : Index := 0#32
  let c0_5 : Index := 0#32
  ![v5.toNat, 0, 0]
def k0_cond1 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32 : BitVec 32 := 0#32
  let v11 : BitVec 1 := Scalar.cmpi .ne v10 c0_i32
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S8x1x2048 : Shape := ⟨3, ![8, 1, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S4096x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S8x4096x4096, .f32⟩
  | .hbm, ⟨6, _⟩ => ⟨S8x4096x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel6.lean ====
abbrev S8x4096x2048 : Shape := ⟨3, ![8, 4096, 2048]⟩
abbrev S2048x2048 : Shape := ⟨2, ![2048, 2048]⟩
abbrev S8x1x2048 : Shape := ⟨3, ![8, 1, 2048]⟩
abbrev S2048 : Shape := ⟨1, ![2048]⟩
abbrev S1x2048 : Shape := ⟨2, ![1, 2048]⟩
abbrev S1x512x2048 : Shape := ⟨3, ![1, 512, 2048]⟩
abbrev S2048x512 : Shape := ⟨2, ![2048, 512]⟩
abbrev S1x1x2048 : Shape := ⟨3, ![1, 1, 2048]⟩
abbrev S4x512x512 : Shape := ⟨3, ![4, 512, 512]⟩
abbrev S512x2048 : Shape := ⟨2, ![512, 2048]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S8x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512x2048, .f32⟩
  | .local _ .vmem, ⟨5, _⟩ => ⟨S1x512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | .local _ .vmem, ⟨11, _⟩ => ⟨S4x512x512, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 4], ![false, false, false]⟩

def k0_off1 (i : grid0.Coords) : Fin 3 → Nat :=
  let arg2 : BitVec 32 := BitVec.ofNat 32 (i 2).val
  let v5 : Index := Scalar.indexCast arg2
  let c0_4 : Index := 0#32
  let c0_5 : Index := 0#32
  ![v5.toNat, 0, 0]
def k0_cond1 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32 : BitVec 32 := 0#32
  let v11 : BitVec 1 := Scalar.cmpi .ne v10 c0_i32
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S8x4096x2048 : Shape := ⟨3, ![8, 4096, 2048]⟩
abbrev S2048x2048 : Shape := ⟨2, ![2048, 2048]⟩
abbrev S8x1x2048 : Shape := ⟨3, ![8, 1, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel7.lean ====
abbrev S8x4096x2048 : Shape := ⟨3, ![8, 4096, 2048]⟩
abbrev S2048 : Shape := ⟨1, ![2048]⟩
abbrev S8x1x2048 : Shape := ⟨3, ![8, 1, 2048]⟩
abbrev S2048x10368 : Shape := ⟨2, ![2048, 10368]⟩
abbrev S2048x4096 : Shape := ⟨2, ![2048, 4096]⟩
abbrev S1x2048 : Shape := ⟨2, ![1, 2048]⟩
abbrev S8x4096x4096 : Shape := ⟨3, ![8, 4096, 4096]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1024 : Shape := ⟨1, ![1024]⟩
abbrev S1024x1 : Shape := ⟨2, ![1024, 1]⟩
abbrev S1x128x2048 : Shape := ⟨3, ![1, 128, 2048]⟩
abbrev S128x2048 : Shape := ⟨2, ![128, 2048]⟩
abbrev S128x1 : Shape := ⟨2, ![128, 1]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x10368, .f32⟩
  | .hbm, ⟨5, _⟩ => ⟨S2048x4096, .f32⟩
  | .hbm, ⟨6, _⟩ => ⟨S2048x4096, .bf16⟩
  | .hbm, ⟨7, _⟩ => ⟨S1x2048, .f32⟩
  | .hbm, ⟨8, _⟩ => ⟨S8x4096x4096, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .f32⟩
  | .local _ .vmem, ⟨10, _⟩ => ⟨S1x1024x512, .f32⟩
  | .local _ .vmem, ⟨11, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference7Ideal.lean ====
abbrev S8x4096x2048 : Shape := ⟨3, ![8, 4096, 2048]⟩
abbrev S2048 : Shape := ⟨1, ![2048]⟩
abbrev S8x1x2048 : Shape := ⟨3, ![8, 1, 2048]⟩
abbrev S2048x10368 : Shape := ⟨2, ![2048, 10368]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x4096 : Shape := ⟨2, ![2048, 4096]⟩
abbrev S8x4096x4096 : Shape := ⟨3, ![8, 4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x10368, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S2048x4096, .f32⟩
  | .hbm, ⟨29, _⟩ => ⟨S8x4096x4096, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel8.lean ====
abbrev S8x4096x2048 : Shape := ⟨3, ![8, 4096, 2048]⟩
abbrev S2048 : Shape := ⟨1, ![2048]⟩
abbrev S8x1x2048 : Shape := ⟨3, ![8, 1, 2048]⟩
abbrev S2048x4096 : Shape := ⟨2, ![2048, 4096]⟩
abbrev S1x2048 : Shape := ⟨2, ![1, 2048]⟩
abbrev S2x8x2048x4096 : Shape := ⟨4, ![2, 8, 2048, 4096]⟩
abbrev S1x1024x2048 : Shape := ⟨3, ![1, 1024, 2048]⟩
abbrev S1x1x2048 : Shape := ⟨3, ![1, 1, 2048]⟩
abbrev S2048x512 : Shape := ⟨2, ![2048, 512]⟩
abbrev S2x1x512x512 : Shape := ⟨4, ![2, 1, 512, 512]⟩
abbrev S1024x2048 : Shape := ⟨2, ![1024, 2048]⟩
abbrev S1x4x1024x128 : Shape := ⟨4, ![1, 4, 1024, 128]⟩
abbrev S1024 : Shape := ⟨1, ![1024]⟩
abbrev S1024x1 : Shape := ⟨2, ![1024, 1]⟩
abbrev S1x128x2048 : Shape := ⟨3, ![1, 128, 2048]⟩
abbrev S128x2048 : Shape := ⟨2, ![128, 2048]⟩
abbrev S128x1 : Shape := ⟨2, ![128, 1]⟩
abbrev S1024x512 : Shape := ⟨2, ![1024, 512]⟩
abbrev S1024x128 : Shape := ⟨2, ![1024, 128]⟩
abbrev S1x1x1024x128 : Shape := ⟨4, ![1, 1, 1024, 128]⟩
abbrev S1x1x512x128 : Shape := ⟨4, ![1, 1, 512, 128]⟩
abbrev S512x128 : Shape := ⟨2, ![512, 128]⟩
abbrev S512x512 : Shape := ⟨2, ![512, 512]⟩
abbrev S1x1x512x512 : Shape := ⟨4, ![1, 1, 512, 512]⟩
abbrev S1x512x512 : Shape := ⟨3, ![1, 512, 512]⟩

abbrev nBuf : Space → Nat
  | .hbm => 7
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x4096, .bf16⟩
  | .hbm, ⟨5, _⟩ => ⟨S1x2048, .f32⟩
  | .hbm, ⟨6, _⟩ => ⟨S2x8x2048x4096, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2x1x512x512, .bf16⟩
  | .local _ .vmem, ⟨10, _⟩ => ⟨S2x1x512x512, .bf16⟩
  | .local _ .vmem, ⟨11, _⟩ => ⟨S1024x2048, .bf16⟩
  | .local _ .vmem, ⟨12, _⟩ => ⟨S1x4x1024x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2x1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference8Ideal.lean ====
abbrev S8x4096x2048 : Shape := ⟨3, ![8, 4096, 2048]⟩
abbrev S2048 : Shape := ⟨1, ![2048]⟩
abbrev S8x1x2048 : Shape := ⟨3, ![8, 1, 2048]⟩
abbrev S2048x4096 : Shape := ⟨2, ![2048, 4096]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x4096 : Shape := ⟨3, ![8, 4096, 4096]⟩
abbrev S8x2048x2x4096 : Shape := ⟨4, ![8, 2048, 2, 4096]⟩
abbrev S2x8x2048x4096 : Shape := ⟨4, ![2, 8, 2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x4096, .bf16⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S2048x4096, .f32⟩
  | .hbm, ⟨29, _⟩ => ⟨S8x4096x4096, .f32⟩
  | .hbm, ⟨30, _⟩ => ⟨S8x2048x2x4096, .f32⟩
  | .hbm, ⟨31, _⟩ => ⟨S2x8x2048x4096, .f32⟩
  | .hbm, ⟨32, _⟩ => ⟨S2x8x2048x4096, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel9.lean ====
abbrev S8x4096x2048 : Shape := ⟨3, ![8, 4096, 2048]⟩
abbrev S2048 : Shape := ⟨1, ![2048]⟩
abbrev S8x1x2048 : Shape := ⟨3, ![8, 1, 2048]⟩
abbrev S2048x6144 : Shape := ⟨2, ![2048, 6144]⟩
abbrev S3x6144 : Shape := ⟨2, ![3, 6144]⟩
abbrev S6144 : Shape := ⟨1, ![6144]⟩
abbrev S1x6144 : Shape := ⟨2, ![1, 6144]⟩
abbrev S1x2048 : Shape := ⟨2, ![1, 2048]⟩
abbrev S2x8x2048x6144 : Shape := ⟨4, ![2, 8, 2048, 6144]⟩
abbrev S1x1024x2048 : Shape := ⟨3, ![1, 1024, 2048]⟩
abbrev S1x16x2048 : Shape := ⟨3, ![1, 16, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S2x1x512x512 : Shape := ⟨4, ![2, 1, 512, 512]⟩
abbrev S1056x2048 : Shape := ⟨2, ![1056, 2048]⟩
abbrev S1x4x1056x128 : Shape := ⟨4, ![1, 4, 1056, 128]⟩
abbrev S1024x2048 : Shape := ⟨2, ![1024, 2048]⟩
abbrev S1024 : Shape := ⟨1, ![1024]⟩
abbrev S1024x1 : Shape := ⟨2, ![1024, 1]⟩
abbrev S1x128x2048 : Shape := ⟨3, ![1, 128, 2048]⟩
abbrev S128x2048 : Shape := ⟨2, ![128, 2048]⟩
abbrev S128x1 : Shape := ⟨2, ![128, 1]⟩
abbrev S16x2048 : Shape := ⟨2, ![16, 2048]⟩
abbrev S16 : Shape := ⟨1, ![16]⟩
abbrev S16x1 : Shape := ⟨2, ![16, 1]⟩
abbrev S1056x512 : Shape := ⟨2, ![1056, 512]⟩
abbrev S1056x128 : Shape := ⟨2, ![1056, 128]⟩
abbrev S1x1x1056x128 : Shape := ⟨4, ![1, 1, 1056, 128]⟩
abbrev S3x128 : Shape := ⟨2, ![3, 128]⟩
abbrev S1x128 : Shape := ⟨2, ![1, 128]⟩
abbrev S1x1x512x128 : Shape := ⟨4, ![1, 1, 512, 128]⟩
abbrev S512x128 : Shape := ⟨2, ![512, 128]⟩
abbrev S512x512 : Shape := ⟨2, ![512, 512]⟩
abbrev S1x1x512x512 : Shape := ⟨4, ![1, 1, 512, 512]⟩
abbrev S1x512x512 : Shape := ⟨3, ![1, 512, 512]⟩

abbrev nBuf : Space → Nat
  | .hbm => 12
  | .vmem => 23
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x6144, .f32⟩
  | .hbm, ⟨5, _⟩ => ⟨S3x6144, .f32⟩
  | .hbm, ⟨6, _⟩ => ⟨S6144, .f32⟩
  | .hbm, ⟨7, _⟩ => ⟨S2048x6144, .bf16⟩
  | .hbm, ⟨8, _⟩ => ⟨S1x6144, .f32⟩
  | .hbm, ⟨9, _⟩ => ⟨S1x2048, .f32⟩
  | .hbm, ⟨10, _⟩ => ⟨S2x8x2048x6144, .f32⟩
  | .hbm, ⟨11, _⟩ => ⟨S2x8x2048x6144, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S2048x512, .bf16⟩
  | .local _ .vmem, ⟨12, _⟩ => ⟨S2048x512, .bf16⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S2x1x512x512, .f32⟩
  | .local _ .vmem, ⟨18, _⟩ => ⟨S2x1x512x512, .f32⟩
  | .local _ .vmem, ⟨19, _⟩ => ⟨S2x1x512x512, .bf16⟩
  | .local _ .vmem, ⟨20, _⟩ => ⟨S2x1x512x512, .bf16⟩
  | .local _ .vmem, ⟨21, _⟩ => ⟨S1056x2048, .bf16⟩
  | .local _ .vmem, ⟨22, _⟩ => ⟨S1x4x1056x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 4, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S2x1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2x1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference9Ideal.lean ====
abbrev S8x4096x2048 : Shape := ⟨3, ![8, 4096, 2048]⟩
abbrev S2048 : Shape := ⟨1, ![2048]⟩
abbrev S8x1x2048 : Shape := ⟨3, ![8, 1, 2048]⟩
abbrev S2048x6144 : Shape := ⟨2, ![2048, 6144]⟩
abbrev S3x6144 : Shape := ⟨2, ![3, 6144]⟩
abbrev S6144 : Shape := ⟨1, ![6144]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6144 : Shape := ⟨3, ![8, 4096, 6144]⟩
abbrev S8x1x6144 : Shape := ⟨3, ![8, 1, 6144]⟩
abbrev S8x4095x6144 : Shape := ⟨3, ![8, 4095, 6144]⟩
abbrev S1x6144 : Shape := ⟨2, ![1, 6144]⟩
abbrev S1x1x6144 : Shape := ⟨3, ![1, 1, 6144]⟩
abbrev S8x2048x2x6144 : Shape := ⟨4, ![8, 2048, 2, 6144]⟩
abbrev S2x8x2048x6144 : Shape := ⟨4, ![2, 8, 2048, 6144]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x6144, .f32⟩
  | .hbm, ⟨5, _⟩ => ⟨S3x6144, .f32⟩
  | .hbm, ⟨6, _⟩ => ⟨S6144, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S8x4096x6144, .f32⟩
  | .hbm, ⟨31, _⟩ => ⟨S_, .f32⟩
  | .hbm, ⟨32, _⟩ => ⟨S8x1x6144, .f32⟩
  | .hbm, ⟨33, _⟩ => ⟨S8x4095x6144, .f32⟩
  | .hbm, ⟨34, _⟩ => ⟨S8x4096x6144, .f32⟩
  | .hbm, ⟨35, _⟩ => ⟨S8x4095x6144, .f32⟩
  | .hbm, ⟨36, _⟩ => ⟨S8x4096x6144, .f32⟩
  | .hbm, ⟨37, _⟩ => ⟨S1x6144, .f32⟩
  | .hbm, ⟨38, _⟩ => ⟨S6144, .f32⟩
  | .hbm, ⟨39, _⟩ => ⟨S1x1x6144, .f32⟩
  | .hbm, ⟨40, _⟩ => ⟨S8x4096x6144, .f32⟩
  | .hbm, ⟨41, _⟩ => ⟨S8x4096x6144, .f32⟩
  | .hbm, ⟨42, _⟩ => ⟨S1x6144, .f32⟩
  | .hbm, ⟨43, _⟩ => ⟨S6144, .f32⟩
  | .hbm, ⟨44, _⟩ => ⟨S1x1x6144, .f32⟩
  | .hbm, ⟨45, _⟩ => ⟨S8x4096x6144, .f32⟩
  | .hbm, ⟨46, _⟩ => ⟨S8x4096x6144, .f32⟩
  | .hbm, ⟨47, _⟩ => ⟨S8x4096x6144, .f32⟩
  | .hbm, ⟨48, _⟩ => ⟨S1x6144, .f32⟩
  | .hbm, ⟨49, _⟩ => ⟨S6144, .f32⟩
  | .hbm, ⟨50, _⟩ => ⟨S1x1x6144, .f32⟩
  | .hbm, ⟨51, _⟩ => ⟨S8x4096x6144, .f32⟩
  | .hbm, ⟨52, _⟩ => ⟨S8x4096x6144, .f32⟩
  | .hbm, ⟨53, _⟩ => ⟨S8x4096x6144, .f32⟩
  | .hbm, ⟨54, _⟩ => ⟨S1x1x6144, .f32⟩
  | .hbm, ⟨55, _⟩ => ⟨S8x4096x6144, .f32⟩
  | .hbm, ⟨56, _⟩ => ⟨S8x4096x6144, .f32⟩
  | .hbm, ⟨57, _⟩ => ⟨S8x2048x2x6144, .f32⟩
  | .hbm, ⟨58, _⟩ => ⟨S2x8x2048x6144, .f32⟩
  | .hbm, ⟨59, _⟩ => ⟨S2x8x2048x6144, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel10.lean ====
abbrev S8x4096x2048 : Shape := ⟨3, ![8, 4096, 2048]⟩
abbrev S2048x2048 : Shape := ⟨2, ![2048, 2048]⟩
abbrev S8x1x2048 : Shape := ⟨3, ![8, 1, 2048]⟩
abbrev S2048 : Shape := ⟨1, ![2048]⟩
abbrev S1x2048 : Shape := ⟨2, ![1, 2048]⟩
abbrev S1x512x2048 : Shape := ⟨3, ![1, 512, 2048]⟩
abbrev S2048x512 : Shape := ⟨2, ![2048, 512]⟩
abbrev S1x1x2048 : Shape := ⟨3, ![1, 1, 2048]⟩
abbrev S4x512x512 : Shape := ⟨3, ![4, 512, 512]⟩
abbrev S512x2048 : Shape := ⟨2, ![512, 2048]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S8x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512x2048, .f32⟩
  | .local _ .vmem, ⟨5, _⟩ => ⟨S1x512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | .local _ .vmem, ⟨11, _⟩ => ⟨S4x512x512, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 4], ![false, false, false]⟩

def k0_off1 (i : grid0.Coords) : Fin 3 → Nat :=
  let arg2 : BitVec 32 := BitVec.ofNat 32 (i 2).val
  let v5 : Index := Scalar.indexCast arg2
  let c0_4 : Index := 0#32
  let c0_5 : Index := 0#32
  ![v5.toNat, 0, 0]
def k0_cond1 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32 : BitVec 32 := 0#32
  let v11 : BitVec 1 := Scalar.cmpi .ne v10 c0_i32
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S8x4096x2048 : Shape := ⟨3, ![8, 4096, 2048]⟩
abbrev S2048x2048 : Shape := ⟨2, ![2048, 2048]⟩
abbrev S8x1x2048 : Shape := ⟨3, ![8, 1, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Attn.Softmax.lean ====
/-
  Weighted sums of a softmax, over the extended reals.

  A row of attention is a quotient of two sums over the keys, `∑ exp(s j - M) * v j` over `∑ exp(s j - M)`, where `M` is any
  real number that is subtracted from the scores for safety. When the scores `s j` are real, changing `M` multiplies both sums by the same
  positive real (`wsum_shift`), so a running computation may change `M` from one chunk of keys to the next (`wsum_step`),
  and the quotient does not depend on `M` (`softmax_eq`). The values `v j` may be any extended reals.
-/
module

public import Idealize.ShloMosaic.PureOps
public import Idealize.ShloMosaic.PureOps.Ideal.Laws

@[expose] public section

noncomputable section

namespace Attn

open Idealize.ShloMosaic

/-! ## Finite extended reals -/

/-- An extended real that is neither infinity. -/
def IsReal (x : EReal) : Prop := ∃ r : ℝ, x = (r : EReal)

theorem IsReal.coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (S : Finset ι) {f : ι → EReal} (h : ∀ i, IsReal (f i)) : IsReal (∑ i ∈ S, f i) := by
  classical
  induction S using Finset.induction_on with
  | empty => exact ⟨0, by simp⟩
  | insert a S ha ih =>
    obtain ⟨x, hx⟩ := h a
    obtain ⟨y, hy⟩ := ih
    exact ⟨x + y, by rw [Finset.sum_insert ha, hx, hy, EReal.coe_add]⟩

theorem IsReal.of_max_neg_lt {x : EReal} (h : Max.max x (-x) < ⊤) : IsReal x := by
  induction x with
  | bot => simp at h
  | top => simp at h
  | coe r => exact ⟨r, rfl⟩

/-- A fold of `max` from `-∞` over a nonempty family of finite numbers is finite. -/
theorem IsReal.fold_max {n : ℕ} {f : Fin (n + 1) → EReal} (h : ∀ i, IsReal (f i)) :
    IsReal ((Finset.univ : Finset (Fin (n + 1))).fold Max.max ⊥ f) := by
  classical
  have key : ∀ S : Finset (Fin (n + 1)), S.Nonempty → IsReal (S.fold Max.max ⊥ f) := by
    intro S
    induction S using Finset.induction_on with
    | empty => intro hS; exact absurd hS (by simp)
    | insert a S ha ih =>
      intro _
      rw [Finset.fold_insert ha]
      rcases S.eq_empty_or_nonempty with rfl | hS
      · simpa using h a
      · exact (h a).max (ih hS)
  exact key _ ⟨0, Finset.mem_univ _⟩

/-! ## Real nonnegative factors and sums -/

theorem coe_mul_sum {ι : Type*} (S : Finset ι) {r : ℝ} (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, ← ih,
      EReal.left_distrib_of_nonneg_of_ne_top (by exact_mod_cast hr) (EReal.coe_ne_top r)]

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ## The sums -/

variable {ι κ : Type*} [Fintype ι] [Fintype κ]

/-- `∑ exp(s j - M) * v j`. -/
def wsum (s v : ι → EReal) (M : EReal) : EReal := ∑ j, Ideal.exp (s j - M) * v j

/-- `∑ exp(s j - M)`. -/
def esum (s : ι → EReal) (M : EReal) : EReal := ∑ j, Ideal.exp (s j - M)

theorem exp_sub_coe (a b : ℝ) : Ideal.exp ((a : EReal) - (b : EReal)) = ((Real.exp (a - b) : ℝ) : EReal) := by
  rw [← EReal.coe_sub]; rfl

/-- The change of the subtracted number. -/
theorem exp_shift {s M M' : EReal} (hs : IsReal s) (hM : IsReal M) (hM' : IsReal M') :
    Ideal.exp (M - M') * Ideal.exp (s - M) = Ideal.exp (s - M') := by
  obtain ⟨a, rfl⟩ := hs
  obtain ⟨b, rfl⟩ := hM
  obtain ⟨c, rfl⟩ := hM'
  rw [exp_sub_coe, exp_sub_coe, exp_sub_coe, ← EReal.coe_mul, ← Real.exp_add]
  congr 2; ring

theorem wsum_shift {s v : ι → EReal} {M M' : EReal} (hs : ∀ j, IsReal (s j)) (hM : IsReal M) (hM' : IsReal M') :
    Ideal.exp (M - M') * wsum s v M = wsum s v M' := by
  have h : ∃ r : ℝ, 0 ≤ r ∧ Ideal.exp (M - M') = (r : EReal) := by
    obtain ⟨b, rfl⟩ := hM
    obtain ⟨c, rfl⟩ := hM'
    exact ⟨_, (Real.exp_pos _).le, exp_sub_coe b c⟩
  obtain ⟨r, hr, e⟩ := h
  unfold wsum
  rw [e, coe_mul_sum _ hr]
  refine Finset.sum_congr rfl fun j _ => ?_
  rw [← mul_assoc, ← e, exp_shift (hs j) hM hM']

theorem esum_eq_wsum (s : ι → EReal) (M : EReal) : esum s M = wsum s (fun _ => 1) M := by
  unfold esum wsum; simp only [mul_one]

theorem esum_shift {s : ι → EReal} {M M' : EReal} (hs : ∀ j, IsReal (s j)) (hM : IsReal M) (hM' : IsReal M') :
    Ideal.exp (M - M') * esum s M = esum s M' := by
  rw [esum_eq_wsum, esum_eq_wsum, wsum_shift hs hM hM']

/-- Two disjoint groups of keys side by side. -/
theorem wsum_sum (s v : ι → EReal) (s' v' : κ → EReal) (M : EReal) :
    wsum (Sum.elim s s') (Sum.elim v v') M = wsum s v M + wsum s' v' M := by
  unfold wsum; rw [Fintype.sum_sum_type]; rfl

theorem esum_sum (s : ι → EReal) (s' : κ → EReal) (M : EReal) :
    esum (Sum.elim s s') M = esum s M + esum s' M := by
  unfold esum; rw [Fintype.sum_sum_type]; rfl

/-- ONE CHUNK of a running softmax: the sum over the keys seen, brought to the new subtracted number, plus the chunk's. -/
theorem wsum_step {s v : ι → EReal} {s' v' : κ → EReal} {M M' : EReal} (hs : ∀ j, IsReal (s j)) (hM : IsReal M)
    (hM' : IsReal M') :
    Ideal.exp (M - M') * wsum s v M + wsum s' v' M' = wsum (Sum.elim s s') (Sum.elim v v') M' := by
  rw [wsum_sum, wsum_shift hs hM hM']

theorem esum_step {s : ι → EReal} {s' : κ → EReal} {M M' : EReal} (hs : ∀ j, IsReal (s j)) (hM : IsReal M)
    (hM' : IsReal M') :
    Ideal.exp (M - M') * esum s M + esum s' M' = esum (Sum.elim s s') M' := by
  rw [esum_sum, esum_shift hs hM hM']

theorem fin_elim {s : ι → EReal} {s' : κ → EReal} (h : ∀ j, IsReal (s j)) (h' : ∀ j, IsReal (s' j)) :
    ∀ j, IsReal (Sum.elim s s' j) := by
  rintro (j | j)
  · exact h j
  · exact h' j

theorem esum_pos [Nonempty ι] {s : ι → EReal} {M : EReal} (hs : ∀ j, IsReal (s j)) (hM : IsReal M) :
    ∃ r : ℝ, 0 < r ∧ esum s M = (r : EReal) := by
  choose f hf using hs
  obtain ⟨b, rfl⟩ := hM
  refine ⟨∑ j, Real.exp (f j - b), Finset.sum_pos (fun j _ => Real.exp_pos _) Finset.univ_nonempty, ?_⟩
  unfold esum
  rw [coe_sum]
  exact Finset.sum_congr rfl fun j _ => by rw [hf j, exp_sub_coe]

/-- The quotient of the two sums, at one subtracted number, is the sum of the normalised weights times the values, at any
    other; the keys may be listed in another way (`e`). -/
theorem softmax_eq [Nonempty ι] (e : ι ≃ κ) {s v : ι → EReal} {s' v' : κ → EReal} {M M' : EReal} (hs : ∀ j, IsReal (s j))
    (hM : IsReal M) (hM' : IsReal M') (es : ∀ j, s' (e j) = s j) (ev : ∀ j, v' (e j) = v j) :
    Ideal.div (wsum s v M) (esum s M) = ∑ k, Ideal.div (Ideal.exp (s' k - M')) (esum s' M') * v' k := by
  have hE : esum s' M' = esum s M' := by
    unfold esum; rw [← Equiv.sum_comp e]; simp only [es]
  rw [← Equiv.sum_comp e]
  simp only [es, ev, hE]
  rw [← wsum_shift hs hM' hM, ← esum_shift hs hM' hM]
  obtain ⟨l, hl, el⟩ := esum_pos hs hM'
  obtain ⟨b, rfl⟩ := hM
  obtain ⟨c, rfl⟩ := hM'
  rw [el, exp_sub_coe, ← EReal.coe_mul, Ideal.div_coe (mul_pos (Real.exp_pos _) hl).ne']
  simp only [Ideal.div_coe hl.ne']
  unfold wsum
  rw [mul_right_comm, ← EReal.coe_mul, coe_mul_sum _ (by positivity)]
  refine Finset.sum_congr rfl fun j _ => ?_
  rw [← mul_assoc, mul_comm (Ideal.exp _) (((1 / l : ℝ)) : EReal)]
  congr 3
  field_simp

end Attn

end
-- ==== Proof.Attn.Steps.lean ====
/-
  The attention kernel's arithmetic, one operation group at a time, read at one row.

  Each lemma says what one of the kernel's intermediate vectors holds at row `r` (and key `j` or output column `d`), in
  terms of the vectors it is computed from. Nothing is said yet of where those came from.
-/
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Attn

open Cert.KernelIdeal Cert.KernelIdeal.Gen Idealize.ShloMosaic

/-- The largest of a row's entries, `-∞` for an empty row. -/
def rowMax {n : ℕ} (f : Fin n → EReal) : EReal := (Finset.univ : Finset (Fin n)).fold max ⊥ f

theorem ofBits_neg_inf : Ideal.ofBits .f32 0xFF800000#32 = ⊥ := by simp [Ideal.ofBits, Ideal.ieee]

section
variable (q : FVec Ideal S1x512x128 .bf16) (y0 w0 : FVec Ideal S1x256x128 .bf16) (y1 : FVec Ideal S1x1024x128 .bf16)
variable (r : Fin 512)

/-- The score of query row `r` against key `j` of a block of keys. -/
def score {n : ℕ} (q : FVec Ideal S1x512x128 .bf16) (y : FVec Ideal (⟨3, ![1, n, 128]⟩ : Shape) .bf16) (r : Fin 512)
    (j : Fin n) : EReal := ∑ d : Fin 128, q (ix3 (0 : Fin 1) r d) * y (ix3 (0 : Fin 1) j d)

theorem pay3_at (j : Fin 256) : k0_pay3 (F := Ideal) q y0 (ix2 r j) = score q y0 r j := by
  pointwise [k0_pay3, k0_pay2, score]

theorem pay4_at : k0_pay4 (F := Ideal) q y0 (ix2 r (0 : Fin 1)) = rowMax fun j => score q y0 r j := by
  pointwise [k0_pay4, pay3_at]
  rw [ofBits_neg_inf]; rfl

theorem pay5_at (j : Fin 256) :
    k0_pay5 (F := Ideal) q y0 (ix2 r j) = Ideal.exp (score q y0 r j - rowMax fun j => score q y0 r j) := by
  pointwise [k0_pay5, pay3_at, pay4_at]

theorem pay6_at : k0_pay6 (F := Ideal) q y0 (ix2 r (0 : Fin 1)) = ∑ j, k0_pay5 (F := Ideal) q y0 (ix2 r j) := by
  pointwise [k0_pay6]

theorem pay8_at (d : Fin 128) :
    k0_pay8 (F := Ideal) q y0 w0 (ix2 r d) = ∑ j : Fin 256, k0_pay5 (F := Ideal) q y0 (ix2 r j) * w0 (ix3 (0 : Fin 1) j d) := by
  pointwise [k0_pay8]

theorem pay7_at (j : Fin 1024) : k0_pay7 (F := Ideal) q y1 (ix2 r j) = score q y1 r j := by
  pointwise [k0_pay7, k0_pay2, score]

theorem pay12_at (j : Fin 1024) : k0_pay12 (F := Ideal) q y1 (ix2 r j) = score q y1 r j := by
  pointwise [k0_pay12, k0_pay2, score]

theorem pay17_at (j : Fin 1024) : k0_pay17 (F := Ideal) (k0_pay2 (F := Ideal) q) y1 (ix2 r j) = score q y1 r j := by
  pointwise [k0_pay17, k0_pay2, score]

theorem pay24_at (j : Fin 1024) : k0_pay24 (F := Ideal) (k0_pay2 (F := Ideal) q) y1 (ix2 r j) = score q y1 r j := by
  pointwise [k0_pay24, k0_pay2, score]

theorem pay9_at : k0_pay9 (F := Ideal) q y0 y1 (ix2 r (0 : Fin 1))
    = max (k0_pay4 (F := Ideal) q y0 (ix2 r (0 : Fin 1))) (rowMax fun j => score q y1 r j) := by
  pointwise [k0_pay9, pay7_at]
  rw [ofBits_neg_inf]; rfl

theorem pay10_at (j : Fin 1024) : k0_pay10 (F := Ideal) q y0 y1 (ix2 r j)
    = Ideal.exp (score q y1 r j - k0_pay9 (F := Ideal) q y0 y1 (ix2 r (0 : Fin 1))) := by
  pointwise [k0_pay10, pay7_at]

theorem pay13_at (j : Fin 1024) : k0_pay13 (F := Ideal) q y0 y1 (ix2 r j) = k0_pay10 (F := Ideal) q y0 y1 (ix2 r j) := by
  pointwise [k0_pay13]

theorem pay11_at : k0_pay11 (F := Ideal) q y0 y1 (ix2 r (0 : Fin 1)) = ∑ j, k0_pay10 (F := Ideal) q y0 y1 (ix2 r j) := by
  pointwise [k0_pay11]

end

section
variable (v6 v11 v21 v26 : FVec Ideal S512x1 .f32) (v29 : FVec Ideal S512x1024 .f32) (r : Fin 512)

theorem pay14_at : k0_pay14 (F := Ideal) v6 v21 (ix2 r (0 : Fin 1))
    = Ideal.exp (v6 (ix2 r (0 : Fin 1)) - v21 (ix2 r (0 : Fin 1))) := by
  pointwise [k0_pay14]

theorem pay15_at : k0_pay15 (F := Ideal) v21 v29 (ix2 r (0 : Fin 1))
    = max (v21 (ix2 r (0 : Fin 1))) (rowMax fun j => v29 (ix2 r j)) := by
  pointwise [k0_pay15]
  rw [ofBits_neg_inf]; rfl

theorem pay16_at (j : Fin 1024) : k0_pay16 (F := Ideal) v21 v29 (ix2 r j)
    = Ideal.exp (v29 (ix2 r j) - k0_pay15 (F := Ideal) v21 v29 (ix2 r (0 : Fin 1))) := by
  pointwise [k0_pay16]

theorem pay18_at : k0_pay18 (F := Ideal) v21 v29 (ix2 r (0 : Fin 1))
    = Ideal.exp (v21 (ix2 r (0 : Fin 1)) - k0_pay15 (F := Ideal) v21 v29 (ix2 r (0 : Fin 1))) := by
  pointwise [k0_pay18]

theorem pay19_at : k0_pay19 (F := Ideal) v6 v11 v21 v26 v29 (ix2 r (0 : Fin 1))
    = k0_pay18 (F := Ideal) v21 v29 (ix2 r (0 : Fin 1))
        * (k0_pay14 (F := Ideal) v6 v21 (ix2 r (0 : Fin 1)) * v11 (ix2 r (0 : Fin 1)) + v26 (ix2 r (0 : Fin 1)))
      + ∑ j, k0_pay16 (F := Ideal) v21 v29 (ix2 r j) := by
  pointwise [k0_pay19]

theorem pay20_at (v18 : FVec Ideal S512x128 .f32) (v30 : FVec Ideal S512x1024 .bf16)
    (v31 v53 : FVec Ideal S1x1024x128 .bf16) (d : Fin 128) : k0_pay20 (F := Ideal) v6 v18 v21 v29 v30 v31 v53 (ix2 r d)
    = k0_pay18 (F := Ideal) v21 v29 (ix2 r (0 : Fin 1))
        * (k0_pay14 (F := Ideal) v6 v21 (ix2 r (0 : Fin 1)) * v18 (ix2 r d)
            + ∑ j : Fin 1024, v30 (ix2 r j) * v31 (ix3 (0 : Fin 1) j d))
      + ∑ j : Fin 1024, k0_pay16 (F := Ideal) v21 v29 (ix2 r j) * v53 (ix3 (0 : Fin 1) j d) := by
  pointwise [k0_pay20]

variable (v1 : FVec Ideal S512x128 .bf16) (v49 : FVec Ideal S1x1024x128 .bf16)

theorem pay21_at : k0_pay21 (F := Ideal) v1 v21 v29 v49 (ix2 r (0 : Fin 1))
    = max (k0_pay15 (F := Ideal) v21 v29 (ix2 r (0 : Fin 1))) (rowMax fun j => k0_pay17 (F := Ideal) v1 v49 (ix2 r j)) := by
  pointwise [k0_pay21]
  rw [ofBits_neg_inf]; rfl

theorem pay22_at (j : Fin 1024) : k0_pay22 (F := Ideal) v1 v21 v29 v49 (ix2 r j)
    = Ideal.exp (k0_pay17 (F := Ideal) v1 v49 (ix2 r j) - k0_pay21 (F := Ideal) v1 v21 v29 v49 (ix2 r (0 : Fin 1))) := by
  pointwise [k0_pay22]

theorem pay23_at : k0_pay23 (F := Ideal) v1 v21 v29 v49 (ix2 r (0 : Fin 1)) = ∑ j, k0_pay22 (F := Ideal) v1 v21 v29 v49 (ix2 r j) := by
  pointwise [k0_pay23]

end

/-- The last two chunks and the division: `M` is the last running maximum. -/
theorem pay1_at (v43 v59 v65 v70 : FVec Ideal S512x1 .f32) (v62 : FVec Ideal S512x128 .f32)
    (v68 v73 : FVec Ideal S512x1024 .f32) (v75 v94 : FVec Ideal S1x1024x128 .bf16) (r : Fin 512) (d : Fin 128) :
    k0_pay1 (F := Ideal) v43 v59 v62 v65 v68 v70 v73 v75 v94 (ix3 (0 : Fin 1) r d)
      = (let a := v43 (ix2 r (0 : Fin 1))
         let b := v65 (ix2 r (0 : Fin 1))
         let M := max b (rowMax fun j => v73 (ix2 r j))
         Ideal.div
          (Ideal.exp (b - M) * (Ideal.exp (a - b) * v62 (ix2 r d)
              + ∑ j : Fin 1024, v68 (ix2 r j) * v75 (ix3 (0 : Fin 1) j d))
            + ∑ j : Fin 1024, Ideal.exp (v73 (ix2 r j) - M) * v94 (ix3 (0 : Fin 1) j d))
          (Ideal.exp (b - M) * (Ideal.exp (a - b) * v59 (ix2 r (0 : Fin 1)) + v70 (ix2 r (0 : Fin 1)))
            + ∑ j : Fin 1024, Ideal.exp (v73 (ix2 r j) - M))) := by
  pointwise [k0_pay1]
  rw [ofBits_neg_inf]; rfl

end Attn

end
-- ==== Proof.Attn.Block.lean ====
/-
  One block of the attention kernel: 512 query rows of one head against all keys.

  The block's result at a row is the softmax-weighted sum of the values over the 256 context keys followed by the 4096
  latent keys. The kernel walks the keys in five chunks, keeping a running maximum and rescaling the two running sums;
  `block_at` puts the five chunks together.
-/
module

public import proofs.«01_k».proof.Proof.Attn.Softmax
public import proofs.«01_k».proof.Proof.Attn.Steps
public import proofs.«01_k».proof.Proof.Gen.KernelIdeal.Frame
public import Idealize.ShloMosaic.Lib.Pipeline.ValueKit

@[expose] public section

set_option maxRecDepth 16384

noncomputable section

namespace Attn

open Cert.KernelIdeal Cert.KernelIdeal.Gen Idealize.ShloMosaic

/-- The five chunks of keys, side by side. -/
abbrev Chunks : Type := (((Fin 256 ⊕ Fin 1024) ⊕ Fin 1024) ⊕ Fin 1024) ⊕ Fin 1024

/-- A chunk's key as a key of the whole list. -/
def chunkKey : Chunks ≃ Fin 4352 :=
  ((((finSumFinEquiv (m := 256) (n := 1024)).sumCongr (Equiv.refl (Fin 1024))).trans finSumFinEquiv).sumCongr
    (Equiv.refl (Fin 1024)) |>.trans finSumFinEquiv).sumCongr (Equiv.refl (Fin 1024)) |>.trans
    (finSumFinEquiv (m := 256 + 1024 + 1024 + 1024) (n := 1024))

/-- A key function of the whole list, chunk by chunk. -/
theorem chunk_elim {S : Fin 4352 → EReal} {a : Fin 256 → EReal} {b : Fin 4096 → EReal}
    (h0 : ∀ j : Fin 256, S ⟨j.1, by omega⟩ = a j) (h1 : ∀ j : Fin 4096, S ⟨256 + j.1, by omega⟩ = b j) (x : Chunks) :
    S (chunkKey x) = Sum.elim (Sum.elim (Sum.elim (Sum.elim a (fun j : Fin 1024 => b ⟨0 + j.1, by omega⟩))
      (fun j : Fin 1024 => b ⟨1024 + j.1, by omega⟩)) (fun j : Fin 1024 => b ⟨2048 + j.1, by omega⟩))
      (fun j : Fin 1024 => b ⟨3072 + j.1, by omega⟩) x := by
  rcases x with (((x | x) | x) | x) | x
  · exact h0 x
  · exact (congrArg S (Fin.ext (by show 256 + x.1 = 256 + (0 + x.1); omega))).trans (h1 ⟨0 + x.1, by omega⟩)
  · exact (congrArg S (Fin.ext (by show 256 + 1024 + x.1 = 256 + (1024 + x.1); omega))).trans (h1 ⟨1024 + x.1, by omega⟩)
  · exact (congrArg S (Fin.ext (by show 256 + 1024 + 1024 + x.1 = 256 + (2048 + x.1); omega))).trans
      (h1 ⟨2048 + x.1, by omega⟩)
  · exact (congrArg S (Fin.ext (by show 256 + 1024 + 1024 + 1024 + x.1 = 256 + (3072 + x.1); omega))).trans
      (h1 ⟨3072 + x.1, by omega⟩)

/-- A load of 1024 rows at row offset `o` of a 4096-row block, read at an index. -/
theorem ld_rows (X : FVec Ideal S1x4096x128 .bf16) (o : ℕ) (ho : o + 1024 ≤ 4096)
    (inb : ∀ a, (![0, o, 0] : Fin 3 → ℕ) a + S1x1024x128.size a ≤ S1x4096x128.size a) (j : Fin 1024) (d : Fin 128) :
    View.ld (Val := Elt Ideal) (e' := .bf16) X (Rect.unit (s := S1x4096x128) ![0, o, 0] S1x1024x128.size inb) (ix3 (0 : Fin 1) j d)
      = X (ix3 (0 : Fin 1) (⟨o + j.1, by omega⟩ : Fin 4096) d) := by
  refine congrArg X (funext fun a => Fin.ext ?_)
  match a with
  | ⟨0, _⟩ => rfl
  | ⟨1, _⟩ => show o + 1 * j.1 = o + j.1; omega
  | ⟨2, _⟩ => show 0 + 1 * d.1 = d.1; omega

theorem score_ld (q : FVec Ideal S1x512x128 .bf16) (X : FVec Ideal S1x4096x128 .bf16) (o : ℕ) (ho : o + 1024 ≤ 4096)
    (inb : ∀ a, (![0, o, 0] : Fin 3 → ℕ) a + S1x1024x128.size a ≤ S1x4096x128.size a) (r : Fin 512) (j : Fin 1024) :
    score (n := 1024) q (View.ld (Val := Elt Ideal) (e' := .bf16) X (Rect.unit (s := S1x4096x128) ![0, o, 0] S1x1024x128.size inb)) r j
      = score (n := 4096) q X r ⟨o + j.1, by omega⟩ := by
  unfold score
  exact Finset.sum_congr rfl fun d _ => by rw [ld_rows X o ho inb j d]

theorem isReal_score {n : ℕ} {q : FVec Ideal S1x512x128 .bf16} {y : FVec Ideal (⟨3, ![1, n, 128]⟩ : Shape) .bf16}
    {r : Fin 512} (hq : ∀ d : Fin 128, IsReal (q (ix3 (0 : Fin 1) r d)))
    (hy : ∀ (j : Fin n) (d : Fin 128), IsReal (y (ix3 (0 : Fin 1) j d))) (j : Fin n) : IsReal (score q y r j) :=
  IsReal.sum _ fun d => (hq d).mul (hy j d)

theorem isReal_rowMax {n : ℕ} {f : Fin n → EReal} (hn : 0 < n) (h : ∀ j, IsReal (f j)) : IsReal (rowMax f) := by
  obtain ⟨k, rfl⟩ : ∃ k, n = k + 1 := ⟨n - 1, by omega⟩
  exact IsReal.fold_max h

/-- Five chunks of a running softmax, the subtracted number going from `M0` to `M4`. -/
theorem five_steps {M0 M1 M2 M3 M4 : EReal} (f0 : IsReal M0) (f1 : IsReal M1) (f2 : IsReal M2) (f3 : IsReal M3)
    (f4 : IsReal M4) (v0 : Fin 256 → EReal) (v1 v2 v3 v4 s1 s2 s3 s4 : Fin 1024 → EReal) (s0 : Fin 256 → EReal)
    (h0 : ∀ j, IsReal (s0 j)) (h1 : ∀ j, IsReal (s1 j)) (h2 : ∀ j, IsReal (s2 j)) (h3 : ∀ j, IsReal (s3 j)) :
    Ideal.exp (M3 - M4) * (Ideal.exp (M2 - M3) * (Ideal.exp (M1 - M2) * (Ideal.exp (M0 - M1) * wsum s0 v0 M0
        + wsum s1 v1 M1) + wsum s2 v2 M2) + wsum s3 v3 M3) + wsum s4 v4 M4
      = wsum (Sum.elim (Sum.elim (Sum.elim (Sum.elim s0 s1) s2) s3) s4)
          (Sum.elim (Sum.elim (Sum.elim (Sum.elim v0 v1) v2) v3) v4) M4 := by
  rw [wsum_step h0 f0 f1, wsum_step (fin_elim h0 h1) f1 f2, wsum_step (fin_elim (fin_elim h0 h1) h2) f2 f3,
    wsum_step (fin_elim (fin_elim (fin_elim h0 h1) h2) h3) f3 f4]

theorem five_esteps {M0 M1 M2 M3 M4 : EReal} (f0 : IsReal M0) (f1 : IsReal M1) (f2 : IsReal M2) (f3 : IsReal M3)
    (f4 : IsReal M4) (s1 s2 s3 s4 : Fin 1024 → EReal) (s0 : Fin 256 → EReal)
    (h0 : ∀ j, IsReal (s0 j)) (h1 : ∀ j, IsReal (s1 j)) (h2 : ∀ j, IsReal (s2 j)) (h3 : ∀ j, IsReal (s3 j)) :
    Ideal.exp (M3 - M4) * (Ideal.exp (M2 - M3) * (Ideal.exp (M1 - M2) * (Ideal.exp (M0 - M1) * esum s0 M0
        + esum s1 M1) + esum s2 M2) + esum s3 M3) + esum s4 M4
      = esum (Sum.elim (Sum.elim (Sum.elim (Sum.elim s0 s1) s2) s3) s4) M4 := by
  rw [esum_step h0 f0 f1, esum_step (fin_elim h0 h1) f1 f2, esum_step (fin_elim (fin_elim h0 h1) h2) f2 f3,
    esum_step (fin_elim (fin_elim (fin_elim h0 h1) h2) h3) f3 f4]

/-- THE BLOCK: the softmax of the row's scores over all 4352 keys, times the values, at any finite `M` in the place of
    the maximum. -/
theorem block_at (x0 : FVec Ideal S1x512x128 .bf16) (x1 x2 : FVec Ideal S1x256x128 .bf16)
    (x3 x4 : FVec Ideal S1x4096x128 .bf16) (r : Fin 512) (d : Fin 128)
    (hq : ∀ d : Fin 128, IsReal (x0 (ix3 (0 : Fin 1) r d)))
    (hc : ∀ (j : Fin 256) (d : Fin 128), IsReal (x1 (ix3 (0 : Fin 1) j d)))
    (hk : ∀ (j : Fin 4096) (d : Fin 128), IsReal (x3 (ix3 (0 : Fin 1) j d)))
    (S V : Fin 4352 → EReal)
    (hS0 : ∀ j : Fin 256, S ⟨j.1, by omega⟩ = score x0 x1 r j)
    (hS1 : ∀ j : Fin 4096, S ⟨256 + j.1, by omega⟩ = score x0 x3 r j)
    (hV0 : ∀ j : Fin 256, V ⟨j.1, by omega⟩ = x2 (ix3 (0 : Fin 1) j d))
    (hV1 : ∀ j : Fin 4096, V ⟨256 + j.1, by omega⟩ = x4 (ix3 (0 : Fin 1) j d))
    {M : EReal} (hM : IsReal M) :
    out0_5 (F := Ideal) x0 x1 x2 x3 x4 (ix3 (0 : Fin 1) r d) = ∑ k, Ideal.div (Ideal.exp (S k - M)) (esum S M) * V k := by
  have fc : ∀ j, IsReal (score x0 x1 r j) := isReal_score hq hc
  have fk : ∀ j, IsReal (score x0 x3 r j) := isReal_score hq hk
  unfold_out out0_5
  rw [View.canon_cons_unit_lit _ _ _ (by decide)]
  simp (disch := decide) only [View.ld_unit_lit']
  rw [pay1_at]
  dsimp only
  have f0 : IsReal (rowMax fun j => score x0 x1 r j) := isReal_rowMax (by omega) fc
  have f1 : IsReal (k0_pay9 (F := Ideal) x0 x1 (View.ld x3 r0_2) (ix2 r (0 : Fin 1))) := by
    rw [pay9_at, pay4_at]
    exact f0.max (isReal_rowMax (by omega) fun j => by rw [score_ld x0 x3 0 (by omega)]; exact fk _)
  have f2 : IsReal (k0_pay15 (F := Ideal) (k0_pay9 x0 x1 (View.ld x3 r0_2)) (k0_pay12 x0 (View.ld x3 r0_3))
      (ix2 r (0 : Fin 1))) := by
    rw [pay15_at]
    exact f1.max (isReal_rowMax (by omega) fun j => by
      rw [pay12_at, score_ld x0 x3 1024 (by omega)]; exact fk _)
  have f3 : IsReal (k0_pay21 (F := Ideal) (k0_pay2 x0) (k0_pay9 x0 x1 (View.ld x3 r0_2)) (k0_pay12 x0 (View.ld x3 r0_3))
      (View.ld x3 r0_4) (ix2 r (0 : Fin 1))) := by
    rw [pay21_at]
    exact f2.max (isReal_rowMax (by omega) fun j => by
      rw [pay17_at, score_ld x0 x3 2048 (by omega)]; exact fk _)
  have f4 : IsReal (rowMax fun j => k0_pay24 (F := Ideal) (k0_pay2 x0) (View.ld x3 r0_5) (ix2 r j)) :=
    isReal_rowMax (by omega) fun j => by rw [pay24_at, score_ld x0 x3 3072 (by omega)]; exact fk _
  have f4 := f3.max f4
  simp only [pay23_at, pay22_at, pay20_at, pay19_at, pay18_at, pay14_at, pay16_at, pay13_at, pay11_at, pay10_at, pay8_at,
    pay6_at, pay5_at, pay4_at]
  generalize hM4 : max _ (rowMax fun j => k0_pay24 (F := Ideal) (k0_pay2 x0) (View.ld x3 r0_5) (ix2 r j)) = M4 at f4 ⊢
  clear hM4
  generalize k0_pay21 (F := Ideal) (k0_pay2 x0) (k0_pay9 x0 x1 (View.ld x3 r0_2)) (k0_pay12 x0 (View.ld x3 r0_3))
    (View.ld x3 r0_4) (ix2 r (0 : Fin 1)) = M3 at f3 ⊢
  generalize k0_pay15 (F := Ideal) (k0_pay9 x0 x1 (View.ld x3 r0_2)) (k0_pay12 x0 (View.ld x3 r0_3))
    (ix2 r (0 : Fin 1)) = M2 at f2 ⊢
  generalize k0_pay9 (F := Ideal) x0 x1 (View.ld x3 r0_2) (ix2 r (0 : Fin 1)) = M1 at f1 ⊢
  generalize (rowMax fun j => score x0 x1 r j) = M0 at f0 ⊢
  simp only [pay24_at, pay17_at, pay12_at, score_ld x0 x3 0 (by omega), score_ld x0 x3 1024 (by omega),
    score_ld x0 x3 2048 (by omega), score_ld x0 x3 3072 (by omega), ld_rows x4 0 (by omega), ld_rows x4 1024 (by omega),
    ld_rows x4 2048 (by omega), ld_rows x4 3072 (by omega)]
  have es := chunk_elim hS0 hS1
  have ev := chunk_elim hV0 hV1
  have r1 : ∀ o : ℕ, (ho : o + 1024 ≤ 4096) → ∀ j : Fin 1024, IsReal (score x0 x3 r ⟨o + j.1, by omega⟩) :=
    fun o ho j => fk _
  have fs : ∀ x : Chunks, IsReal (S (chunkKey x)) := by
    intro x
    rw [es]
    exact fin_elim (fin_elim (fin_elim (fin_elim fc (r1 0 (by omega))) (r1 1024 (by omega))) (r1 2048 (by omega)))
      (r1 3072 (by omega)) x
  rw [← softmax_eq chunkKey (s := fun x => S (chunkKey x)) (v := fun x => V (chunkKey x)) fs f4 hM (fun _ => rfl)
    (fun _ => rfl)]
  rw [show (fun x => S (chunkKey x)) = _ from funext es, show (fun x => V (chunkKey x)) = _ from funext ev]
  have w := five_steps f0 f1 f2 f3 f4 (fun j => x2 (ix3 (0 : Fin 1) j d)) (fun j => x4 (ix3 (0 : Fin 1) ⟨0 + j.1, by omega⟩ d))
    (fun j => x4 (ix3 (0 : Fin 1) ⟨1024 + j.1, by omega⟩ d)) (fun j => x4 (ix3 (0 : Fin 1) ⟨2048 + j.1, by omega⟩ d))
    (fun j => x4 (ix3 (0 : Fin 1) ⟨3072 + j.1, by omega⟩ d)) _ _ _ (fun j => score x0 x3 r ⟨3072 + j.1, by omega⟩) _ fc
    (r1 0 (by omega)) (r1 1024 (by omega)) (r1 2048 (by omega))
  have e := five_esteps f0 f1 f2 f3 f4 _ _ _ (fun j => score x0 x3 r ⟨3072 + j.1, by omega⟩) _ fc
    (r1 0 (by omega)) (r1 1024 (by omega)) (r1 2048 (by omega))
  rw [← w, ← e]
  simp only [wsum, esum]

end Attn

end
-- ==== Proof.Attn.Reference.lean ====
/-
  The reference's attention read at one element.

  `kv` is the list of keys (or values) of a batch entry: the context's 256 rows, then the 4096 latent rows, at a column of
  the packed array. `ref_at` says that the reference's result at batch entry `b`, query row `t` and output column
  `(g * 4 + r) * 128 + d` is the softmax-weighted sum of the values, with the row's largest score subtracted.
-/
module

public import proofs.«01_k».proof.Proof.Attn.Steps
public import proofs.«01_k».proof.Proof.Attn.Softmax
public import proofs.«01_k».proof.Proof.Gen.ReferenceIdeal.Read
public import Idealize.ShloMosaic.Lib.Pointwise

@[expose] public section

set_option maxRecDepth 16384

noncomputable section

namespace Attn

open Cert.ReferenceIdeal Cert.ReferenceIdeal.Gen Cert.ReferenceIdeal.Read Idealize.ShloMosaic

/-- The packed queries, keys and values of the latent rows, and those of the context rows. -/
abbrev Lat : Type := FVec Ideal S8x4096x3072 .bf16
abbrev Ctx : Type := FVec Ideal S8x256x3072 .bf16

/-- Row `k` of the joint list of rows, at column `c`. -/
def kv (x0 : Lat) (x1 : Ctx) (b : Fin 8) (k : Fin 4352) (c : Fin 3072) : EReal :=
  if h : k.1 < 256 then x1 (ix3 b (⟨k.1, h⟩ : Fin 256) c) else x0 (ix3 b (⟨k.1 - 256, by omega⟩ : Fin 4096) c)

/-- A column of one of the key-value heads, `o` columns into the packed array. -/
def kvCol (o : ℕ) (ho : o + 512 ≤ 3072) (g : Fin 4) (d : Fin 128) : Fin 3072 := ⟨o + (g.1 * 128 + d.1), by omega⟩

/-- A column of one of the query heads. -/
def qCol (g r : Fin 4) (d : Fin 128) : Fin 3072 := ⟨(g.1 * 4 + r.1) * 128 + d.1, by omega⟩

/-- The score of query row `t` of head `(g, r)` against row `k` of the joint list. -/
def refScore (x0 : Lat) (x1 : Ctx) (b : Fin 8) (g r : Fin 4) (t : Fin 4096) (k : Fin 4352) : EReal :=
  ∑ d : Fin 128, kv x0 x1 b k (kvCol 2048 (by omega) g d) * x0 (ix3 b t (qCol g r d))

section
variable (x0 : Lat) (x1 : Ctx) (b : Fin 8) (t : Fin 4096) (g r : Fin 4) (k : Fin 4352) (d : Fin 128)

theorem v6_at (c : Fin 512) :
    val_main_v6 (F := Ideal) x0 x1 (ix3 b k c) = kv x0 x1 b k ⟨2048 + c.1, by omega⟩ := by
  unfold val_main_v6 kv
  split
  · rename_i h
    refine (concatenate_pair_apply_left (t := S8x4352x512) (s₁ := S8x256x512) (s₂ := S8x4096x512) 1 _ _ _ _ rfl
      (ix3 b (⟨k.1, h⟩ : Fin 256) c) (by intro a; fin_cases a <;> rfl)).trans ?_
    rw [val_main_v4_apply, val_main_v1_apply]
    exact congrArg x1 (funext fun a => Fin.ext (by fin_cases a <;> rfl))
  · rename_i h
    refine (concatenate_pair_apply_right (t := S8x4352x512) (s₁ := S8x256x512) (s₂ := S8x4096x512) 1 _ _ _ _ rfl rfl
      (ix3 b (⟨k.1 - 256, by omega⟩ : Fin 4096) c)
      (by intro a ha; fin_cases a <;> first | rfl | exact absurd rfl ha)
      (by show k.1 - 256 + 256 = k.1; omega)).trans ?_
    rw [val_main_v5_apply, val_main_v0_apply]
    exact congrArg x0 (funext fun a => Fin.ext (by fin_cases a <;> rfl))

theorem v10_at (c : Fin 512) :
    val_main_v10 (F := Ideal) x0 x1 (ix3 b k c) = kv x0 x1 b k ⟨2560 + c.1, by omega⟩ := by
  unfold val_main_v10 kv
  split
  · rename_i h
    refine (concatenate_pair_apply_left (t := S8x4352x512) (s₁ := S8x256x512) (s₂ := S8x4096x512) 1 _ _ _ _ rfl
      (ix3 b (⟨k.1, h⟩ : Fin 256) c) (by intro a; fin_cases a <;> rfl)).trans ?_
    rw [val_main_v8_apply, val_main_v1_apply]
    exact congrArg x1 (funext fun a => Fin.ext (by fin_cases a <;> rfl))
  · rename_i h
    refine (concatenate_pair_apply_right (t := S8x4352x512) (s₁ := S8x256x512) (s₂ := S8x4096x512) 1 _ _ _ _ rfl rfl
      (ix3 b (⟨k.1 - 256, by omega⟩ : Fin 4096) c)
      (by intro a ha; fin_cases a <;> first | rfl | exact absurd rfl ha)
      (by show k.1 - 256 + 256 = k.1; omega)).trans ?_
    rw [val_main_v9_apply, val_main_v0_apply]
    exact congrArg x0 (funext fun a => Fin.ext (by fin_cases a <;> rfl))

/-- Cutting the 512 columns into 4 heads of 128. -/
theorem head_idx : (idx_main_v7 (ix4 b k g d)) = ix3 b k (⟨g.1 * 128 + d.1, by omega⟩ : Fin 512) := by
  funext a
  apply Fin.ext
  have hb := b.2; have hk := k.2; have hg := g.2; have hd := d.2
  match a with
  | ⟨0, _⟩ => show (((b.1 * 4352 + k.1) * 4 + g.1) * 128 + d.1) / 2228224 = b.1; omega
  | ⟨1, _⟩ => show (((b.1 * 4352 + k.1) * 4 + g.1) * 128 + d.1) / 512 % 4352 = k.1; omega
  | ⟨2, _⟩ => show (((b.1 * 4352 + k.1) * 4 + g.1) * 128 + d.1) % 512 = g.1 * 128 + d.1; omega

theorem v7_at : val_main_v7 (F := Ideal) x0 x1 (ix4 b k g d) = kv x0 x1 b k (kvCol 2048 (by omega) g d) := by
  rw [val_main_v7_apply, head_idx, v6_at]; rfl

theorem v11_at : val_main_v11 (F := Ideal) x0 x1 (ix4 b k g d) = kv x0 x1 b k (kvCol 2560 (by omega) g d) := by
  rw [val_main_v11_apply, show idx_main_v11 (ix4 b k g d) = _ from head_idx b g k d, v10_at]; rfl

theorem v3_at : val_main_v3 (F := Ideal) x0 (ix5 b t g r d) = x0 (ix3 b t (qCol g r d)) := by
  rw [val_main_v3_apply, val_main_v2_apply, val_main_v0_apply]
  refine congrArg x0 (funext fun a => Fin.ext ?_)
  have hb := b.2; have ht := t.2; have hg := g.2; have hr := r.2; have hd := d.2
  match a with
  | ⟨0, _⟩ => show ((((b.1 * 4096 + t.1) * 4 + g.1) * 4 + r.1) * 128 + d.1) / 8388608 = b.1; omega
  | ⟨1, _⟩ => show ((((b.1 * 4096 + t.1) * 4 + g.1) * 4 + r.1) * 128 + d.1) / 2048 % 4096 = t.1; omega
  | ⟨2, _⟩ => show ((((b.1 * 4096 + t.1) * 4 + g.1) * 4 + r.1) * 128 + d.1) % 2048 = (g.1 * 4 + r.1) * 128 + d.1; omega

theorem v13_at : val_main_v13 (F := Ideal) x0 x1 (ix5 b g r t k) = refScore x0 x1 b g r t k := by
  rw [val_main_v13_apply, val_main_v12_apply]
  unfold refScore
  refine Finset.sum_congr rfl fun d _ => ?_
  rw [← v7_at, ← v3_at x0]
  congr 1

theorem v14_at : val_main_v14 (F := Ideal) x0 x1 (ix4 b g r t) = rowMax fun k => refScore x0 x1 b g r t k := by
  have h : ∀ k, val_main_v13 (F := Ideal) x0 x1 (ix5 b g r t k) = refScore x0 x1 b g r t k := fun k => v13_at x0 x1 b t g r k
  unfold val_main_v14
  generalize val_main_v13 (F := Ideal) x0 x1 = y at h
  pointwise [val_main_cst]
  rw [ofBits_neg_inf]
  unfold rowMax
  exact congrArg (fun f => Finset.fold max ⊥ f Finset.univ) (funext h)

theorem v18_at : val_main_v18 (F := Ideal) x0 x1 (ix5 b g r t k) = rowMax fun k => refScore x0 x1 b g r t k := by
  rw [val_main_v18_apply, val_main_v17_apply, val_main_v16_apply, val_main_v15_apply, val_main_cst_0_apply]
  rw [show (idx_main_v17 (idx_main_v18 (ix5 b g r t k))) = ix4 b g r t from
    funext fun a => Fin.ext (by fin_cases a <;> rfl), v14_at]
  show max (Ideal.ofBits .f32 0xFF800000#32) _ = _
  rw [ofBits_neg_inf]
  exact max_eq_right bot_le

theorem v20_at : val_main_v20 (F := Ideal) x0 x1 (ix5 b g r t k) =
    Ideal.exp (refScore x0 x1 b g r t k - rowMax fun k => refScore x0 x1 b g r t k) := by
  rw [val_main_v20_apply, val_main_v19_apply, v13_at, v18_at]; rfl

theorem v23_at : val_main_v23 (F := Ideal) x0 x1 (ix5 b g r t k) =
    esum (fun k => refScore x0 x1 b g r t k) (rowMax fun k => refScore x0 x1 b g r t k) := by
  rw [val_main_v23_apply, val_main_v22_apply, val_main_v21_apply, val_main_cst_1_apply]
  unfold esum
  show Ideal.ofBits .f32 0x00000000#32 + _ = _
  rw [show Ideal.ofBits .f32 0x00000000#32 = 0 by simp [Ideal.ofBits, Ideal.ieee], zero_add]
  refine Finset.sum_congr rfl fun k' _ => ?_
  rw [← v20_at]
  exact congrArg _ (funext fun a => Fin.ext (by fin_cases a <;> rfl))

theorem v25_at : val_main_v25 (F := Ideal) x0 x1 (ix5 b g d r t) =
    ∑ k, Ideal.div (Ideal.exp (refScore x0 x1 b g r t k - rowMax fun k => refScore x0 x1 b g r t k))
      (esum (fun k => refScore x0 x1 b g r t k) (rowMax fun k => refScore x0 x1 b g r t k)) *
      kv x0 x1 b k (kvCol 2560 (by omega) g d) := by
  rw [val_main_v25_apply]
  refine Finset.sum_congr rfl fun k _ => ?_
  rw [mul_comm, show lidx_main_v25 (ix5 b g d r t) k = ix4 b k g d from funext fun a => Fin.ext (by fin_cases a <;> rfl),
    show ridx_main_v25 (ix5 b g d r t) k = ix5 b g r t k from funext fun a => Fin.ext (by fin_cases a <;> rfl),
    v11_at, val_main_v24_apply, v20_at, v23_at]
  rfl

/-- THE REFERENCE at one element. -/
theorem ref_at (c : Fin 2048) (hc : c.1 = (g.1 * 4 + r.1) * 128 + d.1) : val_main_v28 (F := Ideal) x0 x1 (ix3 b t c) =
    ∑ k, Ideal.div (Ideal.exp (refScore x0 x1 b g r t k - rowMax fun k => refScore x0 x1 b g r t k))
      (esum (fun k => refScore x0 x1 b g r t k) (rowMax fun k => refScore x0 x1 b g r t k)) *
      kv x0 x1 b k (kvCol 2560 (by omega) g d) := by
  rw [← v25_at, val_main_v28_apply, val_main_v27_apply, val_main_v26_apply]
  refine congrArg (val_main_v25 (F := Ideal) x0 x1) (funext fun a => Fin.ext ?_)
  have hb := b.2; have ht := t.2; have hg := g.2; have hr := r.2; have hd := d.2
  match a with
  | ⟨0, _⟩ => show ((b.1 * 4096 + t.1) * 2048 + c.1) / 8388608 = b.1; omega
  | ⟨1, _⟩ => show ((b.1 * 4096 + t.1) * 2048 + c.1) / 512 % 4 = g.1; omega
  | ⟨2, _⟩ => show ((b.1 * 4096 + t.1) * 2048 + c.1) % 128 = d.1; omega
  | ⟨3, _⟩ => show ((b.1 * 4096 + t.1) * 2048 + c.1) / 128 % 4 = r.1; omega
  | ⟨4, _⟩ => show ((b.1 * 4096 + t.1) * 2048 + c.1) / 2048 % 4096 = t.1; omega

end

end Attn

end
-- ==== Proof.Attn.Array.lean ====
/-
  The attention kernel's result array.

  The grid walks batch entry (8), head (16) and query block (8). `idx0 .. idx5` say which block of its array each window
  holds at point `t`; `blk0_at .. blk4_at` read the five input blocks from the two packed arrays; `final` puts the blocks
  of the result together into the reference's array, for arguments whose queries and keys are finite.
-/
module

public import proofs.«01_k».proof.Proof.Attn.Block
public import proofs.«01_k».proof.Proof.Attn.Reference
public import proofs.«01_k».proof.Proof.Gen.KernelIdeal.Value

@[expose] public section

set_option maxRecDepth 16384

noncomputable section

namespace Attn

open Cert.KernelIdeal Cert.KernelIdeal.Gen Idealize.ShloMosaic Idealize.ShloMosaic.TcCoe Idealize.SL.Sem
open Idealize.ShloMosaic.Pipeline (Dat)

theorem idx0 : ∀ t : Fin cfg0.N, win0_0.index t = ![t.val / 128, t.val % 8, t.val / 8 % 16] :=
  (by decide +kernel : ∀ t : Fin grid0.N, win0_0.index t = ![t.val / 128, t.val % 8, t.val / 8 % 16])
theorem idx1 : ∀ t : Fin cfg0.N, win0_1.index t = ![t.val / 128, 0, 16 + t.val / 8 % 16 / 4] :=
  (by decide +kernel : ∀ t : Fin grid0.N, win0_1.index t = ![t.val / 128, 0, 16 + t.val / 8 % 16 / 4])
theorem idx2 : ∀ t : Fin cfg0.N, win0_2.index t = ![t.val / 128, 0, 20 + t.val / 8 % 16 / 4] :=
  (by decide +kernel : ∀ t : Fin grid0.N, win0_2.index t = ![t.val / 128, 0, 20 + t.val / 8 % 16 / 4])
theorem idx3 : ∀ t : Fin cfg0.N, win0_3.index t = ![t.val / 128, 0, 16 + t.val / 8 % 16 / 4] :=
  (by decide +kernel : ∀ t : Fin grid0.N, win0_3.index t = ![t.val / 128, 0, 16 + t.val / 8 % 16 / 4])
theorem idx4 : ∀ t : Fin cfg0.N, win0_4.index t = ![t.val / 128, 0, 20 + t.val / 8 % 16 / 4] :=
  (by decide +kernel : ∀ t : Fin grid0.N, win0_4.index t = ![t.val / 128, 0, 20 + t.val / 8 % 16 / 4])
theorem idx5 : ∀ t : Fin cfg0.N, win0_5.index t = ![t.val / 128, t.val % 8, t.val / 8 % 16] :=
  (by decide +kernel : ∀ t : Fin grid0.N, win0_5.index t = ![t.val / 128, t.val % 8, t.val / 8 % 16])

section
variable (m : (ℓ : Loc nD τ sig) → Buf (Elt Ideal) ℓ) (c : Dev nD)

/-- The two packed arrays as launched. -/
abbrev lat : Lat := m ((c.tc : Thread nD τ).loc main_arg0)
abbrev ctx : Ctx := m ((c.tc : Thread nD τ).loc main_arg1)

/-- The finiteness the claim asks of the queries and keys. -/
def FiniteScores (x0 : Lat) (x1 : Ctx) : Prop :=
  (∀ (b : Fin 8) (t : Fin 4096) (c : Fin 3072), c.1 < 2560 → IsReal (x0 (ix3 b t c))) ∧
    ∀ (b : Fin 8) (t : Fin 256) (c : Fin 3072), 2048 ≤ c.1 → c.1 < 2560 → IsReal (x1 (ix3 b t c))

variable (t : Fin cfg0.N)

/-- Where point `t` is in the grid. -/
def ptB : Fin 8 := ⟨t.1 / 128, by have h : t.1 < 1024 := lt_of_lt_of_eq t.2 N_0; omega⟩
def ptG : Fin 4 := ⟨t.1 / 8 % 16 / 4, by omega⟩
def ptR : Fin 4 := ⟨t.1 / 8 % 16 % 4, by omega⟩
def ptRow (r : Fin 512) : Fin 4096 := ⟨t.1 % 8 * 512 + r.1, by omega⟩

theorem blk0_at (r : Fin 512) (d : Fin 128) :
    (iblk m c 0 t : FVec Ideal S1x512x128 .bf16) (ix3 (0 : Fin 1) r d) = lat m c (ix3 (ptB t) (ptRow t r) (qCol (ptG t) (ptR t) d)) := by
  blk_ext [iblk, V, idx0, ptB, ptRow, qCol, ptG, ptR]

theorem blk1_at (j : Fin 256) (d : Fin 128) :
    (iblk m c 1 t : FVec Ideal S1x256x128 .bf16) (ix3 (0 : Fin 1) j d) = ctx m c (ix3 (ptB t) j (kvCol 2048 (by omega) (ptG t) d)) := by
  blk_ext [iblk, V, idx1, ptB, kvCol, ptG]

theorem blk2_at (j : Fin 256) (d : Fin 128) :
    (iblk m c 2 t : FVec Ideal S1x256x128 .bf16) (ix3 (0 : Fin 1) j d) = ctx m c (ix3 (ptB t) j (kvCol 2560 (by omega) (ptG t) d)) := by
  blk_ext [iblk, V, idx2, ptB, kvCol, ptG]

theorem blk3_at (j : Fin 4096) (d : Fin 128) :
    (iblk m c 3 t : FVec Ideal S1x4096x128 .bf16) (ix3 (0 : Fin 1) j d) = lat m c (ix3 (ptB t) j (kvCol 2048 (by omega) (ptG t) d)) := by
  blk_ext [iblk, V, idx3, ptB, kvCol, ptG]

theorem blk4_at (j : Fin 4096) (d : Fin 128) :
    (iblk m c 4 t : FVec Ideal S1x4096x128 .bf16) (ix3 (0 : Fin 1) j d) = lat m c (ix3 (ptB t) j (kvCol 2560 (by omega) (ptG t) d)) := by
  blk_ext [iblk, V, idx4, ptB, kvCol, ptG]

end

theorem kv_ctx (x0 : Lat) (x1 : Ctx) (b : Fin 8) (j : Fin 256) (c : Fin 3072) :
    kv x0 x1 b ⟨j.1, by omega⟩ c = x1 (ix3 b j c) := dif_pos j.2

theorem kv_lat (x0 : Lat) (x1 : Ctx) (b : Fin 8) (j : Fin 4096) (c : Fin 3072) :
    kv x0 x1 b ⟨256 + j.1, by omega⟩ c = x0 (ix3 b j c) := by
  refine (dif_neg (by simp)).trans (congrArg (fun j => x0 (ix3 b j c)) (Fin.ext ?_))
  show 256 + j.1 - 256 = j.1
  omega

theorem FiniteScores.score {x0 : Lat} {x1 : Ctx} (h : FiniteScores x0 x1) (b : Fin 8) (g r : Fin 4) (t : Fin 4096)
    (k : Fin 4352) : IsReal (refScore x0 x1 b g r t k) := by
  refine IsReal.sum _ fun d => IsReal.mul ?_ (h.1 _ _ _ (by simp only [qCol]; omega))
  unfold kv
  split
  · exact h.2 _ _ _ (by simp only [kvCol]; omega) (by simp only [kvCol]; omega)
  · exact h.1 _ _ _ (by simp only [kvCol]; omega)

section
variable (m : (ℓ : Loc nD τ sig) → Buf (Elt Ideal) ℓ) (ρ : Dev nD → PrngReg)

/-- What the body leaves in the result's block at point `t`, at an index. -/
theorem block_eq (c : Dev nD) (h : FiniteScores (lat m c) (ctx m c)) (t : Fin cfg0.N) (r : Fin 512) (d : Fin 128)
    (col : Fin 2048) (hcol : col.1 = ((ptG t).1 * 4 + (ptR t).1) * 128 + d.1) :
    out0_5 (F := Ideal) (iblk m c 0 t) (iblk m c 1 t) (iblk m c 2 t) (iblk m c 3 t) (iblk m c 4 t) (ix3 (0 : Fin 1) r d) =
      Cert.ReferenceIdeal.Read.val_main_v28 (F := Ideal) (lat m c) (ctx m c) (ix3 (ptB t) (ptRow t r) col) := by
  rw [ref_at (lat m c) (ctx m c) (ptB t) (ptRow t r) (ptG t) (ptR t) d col hcol]
  refine block_at _ _ _ _ _ r d (fun d => ?_) (fun j d => ?_) (fun j d => ?_) _ _ (fun j => ?_) (fun j => ?_)
    (fun j => ?_) (fun j => ?_) (isReal_rowMax (by omega) fun k => h.score _ _ _ _ k)
  · rw [blk0_at]; exact h.1 _ _ _ (by simp only [qCol]; omega)
  · rw [blk1_at]; exact h.2 _ _ _ (by simp only [kvCol]; omega) (by simp only [kvCol]; omega)
  · rw [blk3_at]; exact h.1 _ _ _ (by simp only [kvCol]; omega)
  · unfold refScore score
    exact Finset.sum_congr rfl fun d _ => by rw [kv_ctx, blk0_at, blk1_at, mul_comm]
  · unfold refScore score
    exact Finset.sum_congr rfl fun d _ => by rw [kv_lat, blk0_at, blk3_at, mul_comm]
  · rw [kv_ctx, blk2_at]
  · rw [kv_lat, blk4_at]

/-- THE RESULT ARRAY: the reference's. -/
theorem final (c : Dev nD) (h : FiniteScores (lat m c) (ctx m c)) :
    (dats m 0 c).arrAt 5 cfg0.N = Cert.ReferenceIdeal.Read.val_main_v28 (F := Ideal) (lat m c) (ctx m c) := by
  refine (dats m 0 c).arrAt_eq_of_covers 5 _ (by decide +kernel) fun t hf y => ?_
  blk_simp
  rw [after0_5]
  obtain ⟨y0, r, d, rfl⟩ : ∃ (y0 : Fin 1) (r : Fin 512) (d : Fin 128), y = ix3 y0 r d :=
    ⟨y 0, y 1, y 2, funext fun a => by fin_cases a <;> rfl⟩
  obtain rfl : y0 = 0 := Subsingleton.elim _ _
  have ht : t.1 < 1024 := lt_of_lt_of_eq t.2 N_0
  refine (block_eq m c h t r d ⟨((ptG t).1 * 4 + (ptR t).1) * 128 + d.1, by omega⟩ rfl).trans (congrArg _ ?_)
  blk_ext [idx5, ptB, ptRow, ptG, ptR]

/-- The run: the result array at the reference's, the arguments unchanged. -/
theorem run (h : ∀ c, FiniteScores (lat m c) (ctx m c)) :
    θ_run defs (onTc (τ := τ) (main (F := Ideal))) ⟨m, fun _ => 0, ρ⟩ fun r => ∀ c : Dev nD,
      r.2.mem ((c.tc : Thread nD τ).loc main_v0) =
        Cert.ReferenceIdeal.Read.val_main_v28 (F := Ideal) (lat m c) (ctx m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ k c => ⟨(k c).1.trans (final m c (h c)), (k c).2⟩)
    (Cert.KernelIdeal.Value.run_blocks m ρ)

end

end Attn

end
-- ==== Proof.Attn.Claims.lean ====
/-
  The claims about the attention core, from its parts: the generated frames, the precondition read at an element, and the
  two runs ending at one array.
-/
module

public import proofs.«01_k».proof.Defs
public import proofs.«01_k».proof.Proof.Attn.Array
public import proofs.«01_k».proof.Proof.Gen.Kernel.Frame
public import proofs.«01_k».proof.Proof.Gen.ReferenceIdeal.Run
public import proofs.«01_k».proof.Proof.Gen.Pre_finite_scores
public import Idealize.ShloMosaic.Lib.Quiescent

@[expose] public section

noncomputable section

namespace Attn.Claims

open Idealize.ShloMosaic Idealize.ShloMosaic.TcCoe Idealize.SL.Sem

theorem ofBits_inf : Ideal.ofBits .f32 0x7F800000#32 = ⊤ := by simp [Ideal.ofBits, Ideal.ieee]

/-- A number whose magnitude compares below infinity is real. -/
theorem isReal_of_cmp {x : EReal}
    (h : FloatOps.cmpf (F := Ideal) (φ := .f32) .olt (max x (-x)) (Ideal.ofBits .f32 0x7F800000#32) = 1#1) : IsReal x := by
  rw [ofBits_inf] at h
  refine IsReal.of_max_neg_lt ?_
  by_contra hn
  rw [Ideal.cmpf_def] at h
  unfold Ideal.cmp at h
  simp [hn] at h

/-- The precondition at the elements. -/
theorem finite_of_pre {x0 : Lat} {x1 : Ctx}
    (h : (Cert.Pre_finite_scores.fn (F := Ideal) x0 x1).1 = (fun _ => 1#1) ∧
      (Cert.Pre_finite_scores.fn (F := Ideal) x0 x1).2 = (fun _ => 1#1)) : FiniteScores x0 x1 := by
  refine ⟨fun b t c hc => ?_, fun b t c hl hc => ?_⟩
  · have e := congrFun h.1 (ix3 b t (⟨c.1, hc⟩ : Fin 2560))
    refine isReal_of_cmp (Eq.trans ?_ e)
    have : x0 (ix3 b t c) = extractStridedSlice Cert.Pre_finite_scores.S8x4096x2560 ![0, 0, 0] x0
        Cert.Pre_finite_scores.Facts.slices_S8x4096x3072_S8x4096x2560_0_0_0 (ix3 b t (⟨c.1, hc⟩ : Fin 2560)) := by
      pointwise
    rw [this]
    rfl
  · have e := congrFun h.2 (ix3 b t (⟨c.1 - 2048, by omega⟩ : Fin 512))
    refine isReal_of_cmp (Eq.trans ?_ e)
    have : x1 (ix3 b t c) = extractStridedSlice Cert.Pre_finite_scores.S8x256x512 ![0, 0, 2048] x1
        Cert.Pre_finite_scores.Facts.slices_S8x256x3072_S8x256x512_0_0_2048 (ix3 b t (⟨c.1 - 2048, by omega⟩ : Fin 512)) := by
      pointwise
      exact congrArg (fun c => x1 (ix3 b t c)) (Fin.ext (by simp only []; omega))
    rw [this]
    rfl

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_pre : Cert.quiescent_KernelIdeal_pre_finite_scores := fun m ρ _ => Cert.KernelIdeal.Gen.frame m ρ
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
theorem frame_reference_pre : Cert.quiescent_ReferenceIdeal_pre_finite_scores := fun m ρ _ => frame_reference m ρ trivial

theorem algebraic : Cert.algebraic_KernelIdeal_ReferenceIdeal_pre_finite_scores := by
  intro m ρ m' ρ' hpre hagree
  refine ⟨fun c => Cert.ReferenceIdeal.Read.val_main_v28 (F := Ideal) (lat m c) (ctx m c),
    run m ρ fun c => finite_of_pre (hpre c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2]

end Attn.Claims

end
-- ==== Proof.Up.Steps.lean ====
/-
  The first feed-forward product's arithmetic, one operation group at a time, read at one element.

  `uRow` is what one row of hidden states becomes before the product: divided by its root mean square, weighted, scaled
  and shifted. The lemmas `pay5_at` to `pay19_at` read each stored chunk of rows from the rows it was computed from;
  `left_at` reads the first half's product with its three-row convolution, and `gate_at` the block of the result.
-/
module

public import proofs.«01_k».proof.Proof.Gen.Kernel2Ideal.Skeleton
public import Idealize.ShloMosaic.Lib.Pointwise
public import Idealize.ShloMosaic.PureOps.Ideal.Laws

@[expose] public section

set_option maxRecDepth 16384

noncomputable section

namespace Up

open Cert.Kernel2Ideal Cert.Kernel2Ideal.Gen Idealize.ShloMosaic

/-- One over a row's root mean square (with the small constant both programs add under the root). -/
def rms (f : Fin 2048 → EReal) : EReal :=
  Ideal.rsqrt (Ideal.div (∑ d, f d * f d) (Ideal.ofBits .f32 0x45000000#32) + Ideal.ofBits .f32 0x358637BD#32)

/-- A row of hidden states, normalized, weighted by `nw`, scaled by one plus `sc` and shifted by `sh`. -/
def uRow (f nw sc sh : Fin 2048 → EReal) (d : Fin 2048) : EReal := f d * rms f * (nw d * (1 + sc d)) + sh d

section
variable (x0 : FVec Ideal S1x1024x2048 .f32) (x3 : FVec Ideal S1x2048 .f32) (x4 x5 : FVec Ideal S1x1x2048 .f32)
variable (y : FVec Ideal S1x128x2048 .f32) (z : FVec Ideal S1x16x2048 .f32)

theorem pay2_at (d : Fin 2048) :
    k0_pay2 (F := Ideal) x3 x4 (ix2 (0 : Fin 1) d) = x3 (ix2 (0 : Fin 1) d) * (1 + x4 (ix3 (0 : Fin 1) (0 : Fin 1) d)) := by
  pointwise [k0_pay2]

theorem pay3_at (d : Fin 2048) : k0_pay3 (F := Ideal) x5 (ix2 (0 : Fin 1) d) = x5 (ix3 (0 : Fin 1) (0 : Fin 1) d) := by
  pointwise [k0_pay3]

theorem pay4_at (r : Fin 1024) :
    k0_pay4 (F := Ideal) x0 (ix2 r (0 : Fin 1)) = rms fun d => x0 (ix3 (0 : Fin 1) r d) := by
  pointwise [k0_pay4, rms]

variable (v68 v70 : FVec Ideal S1x2048 .f32) (v80 : FVec Ideal S1024x1 .f32)

/-- A chunk's element from the chunk's hidden state, the row's factor, the weight and the shift. -/
theorem pay5_at (r : Fin 128) (d : Fin 2048) (k : Fin 1024) (hk : k.1 = r.1) : k0_pay5 (F := Ideal) x3 x4 x5 x0 y (ix2 r d) =
    y (ix3 (0 : Fin 1) r d) * k0_pay4 (F := Ideal) x0 (ix2 k (0 : Fin 1)) * k0_pay2 (F := Ideal) x3 x4 (ix2 (0 : Fin 1) d)
      + k0_pay3 (F := Ideal) x5 (ix2 (0 : Fin 1) d) := by
  obtain ⟨k, hl⟩ := k
  obtain rfl : k = r.1 := hk
  pointwise [k0_pay5]

theorem pay8_at (r : Fin 128) (d : Fin 2048) (k : Fin 1024) (hk : k.1 = 128 + r.1) :
    k0_pay8 (F := Ideal) v68 v70 (k0_pay6 (F := Ideal) y) (k0_pay7 (F := Ideal) x0) (ix2 r d) =
    y (ix3 (0 : Fin 1) r d) * k0_pay4 (F := Ideal) x0 (ix2 k (0 : Fin 1)) * v68 (ix2 (0 : Fin 1) d) + v70 (ix2 (0 : Fin 1) d) := by
  obtain ⟨k, hl⟩ := k
  obtain rfl : k = 128 + r.1 := hk
  pointwise [k0_pay8, k0_pay6, k0_pay7]

theorem pay9_at (r : Fin 128) (d : Fin 2048) (k : Fin 1024) (hk : k.1 = 256 + r.1) : k0_pay9 (F := Ideal) v68 v70 v80 y (ix2 r d) =
    y (ix3 (0 : Fin 1) r d) * v80 (ix2 k (0 : Fin 1)) * v68 (ix2 (0 : Fin 1) d) + v70 (ix2 (0 : Fin 1) d) := by
  obtain ⟨k, hl⟩ := k
  obtain rfl : k = 256 + r.1 := hk
  pointwise [k0_pay9]

theorem pay10_at (r : Fin 128) (d : Fin 2048) (k : Fin 1024) (hk : k.1 = 384 + r.1) : k0_pay10 (F := Ideal) v68 v70 v80 y (ix2 r d) =
    y (ix3 (0 : Fin 1) r d) * v80 (ix2 k (0 : Fin 1)) * v68 (ix2 (0 : Fin 1) d) + v70 (ix2 (0 : Fin 1) d) := by
  obtain ⟨k, hl⟩ := k
  obtain rfl : k = 384 + r.1 := hk
  pointwise [k0_pay10]

theorem pay12_at (r : Fin 128) (d : Fin 2048) (k : Fin 1024) (hk : k.1 = 512 + r.1) :
    k0_pay12 (F := Ideal) v70 (k0_pay11 (F := Ideal) v68 v80 y) (ix2 r d) =
    y (ix3 (0 : Fin 1) r d) * v80 (ix2 k (0 : Fin 1)) * v68 (ix2 (0 : Fin 1) d) + v70 (ix2 (0 : Fin 1) d) := by
  obtain ⟨k, hl⟩ := k
  obtain rfl : k = 512 + r.1 := hk
  pointwise [k0_pay12, k0_pay11]

theorem pay13_at (r : Fin 128) (d : Fin 2048) (k : Fin 1024) (hk : k.1 = 640 + r.1) : k0_pay13 (F := Ideal) v68 v70 v80 y (ix2 r d) =
    y (ix3 (0 : Fin 1) r d) * v80 (ix2 k (0 : Fin 1)) * v68 (ix2 (0 : Fin 1) d) + v70 (ix2 (0 : Fin 1) d) := by
  obtain ⟨k, hl⟩ := k
  obtain rfl : k = 640 + r.1 := hk
  pointwise [k0_pay13]

theorem pay14_at (r : Fin 128) (d : Fin 2048) (k : Fin 1024) (hk : k.1 = 768 + r.1) : k0_pay14 (F := Ideal) v68 v70 v80 y (ix2 r d) =
    y (ix3 (0 : Fin 1) r d) * v80 (ix2 k (0 : Fin 1)) * v68 (ix2 (0 : Fin 1) d) + v70 (ix2 (0 : Fin 1) d) := by
  obtain ⟨k, hl⟩ := k
  obtain rfl : k = 768 + r.1 := hk
  pointwise [k0_pay14]

theorem pay16_at (r : Fin 128) (d : Fin 2048) (k : Fin 1024) (hk : k.1 = 896 + r.1) :
    k0_pay16 (F := Ideal) (k0_pay15 (F := Ideal) v68 v70 v80 y) (ix2 r d) =
    y (ix3 (0 : Fin 1) r d) * v80 (ix2 k (0 : Fin 1)) * v68 (ix2 (0 : Fin 1) d) + v70 (ix2 (0 : Fin 1) d) := by
  obtain ⟨k, hl⟩ := k
  obtain rfl : k = 896 + r.1 := hk
  pointwise [k0_pay16, k0_pay15]

/-- The halo rows before the block: zero in the first block of rows. -/
theorem pay17_at (a : BitVec 32) (r : Fin 16) (d : Fin 2048) : k0_pay17 (F := Ideal) a v68 v70 z (ix2 r d) =
    if a = 0#32 then 0
    else z (ix3 (0 : Fin 1) r d) * (rms fun d => z (ix3 (0 : Fin 1) r d)) * v68 (ix2 (0 : Fin 1) d) + v70 (ix2 (0 : Fin 1) d) := by
  pointwise [k0_pay17, rms]
  unfold Scalar.select Scalar.cmpi IntOp.cmpi
  by_cases h : a = 0#32
  · subst h; rfl
  · have e : (a == 0#32) = false := beq_false_of_ne h
    simp only [e, if_neg h]
    rfl

theorem pay18_at (r : Fin 16) (d : Fin 2048) : k0_pay18 (F := Ideal) z (ix2 r d) =
    z (ix3 (0 : Fin 1) r d) * rms fun d => z (ix3 (0 : Fin 1) r d) := by
  pointwise [k0_pay18, rms]

/-- The halo rows after the block: zero in the last block of rows. -/
theorem pay19_at (a : BitVec 1) (v : FVec Ideal S16x2048 .f32) (r : Fin 16) (d : Fin 2048) :
    k0_pay19 (F := Ideal) v68 v70 a v (ix2 r d) =
    if a = 1#1 then 0 else v (ix2 r d) * v68 (ix2 (0 : Fin 1) d) + v70 (ix2 (0 : Fin 1) d) := by
  pointwise [k0_pay19]
  rfl

end

section
variable (s : FVec Ideal S1056x2048 .bf16) (w : FVec Ideal S2048x512 .bf16) (cw : FVec Ideal S3x512 .f32) (cb : FVec Ideal S1x512 .f32)

/-- A row of the scratch times a column of the weights. -/
def prod (ρ : Fin 1056) (j : Fin 512) : EReal := ∑ d : Fin 2048, s (ix2 ρ d) * w (ix2 d j)

/-- The three-row convolution of the products around row `16 + r` of the scratch. -/
def conv (r : Fin 1024) (j : Fin 512) : EReal :=
  cw (ix2 (0 : Fin 3) j) * prod s w ⟨15 + r.1, by omega⟩ j + cw (ix2 (1 : Fin 3) j) * prod s w ⟨16 + r.1, by omega⟩ j
    + cw (ix2 (2 : Fin 3) j) * prod s w ⟨17 + r.1, by omega⟩ j + cb (ix2 (0 : Fin 1) j)

theorem pay21_at (ρ : Fin 1056) (j : Fin 512) : k0_pay21 (F := Ideal) s w (ix2 ρ j) = prod s w ρ j := by
  pointwise [k0_pay21, prod]

theorem pay22_at (ρ : Fin 1056) (k : Fin 1056) (hk : k.1 + 1 = ρ.1) (j : Fin 512) :
    k0_pay22 (F := Ideal) s w (ix2 ρ j) = prod s w k j := by
  pointwise [k0_pay22, pay21_at]
  exact congrArg (fun k => prod s w k j) (Fin.ext (by show (ρ.1 + 1056 - 1) % 1056 = k.1; omega))

theorem pay23_at (ρ : Fin 1056) (k : Fin 1056) (hk : k.1 = ρ.1 + 1) (j : Fin 512) :
    k0_pay23 (F := Ideal) s w (ix2 ρ j) = prod s w k j := by
  pointwise [k0_pay23, pay21_at]
  exact congrArg (fun k => prod s w k j) (Fin.ext (by show (ρ.1 + 1056 - 1055) % 1056 = k.1; omega))

theorem turn_up (r : Fin 1024) (h : (16 + r.1 + 1056 - 1) % 1056 < 1056) :
    (⟨(16 + r.1 + 1056 - 1) % 1056, h⟩ : Fin 1056) = ⟨15 + r.1, by omega⟩ := Fin.ext (by show _ = 15 + r.1; simp only; omega)

theorem turn_down (r : Fin 1024) (h : (16 + r.1 + 1056 - 1055) % 1056 < 1056) :
    (⟨(16 + r.1 + 1056 - 1055) % 1056, h⟩ : Fin 1056) = ⟨17 + r.1, by omega⟩ := Fin.ext (by show _ = 17 + r.1; simp only; omega)

theorem left_at (r : Fin 1024) (j : Fin 512) : k0_pay20 (F := Ideal) s w cw cb (ix2 r j) = conv s w cw cb r j := by
  pointwise [k0_pay20, conv, prod]
  rw [turn_up, turn_down]

/-- The block of the result: the gate times its logistic, times the value half. -/
theorem gate_at (g : FVec Ideal S1024x512 .f32) (r : Fin 1024) (j : Fin 512) :
    k0_pay1 (F := Ideal) g (k0_pay21 (F := Ideal) s w) cw (k0_pay22 (F := Ideal) s w) (k0_pay23 (F := Ideal) s w)
      (k0_pay24 (F := Ideal) cw) cb (ix3 (0 : Fin 1) r j) =
    g (ix2 r j) * Ideal.div 1 (1 + Ideal.exp (0 - g (ix2 r j))) * conv s w cw cb r j := by
  pointwise [k0_pay1, k0_pay24, conv]
  rw [pay22_at s w ⟨16 + r.1, by omega⟩ ⟨15 + r.1, by omega⟩ (by show 15 + r.1 + 1 = 16 + r.1; omega) j, pay21_at,
    pay23_at s w ⟨16 + r.1, by omega⟩ ⟨17 + r.1, by omega⟩ (by show 17 + r.1 = 16 + r.1 + 1; omega) j]

end

end Up

end
-- ==== Proof.Up.Block.lean ====
/-
  The scratch the first feed-forward product fills once per block of rows.

  The body stores ten chunks of rows: sixteen rows before the block, the block's 1024 rows in eight chunks of 128, and
  sixteen rows after it. `scr` is what they amount to, row by row, and `canon_pieces` and `readCov_pieces` say that the
  chunks, read back, are `scr`.
-/
module

public import proofs.«01_k».proof.Proof.Up.Steps
public import proofs.«01_k».proof.Proof.Gen.Kernel2Ideal.Frame
public import Idealize.ShloMosaic.Lib.Pipeline.ValueKit

@[expose] public section

set_option maxRecDepth 16384

noncomputable section

namespace Up

open Cert.Kernel2Ideal Cert.Kernel2Ideal.Gen Idealize.ShloMosaic Idealize.ShloMosaic.Tactic

section
variable (x0 : FVec Ideal S1x1024x2048 .f32) (x1 x2 : FVec Ideal S1x16x2048 .f32) (x3 : FVec Ideal S1x2048 .f32)
variable (x4 x5 : FVec Ideal S1x1x2048 .f32) (a : BitVec 32)

/-- A row of a block of hidden states, prepared for the product. -/
def uBlk {n : ℕ} (x : FVec Ideal (⟨3, ![1, n, 2048]⟩ : Shape) .f32) (r : Fin n) (d : Fin 2048) : EReal :=
  uRow (fun d => x (ix3 (0 : Fin 1) r d)) (fun d => x3 (ix2 (0 : Fin 1) d)) (fun d => x4 (ix3 (0 : Fin 1) (0 : Fin 1) d))
    (fun d => x5 (ix3 (0 : Fin 1) (0 : Fin 1) d)) d

/-- The scratch, row by row. -/
def scr : FVec Ideal S1056x2048 .bf16 := fun p =>
  if h : (p 0).1 < 16 then if a = 0#32 then 0 else uBlk x3 x4 x5 x1 ⟨(p 0).1, h⟩ (p 1)
  else if h' : (p 0).1 < 1040 then uBlk x3 x4 x5 x0 ⟨(p 0).1 - 16, by omega⟩ (p 1)
  else if a = 3#32 then 0 else uBlk x3 x4 x5 x2 ⟨(p 0).1 - 1040, by have : (p 0).1 < 1056 := (p 0).2; omega⟩ (p 1)

/-- The chunks, the last stored first. -/
def pieces : List (View.Piece (Elt Ideal) S1056x2048 .bf16) :=
  [⟨Rect.unit ![1040, 0] ![16, 2048] inb_S1056x2048_S16x2048_1040_0,
      k0_pay19 (F := Ideal) (k0_pay2 (F := Ideal) x3 x4) (k0_pay3 (F := Ideal) x5) (Scalar.cmpi CmpIPredicate.eq a 3#32)
        (k0_pay18 (F := Ideal) x2)⟩,
    ⟨Rect.unit ![0, 0] ![16, 2048] inb_S1056x2048_S16x2048_0_0,
      k0_pay17 (F := Ideal) a (k0_pay2 (F := Ideal) x3 x4) (k0_pay3 (F := Ideal) x5) x1⟩,
    ⟨Rect.unit ![912, 0] ![128, 2048] inb_S1056x2048_S128x2048_912_0,
      k0_pay16 (F := Ideal) (k0_pay15 (F := Ideal) (k0_pay2 (F := Ideal) x3 x4) (k0_pay3 (F := Ideal) x5) (k0_pay4 (F := Ideal) x0)
        (View.ld (Val := Elt Ideal) (e' := .f32) x0 (Rect.unit ![0, 896, 0] ![1, 128, 2048] inb_S1x1024x2048_S1x128x2048_0_896_0)))⟩,
    ⟨Rect.unit ![784, 0] ![128, 2048] inb_S1056x2048_S128x2048_784_0,
      k0_pay14 (F := Ideal) (k0_pay2 (F := Ideal) x3 x4) (k0_pay3 (F := Ideal) x5) (k0_pay4 (F := Ideal) x0)
        (View.ld (Val := Elt Ideal) (e' := .f32) x0 (Rect.unit ![0, 768, 0] ![1, 128, 2048] inb_S1x1024x2048_S1x128x2048_0_768_0))⟩,
    ⟨Rect.unit ![656, 0] ![128, 2048] inb_S1056x2048_S128x2048_656_0,
      k0_pay13 (F := Ideal) (k0_pay2 (F := Ideal) x3 x4) (k0_pay3 (F := Ideal) x5) (k0_pay4 (F := Ideal) x0)
        (View.ld (Val := Elt Ideal) (e' := .f32) x0 (Rect.unit ![0, 640, 0] ![1, 128, 2048] inb_S1x1024x2048_S1x128x2048_0_640_0))⟩,
    ⟨Rect.unit ![528, 0] ![128, 2048] inb_S1056x2048_S128x2048_528_0,
      k0_pay12 (F := Ideal) (k0_pay3 (F := Ideal) x5) (k0_pay11 (F := Ideal) (k0_pay2 (F := Ideal) x3 x4) (k0_pay4 (F := Ideal) x0)
        (View.ld (Val := Elt Ideal) (e' := .f32) x0 (Rect.unit ![0, 512, 0] ![1, 128, 2048] inb_S1x1024x2048_S1x128x2048_0_512_0)))⟩,
    ⟨Rect.unit ![400, 0] ![128, 2048] inb_S1056x2048_S128x2048_400_0,
      k0_pay10 (F := Ideal) (k0_pay2 (F := Ideal) x3 x4) (k0_pay3 (F := Ideal) x5) (k0_pay4 (F := Ideal) x0)
        (View.ld (Val := Elt Ideal) (e' := .f32) x0 (Rect.unit ![0, 384, 0] ![1, 128, 2048] inb_S1x1024x2048_S1x128x2048_0_384_0))⟩,
    ⟨Rect.unit ![272, 0] ![128, 2048] inb_S1056x2048_S128x2048_272_0,
      k0_pay9 (F := Ideal) (k0_pay2 (F := Ideal) x3 x4) (k0_pay3 (F := Ideal) x5) (k0_pay4 (F := Ideal) x0)
        (View.ld (Val := Elt Ideal) (e' := .f32) x0 (Rect.unit ![0, 256, 0] ![1, 128, 2048] inb_S1x1024x2048_S1x128x2048_0_256_0))⟩,
    ⟨Rect.unit ![144, 0] ![128, 2048] inb_S1056x2048_S128x2048_144_0,
      k0_pay8 (F := Ideal) (k0_pay2 (F := Ideal) x3 x4) (k0_pay3 (F := Ideal) x5)
        (k0_pay6 (F := Ideal) (View.ld (Val := Elt Ideal) (e' := .f32) x0
          (Rect.unit ![0, 128, 0] ![1, 128, 2048] inb_S1x1024x2048_S1x128x2048_0_128_0)))
        (k0_pay7 (F := Ideal) x0)⟩,
    ⟨Rect.unit ![16, 0] ![128, 2048] inb_S1056x2048_S128x2048_16_0,
      k0_pay5 (F := Ideal) x3 x4 x5 x0
        (View.ld (Val := Elt Ideal) (e' := .f32) x0 (Rect.unit ![0, 0, 0] ![1, 128, 2048] inb_S1x1024x2048_S1x128x2048_0_0_0))⟩]

variable (p : S1056x2048.Idx)

/-- Where a chunk of 128 rows of the block holds the element, it has `scr`'s value. -/
theorem chunk_tile (o o' : ℕ) (ho : o' = 16 + o) (hr : o + 128 ≤ 1024)
    (P : FVec Ideal S128x2048 .bf16) (y : FVec Ideal S1x128x2048 .f32)
    (hP : ∀ (r : Fin 128) (d : Fin 2048) (k : Fin 1024), k.1 = o + r.1 → P (ix2 r d) =
      y (ix3 (0 : Fin 1) r d) * k0_pay4 (F := Ideal) x0 (ix2 k (0 : Fin 1)) * k0_pay2 (F := Ideal) x3 x4 (ix2 (0 : Fin 1) d)
        + k0_pay3 (F := Ideal) x5 (ix2 (0 : Fin 1) d))
    (hy : ∀ (r : Fin 128) (d : Fin 2048) (k : Fin 1024), k.1 = o + r.1 → y (ix3 (0 : Fin 1) r d) = x0 (ix3 (0 : Fin 1) k d)) :
    View.TileAt (Val := Elt Ideal) (S := S1056x2048) (e := .bf16) p ![o', 0] ![128, 2048] P (scr x0 x1 x2 x3 x4 x5 a p) := by
  intro x hx
  obtain ⟨r, d, rfl⟩ : ∃ (r : Fin 128) (d : Fin 2048), x = ix2 r d := ⟨x 0, x 1, funext fun a => by fin_cases a <;> rfl⟩
  have h0 : (p 0).1 = o' + r.1 := hx 0
  have h1 : (p 1).1 = 0 + d.1 := hx 1
  have e1 : p 1 = d := Fin.ext (by omega)
  have hk : o + r.1 < 1024 := by omega
  refine (hP r d ⟨o + r.1, hk⟩ rfl).trans ?_
  rw [hy r d ⟨o + r.1, hk⟩ rfl, pay4_at, pay2_at, pay3_at]
  unfold scr
  rw [dif_neg (by omega), dif_pos (by omega), e1]
  have e0 : (⟨(p 0).1 - 16, by omega⟩ : Fin 1024) = ⟨o + r.1, hk⟩ := Fin.ext (by show (p 0).1 - 16 = o + r.1; omega)
  rw [e0]
  rfl

theorem ld_rows (o : ℕ) (inb) (r : Fin 128) (d : Fin 2048) (k : Fin 1024) (hk : k.1 = o + r.1) :
    (View.ld (Val := Elt Ideal) (e' := .f32) x0 (Rect.unit (s := S1x1024x2048) ![0, o, 0] ![1, 128, 2048] inb) : FVec Ideal S1x128x2048 .f32)
      (ix3 (0 : Fin 1) r d) = x0 (ix3 (0 : Fin 1) k d) :=
  View.ld_unit_apply_of (Val := Elt Ideal) (e := .f32) x0 ![0, o, 0] ![1, 128, 2048] inb (ix3 (0 : Fin 1) r d) (ix3 (0 : Fin 1) k d) (by
    intro a
    fin_cases a
    · rfl
    · exact hk
    · show d.1 = 0 + d.1; omega)

/-- The sixteen rows before the block. -/
theorem before_tile : View.TileAt (Val := Elt Ideal) (S := S1056x2048) (e := .bf16) p ![0, 0] ![16, 2048]
    (k0_pay17 (F := Ideal) a (k0_pay2 (F := Ideal) x3 x4) (k0_pay3 (F := Ideal) x5) x1) (scr x0 x1 x2 x3 x4 x5 a p) := by
  intro x hx
  obtain ⟨r, d, rfl⟩ : ∃ (r : Fin 16) (d : Fin 2048), x = ix2 r d := ⟨x 0, x 1, funext fun a => by fin_cases a <;> rfl⟩
  have h0 : (p 0).1 = 0 + r.1 := hx 0
  have h1 : (p 1).1 = 0 + d.1 := hx 1
  have e1 : p 1 = d := Fin.ext (by omega)
  refine (pay17_at x1 _ _ a r d).trans ?_
  rw [pay2_at, pay3_at]
  unfold scr
  rw [dif_pos (by omega), e1]
  have e0 : (⟨(p 0).1, by omega⟩ : Fin 16) = r := Fin.ext (by show (p 0).1 = r.1; omega)
  rw [e0]
  rfl

theorem cmpi_three : (Scalar.cmpi CmpIPredicate.eq a 3#32 = 1#1) ↔ a = 3#32 := by
  unfold Scalar.cmpi IntOp.cmpi
  constructor
  · intro h
    by_contra hn
    have e : (a == 3#32) = false := beq_false_of_ne hn
    simp only [e] at h
    exact absurd h (by decide)
  · rintro rfl
    rfl

/-- The sixteen rows after the block. -/
theorem after_tile : View.TileAt (Val := Elt Ideal) (S := S1056x2048) (e := .bf16) p ![1040, 0] ![16, 2048]
    (k0_pay19 (F := Ideal) (k0_pay2 (F := Ideal) x3 x4) (k0_pay3 (F := Ideal) x5) (Scalar.cmpi CmpIPredicate.eq a 3#32)
      (k0_pay18 (F := Ideal) x2)) (scr x0 x1 x2 x3 x4 x5 a p) := by
  intro x hx
  obtain ⟨r, d, rfl⟩ : ∃ (r : Fin 16) (d : Fin 2048), x = ix2 r d := ⟨x 0, x 1, funext fun a => by fin_cases a <;> rfl⟩
  have h0 : (p 0).1 = 1040 + r.1 := hx 0
  have h1 : (p 1).1 = 0 + d.1 := hx 1
  have e1 : p 1 = d := Fin.ext (by omega)
  refine (pay19_at _ _ _ _ r d).trans ?_
  rw [pay18_at, pay2_at, pay3_at]
  unfold scr
  rw [dif_neg (by omega), dif_neg (by omega), e1]
  have e0 : (⟨(p 0).1 - 1040, by omega⟩ : Fin 16) = r := Fin.ext (by show (p 0).1 - 1040 = r.1; omega)
  rw [e0]
  by_cases h : a = 3#32
  · rw [if_pos ((cmpi_three a).2 h), if_pos h]
  · rw [if_neg (fun k => h ((cmpi_three a).1 k)), if_neg h]
    rfl

theorem cover_pieces : ∃ q ∈ pieces x0 x1 x2 x3 x4 x5 a, p ∈ q.1.set :=
  View.cover_of_tiledBy (pieces x0 x1 x2 x3 x4 x5 a) ![16, 2048] (by sl_kernel_rfl) p

/-- THE CHUNKS AS ONE ARRAY. -/
theorem canon_pieces : View.canon (pieces x0 x1 x2 x3 x4 x5 a) = scr x0 x1 x2 x3 x4 x5 a := by
  funext p
  refine View.canon_eq_of_allAt _ p _ (cover_pieces x0 x1 x2 x3 x4 x5 a p) ?_
  unfold pieces
  refine View.allAt_cons_unit _ _ _ _ _ (after_tile x0 x1 x2 x3 x4 x5 a p) ?_
  refine View.allAt_cons_unit _ _ _ _ _ (before_tile x0 x1 x2 x3 x4 x5 a p) ?_
  refine View.allAt_cons_unit _ _ _ _ _ (chunk_tile x0 x1 x2 x3 x4 x5 a p 896 912 rfl (by omega) _ _ (pay16_at _ _ _ _) (ld_rows x0 896 _)) ?_
  refine View.allAt_cons_unit _ _ _ _ _ (chunk_tile x0 x1 x2 x3 x4 x5 a p 768 784 rfl (by omega) _ _ (pay14_at _ _ _ _) (ld_rows x0 768 _)) ?_
  refine View.allAt_cons_unit _ _ _ _ _ (chunk_tile x0 x1 x2 x3 x4 x5 a p 640 656 rfl (by omega) _ _ (pay13_at _ _ _ _) (ld_rows x0 640 _)) ?_
  refine View.allAt_cons_unit _ _ _ _ _ (chunk_tile x0 x1 x2 x3 x4 x5 a p 512 528 rfl (by omega) _ _ (pay12_at _ _ _ _) (ld_rows x0 512 _)) ?_
  refine View.allAt_cons_unit _ _ _ _ _ (chunk_tile x0 x1 x2 x3 x4 x5 a p 384 400 rfl (by omega) _ _ (pay10_at _ _ _ _) (ld_rows x0 384 _)) ?_
  refine View.allAt_cons_unit _ _ _ _ _ (chunk_tile x0 x1 x2 x3 x4 x5 a p 256 272 rfl (by omega) _ _ (pay9_at _ _ _ _) (ld_rows x0 256 _)) ?_
  refine View.allAt_cons_unit _ _ _ _ _ (chunk_tile x0 x1 x2 x3 x4 x5 a p 128 144 rfl (by omega) _ _ (pay8_at _ _ _ _) (ld_rows x0 128 _)) ?_
  refine View.allAt_cons_unit _ _ _ _ _ (chunk_tile x0 x1 x2 x3 x4 x5 a p 0 16 rfl (by omega) _ _
    (fun r d k hk => pay5_at _ _ _ _ _ r d k (by omega)) (ld_rows x0 0 _)) ?_
  exact View.allAt_nil _ _

/-- The chunks read back through the whole scratch. -/
theorem readCov_pieces {sig : RefSig} {κ : Kind} {sp : Space} (v : View sig κ sp S1056x2048 .bf16) (inb) :
    v.readCov (pieces x0 x1 x2 x3 x4 x5 a) (Rect.unit (s := S1056x2048) ![0, 0] ![1056, 2048] inb).toLoadRect =
      scr x0 x1 x2 x3 x4 x5 a := by
  rw [View.readCov_eq_canon_ld _ _ _ (cover_pieces x0 x1 x2 x3 x4 x5 a), canon_pieces]
  exact View.ld_unit_lit' inb _ (by intro a; fin_cases a <;> rfl)

end

end Up

end
-- ==== Proof.Up.Reference.lean ====
/-
  The first feed-forward product of the reference, read at one element.

  Rows are counted from one, so that row 0 and row 4097 are the rows of zeros before and after the sequence: `uAt` is a
  prepared row, `pAt` an entry of the product, `convAt` of the three-row convolution, `outAt` of the result.
-/
module

public import proofs.«01_k».proof.Proof.Up.Steps
public import proofs.«01_k».proof.Proof.Gen.Reference2Ideal.Read
public import Idealize.ShloMosaic.Lib.Pointwise

@[expose] public section

set_option maxRecDepth 16384

noncomputable section

namespace Up

open Cert.Reference2Ideal Cert.Reference2Ideal.Gen Cert.Reference2Ideal.Read Idealize.ShloMosaic

/-- The hidden states, the norm's weights, the scales and shifts, the product's weights, the convolution's and its bias. -/
abbrev Hid : Type := FVec Ideal S8x4096x2048 .f32
abbrev Nw : Type := FVec Ideal S2048 .f32
abbrev Mod : Type := FVec Ideal S8x1x2048 .f32
abbrev Wt : Type := FVec Ideal S2048x11264 .f32
abbrev Cw : Type := FVec Ideal S3x11264 .f32
abbrev Cb : Type := FVec Ideal S11264 .f32

section
variable (h : Hid) (nw : Nw) (sc sh : Mod) (w : Wt) (cw : Cw) (cb : Cb)

/-- Row `n` (from one) of batch entry `b`, prepared for the product; zero outside the sequence. -/
def uAt (b : Fin 8) (n : ℕ) (d : Fin 2048) : EReal :=
  if hn : 1 ≤ n ∧ n ≤ 4096 then
    uRow (fun d => h (ix3 b (⟨n - 1, by omega⟩ : Fin 4096) d)) (fun d => nw (ix1 d)) (fun d => sc (ix3 b (0 : Fin 1) d))
      (fun d => sh (ix3 b (0 : Fin 1) d)) d
  else 0

section
variable {N : ℕ} (w : FVec Ideal (⟨2, ![2048, N]⟩ : Shape) .f32) (cw : FVec Ideal (⟨2, ![3, N]⟩ : Shape) .f32)
  (cb : FVec Ideal (⟨1, ![N]⟩ : Shape) .f32)

/-- An entry of the product with weights of `N` columns. -/
def pAt (b : Fin 8) (n : ℕ) (j : Fin N) : EReal := ∑ d : Fin 2048, uAt h nw sc sh b n d * w (ix2 d j)

theorem pAt_out (b : Fin 8) (n : ℕ) (j : Fin N) (hn : ¬(1 ≤ n ∧ n ≤ 4096)) : pAt h nw sc sh w b n j = 0 := by
  unfold pAt
  refine Finset.sum_eq_zero fun d _ => ?_
  unfold uAt
  rw [dif_neg hn, zero_mul]

/-- An entry of the convolution: rows `g`, `g + 1` and `g + 2` counted from one. -/
def convAt (b : Fin 8) (g : ℕ) (j : Fin N) : EReal :=
  cw (ix2 (0 : Fin 3) j) * pAt h nw sc sh w b g j + cw (ix2 (1 : Fin 3) j) * pAt h nw sc sh w b (g + 1) j
    + cw (ix2 (2 : Fin 3) j) * pAt h nw sc sh w b (g + 2) j + cb (ix1 j)

end

/-- An entry of the result: the gate times its logistic, times the value half. -/
def outAt (b : Fin 8) (g : ℕ) (j j' : Fin 11264) : EReal :=
  convAt h nw sc sh w cw cb b g j * Ideal.div 1 (1 + Ideal.exp (0 - convAt h nw sc sh w cw cb b g j))
    * convAt h nw sc sh w cw cb b g j'

variable (b : Fin 8) (g : Fin 4096) (d : Fin 2048) (j : Fin 11264)

theorem ofBits_one : Ideal.ofBits .f32 0x3F800000#32 = 1 := by
  simp [Ideal.ofBits, Ideal.ieee, -EReal.coe_mul]; norm_num

theorem v7_at : val_main_v7 (F := Ideal) h (ix3 b g (0 : Fin 1)) = rms fun d => h (ix3 b g d) := by
  rw [val_main_v7_apply, val_main_v6_apply, val_main_v5_apply, val_main_v4_apply, val_main_v3_apply, val_main_v2_apply,
    val_main_v1_apply, val_main_cst_apply, val_main_cst_0_apply, val_main_cst_1_apply]
  unfold rms
  have e : (Ideal.ofBits .f32 0x00000000#32 : EReal) = 0 := by simp [Ideal.ofBits, Ideal.ieee]
  have e2 : ∀ k : Fin 2048, val_main_v0 (F := Ideal) h (idx_main_v1 (idx_main_v2 (ix3 b g (0 : Fin 1))) k)
      = h (ix3 b g k) * h (ix3 b g k) := fun k => by
    rw [val_main_v0_apply, show idx_main_v1 (idx_main_v2 (ix3 b g (0 : Fin 1))) k = ix3 b g k from
      funext fun a => Fin.ext (by fin_cases a <;> rfl)]
    rfl
  rw [Finset.sum_congr rfl fun k _ => e2 k]
  show Ideal.rsqrt (Ideal.div (Ideal.ofBits .f32 0x00000000#32 + _) _ + _) = _
  rw [e, zero_add]
  rfl

theorem v18_at : val_main_v18 (F := Ideal) h nw sc sh (ix3 b g d) = uAt h nw sc sh b (g.1 + 1) d := by
  rw [val_main_v18_apply, val_main_v17_apply, val_main_v16_apply, val_main_v15_apply, val_main_v14_apply, val_main_v13_apply,
    val_main_cst_2_apply, val_main_v12_apply, val_main_v11_apply, val_main_v10_apply, val_main_v9_apply, val_main_v8_apply]
  rw [show idx_main_v8 (ix3 b g d) = ix3 b g (0 : Fin 1) from funext fun a => Fin.ext (by fin_cases a <;> rfl),
    show idx_main_v15 (ix3 b g d) = ix3 b (0 : Fin 1) d from funext fun a => Fin.ext (by fin_cases a <;> rfl),
    show idx_main_v17 (ix3 b g d) = ix3 b (0 : Fin 1) d from funext fun a => Fin.ext (by fin_cases a <;> rfl),
    show idx_main_v10 (idx_main_v11 (ix3 b g d)) = ix1 d from funext fun a => Fin.ext (by fin_cases a <;> rfl), v7_at]
  unfold uAt uRow
  rw [dif_pos (by omega)]
  show h (ix3 b g d) * _ * nw (ix1 d) * (Ideal.ofBits .f32 0x3F800000#32 + sc (ix3 b (0 : Fin 1) d)) + sh (ix3 b (0 : Fin 1) d) = _
  rw [ofBits_one, mul_assoc (h (ix3 b g d) * _)]
  rfl

theorem v19_at : val_main_v19 (F := Ideal) h nw sc sh w (ix3 b g j) = pAt h nw sc sh w b (g.1 + 1) j := by
  rw [val_main_v19_apply]
  unfold pAt
  refine Finset.sum_congr rfl fun d _ => ?_
  rw [← v18_at h nw sc sh b g d]
  rw [show lidx_main_v19 (ix3 b g j) d = ix3 b g d from funext fun a => Fin.ext (by fin_cases a <;> rfl),
    show ridx_main_v19 (ix3 b g j) d = ix2 d j from funext fun a => Fin.ext (by fin_cases a <;> rfl)]

theorem v20_at (i : S8x1x11264.Idx) : val_main_v20 (F := Ideal) i = 0 := by
  rw [val_main_v20_apply, val_main_cst_3_apply]
  show Ideal.ofBits .f32 0x00000000#32 = 0
  simp [Ideal.ofBits, Ideal.ieee]

/-- The row before. -/
theorem v22_at : val_main_v22 (F := Ideal) h nw sc sh w (ix3 b g j) = pAt h nw sc sh w b g.1 j := by
  unfold val_main_v22
  by_cases hg : g.1 = 0
  · refine (concatenate_pair_apply_left (t := S8x4096x11264) (s₁ := S8x1x11264) (s₂ := S8x4095x11264) 1 _ _ _ _ rfl
      (ix3 b (0 : Fin 1) j) (by intro a; fin_cases a <;> first | rfl | exact hg.symm)).trans ?_
    rw [v20_at, pAt_out _ _ _ _ _ _ _ _ (by omega)]
  · refine (concatenate_pair_apply_right (t := S8x4096x11264) (s₁ := S8x1x11264) (s₂ := S8x4095x11264) 1 _ _ _ _ rfl rfl
      (ix3 b (⟨g.1 - 1, by omega⟩ : Fin 4095) j)
      (by intro a ha; fin_cases a <;> first | rfl | exact absurd rfl ha)
      (by show g.1 - 1 + 1 = g.1; omega)).trans ?_
    rw [val_main_v21_apply, show idx_main_v21 (ix3 b (⟨g.1 - 1, by omega⟩ : Fin 4095) j) = ix3 b (⟨g.1 - 1, by omega⟩ : Fin 4096) j from
      funext fun a => Fin.ext (by fin_cases a <;> rfl), v19_at]
    exact congrArg (fun n => pAt h nw sc sh w b n j) (by show g.1 - 1 + 1 = g.1; omega)

/-- The row after. -/
theorem v24_at : val_main_v24 (F := Ideal) h nw sc sh w (ix3 b g j) = pAt h nw sc sh w b (g.1 + 2) j := by
  unfold val_main_v24
  by_cases hg : g.1 = 4095
  · refine (concatenate_pair_apply_right (t := S8x4096x11264) (s₁ := S8x4095x11264) (s₂ := S8x1x11264) 1 _ _ _ _ rfl rfl
      (ix3 b (0 : Fin 1) j)
      (by intro a ha; fin_cases a <;> first | rfl | exact absurd rfl ha)
      (by show 0 + 4095 = g.1; omega)).trans ?_
    rw [v20_at, pAt_out _ _ _ _ _ _ _ _ (by omega)]
  · refine (concatenate_pair_apply_left (t := S8x4096x11264) (s₁ := S8x4095x11264) (s₂ := S8x1x11264) 1 _ _ _ _ rfl
      (ix3 b (⟨g.1, by omega⟩ : Fin 4095) j) (by intro a; fin_cases a <;> rfl)).trans ?_
    rw [val_main_v23_apply, show idx_main_v23 (ix3 b (⟨g.1, by omega⟩ : Fin 4095) j) = ix3 b (⟨1 + g.1, by omega⟩ : Fin 4096) j from
      funext fun a => Fin.ext (by fin_cases a <;> rfl), v19_at]
    exact congrArg (fun n => pAt h nw sc sh w b n j) (by show 1 + g.1 + 1 = g.1 + 2; omega)

theorem v28_at : val_main_v28 (F := Ideal) cw (ix3 b g j) = cw (ix2 (0 : Fin 3) j) := by
  rw [val_main_v28_apply, val_main_v27_apply, val_main_v26_apply, val_main_v25_apply]
  exact congrArg cw (funext fun a => Fin.ext (by
    have := j.2
    match a with
    | ⟨0, _⟩ => rfl
    | ⟨1, _⟩ => first | rfl | (show j.1 % 11264 = j.1; omega)))

theorem v33_at : val_main_v33 (F := Ideal) cw (ix3 b g j) = cw (ix2 (1 : Fin 3) j) := by
  rw [val_main_v33_apply, val_main_v32_apply, val_main_v31_apply, val_main_v30_apply]
  exact congrArg cw (funext fun a => Fin.ext (by
    have := j.2
    match a with
    | ⟨0, _⟩ => rfl
    | ⟨1, _⟩ => first | rfl | (show j.1 % 11264 = j.1; omega)))

theorem v39_at : val_main_v39 (F := Ideal) cw (ix3 b g j) = cw (ix2 (2 : Fin 3) j) := by
  rw [val_main_v39_apply, val_main_v38_apply, val_main_v37_apply, val_main_v36_apply]
  exact congrArg cw (funext fun a => Fin.ext (by
    have := j.2
    match a with
    | ⟨0, _⟩ => rfl
    | ⟨1, _⟩ => first | rfl | (show j.1 % 11264 = j.1; omega)))

theorem v43_at : val_main_v43 (F := Ideal) cb (ix3 b g j) = cb (ix1 j) := by
  rw [val_main_v43_apply, val_main_v42_apply]
  exact congrArg cb (funext fun a => Fin.ext (by fin_cases a; rfl))

theorem v44_at : val_main_v44 (F := Ideal) h nw sc sh w cw cb (ix3 b g j) = convAt h nw sc sh w cw cb b g.1 j := by
  rw [val_main_v44_apply, val_main_v41_apply, val_main_v40_apply, val_main_v35_apply, val_main_v34_apply, val_main_v29_apply,
    v28_at, v33_at, v39_at, v43_at, v22_at, v19_at, v24_at]
  rfl

/-- THE REFERENCE at an element. -/
theorem ref_at (k : Fin 5632) : val_main_v49 (F := Ideal) h nw sc sh w cw cb (ix3 b g k) =
    outAt h nw sc sh w cw cb b g.1 ⟨k.1, by omega⟩ ⟨5632 + k.1, by omega⟩ := by
  rw [val_main_v49_apply, val_main_v48_apply, val_main_v47_apply, val_main_call0_v5_apply, val_main_call0_v4_apply,
    val_main_call0_cst_0_apply, val_main_call0_v3_apply, val_main_call0_v2_apply, val_main_call0_cst_apply,
    val_main_call0_v1_apply, val_main_call0_v0_apply, val_main_v46_apply, val_main_v45_apply]
  rw [show idx_main_v45 (ix3 b g k) = ix3 b g (⟨k.1, by omega⟩ : Fin 11264) from
      funext fun a => Fin.ext (by fin_cases a <;> rfl),
    show idx_main_v46 (ix3 b g k) = ix3 b g (⟨5632 + k.1, by omega⟩ : Fin 11264) from
      funext fun a => Fin.ext (by fin_cases a <;> rfl), v44_at, v44_at]
  unfold outAt
  generalize convAt h nw sc sh w cw cb b g.1 ⟨k.1, by omega⟩ = x
  show x * Ideal.div (Ideal.ofBits .f32 0x3F800000#32) (Ideal.ofBits .f32 0x3F800000#32 + Ideal.exp (-x)) * _ = _
  rw [ofBits_one, zero_sub]

end

end Up

end
-- ==== Proof.Up.Rows.lean ====
/-
  The scratch and its products in the reference's words.

  Both programs with a convolution prepare their rows in the same way: given what the blocks of a block of rows hold,
  `scr_rows` reads the scratch as rows of the sequence, and `conv_rows` the convolution of the scratch's products as the
  reference's.
-/
module

public import proofs.«01_k».proof.Proof.Up.Block
public import proofs.«01_k».proof.Proof.Up.Reference

@[expose] public section

set_option maxRecDepth 16384

noncomputable section

namespace Up

open Cert.Kernel2Ideal Cert.Kernel2Ideal.Gen Idealize.ShloMosaic

theorem ofNat_eq {n k : ℕ} (hn : n < 4) (hk : k < 4) : BitVec.ofNat 32 n = BitVec.ofNat 32 k ↔ n = k := by
  interval_cases n <;> interval_cases k <;> decide

section
variable (h : Hid) (nw : Nw) (sc sh : Mod) (b : Fin 8)

section
variable (x3 : FVec Ideal S1x2048 .f32) (x4 x5 : FVec Ideal S1x1x2048 .f32)
variable (h3 : ∀ d : Fin 2048, x3 (ix2 (0 : Fin 1) d) = nw (ix1 d))
variable (h4 : ∀ d : Fin 2048, x4 (ix3 (0 : Fin 1) (0 : Fin 1) d) = sc (ix3 b (0 : Fin 1) d))
variable (h5 : ∀ d : Fin 2048, x5 (ix3 (0 : Fin 1) (0 : Fin 1) d) = sh (ix3 b (0 : Fin 1) d))
include h3 h4 h5

/-- A prepared row of a block is the prepared row of the sequence it holds. -/
theorem uBlk_eq {n : ℕ} (x : FVec Ideal (⟨3, ![1, n, 2048]⟩ : Shape) .f32) (r : Fin n) (d : Fin 2048) (k : Fin 4096) (g : ℕ)
    (hg : g = k.1 + 1) (hx : ∀ d, x (ix3 (0 : Fin 1) r d) = h (ix3 b k d)) :
    uBlk x3 x4 x5 x r d = uAt h nw sc sh b g d := by
  subst hg
  unfold uBlk uAt
  rw [dif_pos (by omega), funext hx, funext h3, funext h4, funext h5]
  rfl

variable (i : Fin 4) (x0 : FVec Ideal S1x1024x2048 .f32) (x1 x2 : FVec Ideal S1x16x2048 .f32)
variable (h0 : ∀ (r : Fin 1024) (d : Fin 2048) (k : Fin 4096), k.1 = i.1 * 1024 + r.1 → x0 (ix3 (0 : Fin 1) r d) = h (ix3 b k d))
variable (h1 : i.1 ≠ 0 → ∀ (r : Fin 16) (d : Fin 2048) (k : Fin 4096), k.1 + 16 = i.1 * 1024 + r.1 →
  x1 (ix3 (0 : Fin 1) r d) = h (ix3 b k d))
variable (h2 : i.1 ≠ 3 → ∀ (r : Fin 16) (d : Fin 2048) (k : Fin 4096), k.1 = i.1 * 1024 + 1024 + r.1 →
  x2 (ix3 (0 : Fin 1) r d) = h (ix3 b k d))
include h0 h1 h2

/-- The scratch's rows, as filled at the first point of a block of rows. -/
theorem scr_rows (p : S1056x2048.Idx) : scr x0 x1 x2 x3 x4 x5 (BitVec.ofNat 32 i.1) p =
    uAt h nw sc sh b (i.1 * 1024 + (p 0).1 - 15) (p 1) := by
  have hp : (p 0).1 < 1056 := (p 0).2
  have hi := i.2
  unfold scr
  split
  · rename_i hlo
    split
    · rename_i hz
      have e : i.1 = 0 := (ofNat_eq hi (by omega)).1 hz
      unfold uAt
      rw [dif_neg (by omega)]
    · rename_i hz
      have e : i.1 ≠ 0 := fun k => hz ((ofNat_eq hi (by omega)).2 k)
      exact uBlk_eq h nw sc sh b x3 x4 x5 h3 h4 h5 _ _ _ ⟨i.1 * 1024 + (p 0).1 - 16, by omega⟩ _ (by simp only; omega)
        fun d => h1 e _ d _ (by simp only; omega)
  · rename_i hlo
    split
    · rename_i hmid
      exact uBlk_eq h nw sc sh b x3 x4 x5 h3 h4 h5 _ _ _ ⟨i.1 * 1024 + (p 0).1 - 16, by omega⟩ _ (by simp only; omega)
        fun d => h0 _ d _ (by simp only; omega)
    · rename_i hmid
      split
      · rename_i hl
        have e : i.1 = 3 := (ofNat_eq hi (by omega)).1 hl
        unfold uAt
        rw [dif_neg (by omega)]
      · rename_i hl
        have e : i.1 ≠ 3 := fun k => hl ((ofNat_eq hi (by omega)).2 k)
        exact uBlk_eq h nw sc sh b x3 x4 x5 h3 h4 h5 _ _ _ ⟨i.1 * 1024 + (p 0).1 - 16, by omega⟩ _ (by simp only; omega)
          fun d => h2 e _ d _ (by simp only; omega)

end

/-- The convolution of the scratch's products is the reference's. -/
theorem conv_rows {N : ℕ} (i : Fin 4) (W : FVec Ideal (⟨2, ![2048, N]⟩ : Shape) .f32) (CW : FVec Ideal (⟨2, ![3, N]⟩ : Shape) .f32)
    (CB : FVec Ideal (⟨1, ![N]⟩ : Shape) .f32) (s : FVec Ideal S1056x2048 .bf16) (w : FVec Ideal S2048x512 .bf16)
    (cw : FVec Ideal S3x512 .f32) (cb : FVec Ideal S1x512 .f32) (r : Fin 1024) (j : Fin 512) (col : Fin N)
    (hs : ∀ p, s p = uAt h nw sc sh b (i.1 * 1024 + (p 0).1 - 15) (p 1))
    (hw : ∀ d, w (ix2 d j) = W (ix2 d col)) (hcw : ∀ k : Fin 3, cw (ix2 k j) = CW (ix2 k col))
    (hcb : cb (ix2 (0 : Fin 1) j) = CB (ix1 col)) :
    conv s w cw cb r j = convAt h nw sc sh W CW CB b (i.1 * 1024 + r.1) col := by
  have hp : ∀ (ρ : Fin 1056) (n : ℕ), i.1 * 1024 + ρ.1 - 15 = n → prod s w ρ j = pAt h nw sc sh W b n col := by
    rintro ρ n rfl
    exact Finset.sum_congr rfl fun d _ => by rw [hs, hw]; rfl
  unfold conv convAt
  rw [hp _ (i.1 * 1024 + r.1) (by simp only; omega), hp _ (i.1 * 1024 + r.1 + 1) (by simp only; omega),
    hp _ (i.1 * 1024 + r.1 + 2) (by simp only; omega), hcw, hcw, hcw, hcb]

end

end Up

end
-- ==== Proof.Up.Blocks.lean ====
/-
  The blocks the first feed-forward product reads.

  The grid walks batch entry (8), block of 1024 rows (4) and block of 512 columns (11). `idx0 .. idx12` say which block of
  its array each window holds at point `t`; `V_v0`, `V_v1`, `V_v2` are the three arrays prepared before the call, and
  `blk0_at .. blk11_at` read each input block from the arguments.
-/
module

public import proofs.«01_k».proof.Proof.Up.Rows
public import proofs.«01_k».proof.Proof.Gen.Kernel2Ideal.Value
public import Idealize.ShloMosaic.Lib.StableHlo.Run
public import Idealize.ShloMosaic.Lib.ValueLayout

@[expose] public section

set_option maxRecDepth 16384

noncomputable section

namespace Up

open Cert.Kernel2Ideal Cert.Kernel2Ideal.Gen Idealize.ShloMosaic Idealize.ShloMosaic.TcCoe Idealize.SL.Sem
open Idealize.ShloMosaic.Pipeline (Dat)

theorem crd1 : ∀ t : Fin cfg0.N, (grid0.coords t 1 : ℕ) = t.val / 11 % 4 :=
  (by decide +kernel : ∀ t : Fin grid0.N, (grid0.coords t 1 : ℕ) = t.val / 11 % 4)

theorem idx0 : ∀ t : Fin cfg0.N, win0_0.index t = ![t.val / 44, t.val / 11 % 4, 0] :=
  (by decide +kernel : ∀ t : Fin grid0.N, win0_0.index t = ![t.val / 44, t.val / 11 % 4, 0])
theorem idx1 : ∀ t : Fin cfg0.N, win0_1.index t = ![t.val / 44, t.val / 11 % 4 * 64 - 1, 0] :=
  (by decide +kernel : ∀ t : Fin grid0.N, win0_1.index t = ![t.val / 44, t.val / 11 % 4 * 64 - 1, 0])
theorem idx2 : ∀ t : Fin cfg0.N, win0_2.index t = ![t.val / 44, min (t.val / 11 % 4 * 64 + 64) 255, 0] :=
  (by decide +kernel : ∀ t : Fin grid0.N, win0_2.index t = ![t.val / 44, min (t.val / 11 % 4 * 64 + 64) 255, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val / 44, 0, 0] :=
  (by decide +kernel : ∀ t : Fin grid0.N, win0_4.index t = ![t.val / 44, 0, 0])
theorem idx5 : ∀ t : Fin cfg0.N, win0_5.index t = ![t.val / 44, 0, 0] :=
  (by decide +kernel : ∀ t : Fin grid0.N, win0_5.index t = ![t.val / 44, 0, 0])
theorem idx6 : ∀ t : Fin cfg0.N, win0_6.index t = ![0, t.val % 11] :=
  (by decide +kernel : ∀ t : Fin grid0.N, win0_6.index t = ![0, t.val % 11])
theorem idx7 : ∀ t : Fin cfg0.N, win0_7.index t = ![0, 11 + t.val % 11] :=
  (by decide +kernel : ∀ t : Fin grid0.N, win0_7.index t = ![0, 11 + t.val % 11])
theorem idx8 : ∀ t : Fin cfg0.N, win0_8.index t = ![0, t.val % 11] :=
  (by decide +kernel : ∀ t : Fin grid0.N, win0_8.index t = ![0, t.val % 11])
theorem idx9 : ∀ t : Fin cfg0.N, win0_9.index t = ![0, t.val % 11] :=
  (by decide +kernel : ∀ t : Fin grid0.N, win0_9.index t = ![0, t.val % 11])
theorem idx10 : ∀ t : Fin cfg0.N, win0_10.index t = ![0, 11 + t.val % 11] :=
  (by decide +kernel : ∀ t : Fin grid0.N, win0_10.index t = ![0, 11 + t.val % 11])
theorem idx11 : ∀ t : Fin cfg0.N, win0_11.index t = ![0, 11 + t.val % 11] :=
  (by decide +kernel : ∀ t : Fin grid0.N, win0_11.index t = ![0, 11 + t.val % 11])
theorem idx12 : ∀ t : Fin cfg0.N, win0_12.index t = ![t.val / 44, t.val / 11 % 4, t.val % 11] :=
  (by decide +kernel : ∀ t : Fin grid0.N, win0_12.index t = ![t.val / 44, t.val / 11 % 4, t.val % 11])

section
variable (m : (ℓ : Loc nD τ sig) → Buf (Elt Ideal) ℓ) (c : Dev nD)

/-- The arguments as launched. -/
abbrev hid : Hid := m ((c.tc : Thread nD τ).loc main_arg0)
abbrev nwt : Nw := m ((c.tc : Thread nD τ).loc main_arg1)
abbrev scl : Mod := m ((c.tc : Thread nD τ).loc main_arg2)
abbrev shf : Mod := m ((c.tc : Thread nD τ).loc main_arg3)
abbrev wgt : Wt := m ((c.tc : Thread nD τ).loc main_arg4)
abbrev cwt : Cw := m ((c.tc : Thread nD τ).loc main_arg5)
abbrev cbs : Cb := m ((c.tc : Thread nD τ).loc main_arg6)

/-- The weights, cast. -/
theorem V_v0 (i : S2048x11264.Idx) : (V m c main_v0 : FVec Ideal S2048x11264 .bf16) i = wgt m c i := by
  show StableHlo.after hostOps0 _ (Proc.devRef .tc main_v0) i = _
  after_results
  rfl

/-- The convolution's bias as a row. -/
theorem V_v1 (j : Fin 11264) : (V m c main_v1 : FVec Ideal S1x11264 .f32) (ix2 (0 : Fin 1) j) = cbs m c (ix1 j) := by
  show StableHlo.after hostOps0 _ (Proc.devRef .tc main_v1) (ix2 (0 : Fin 1) j) = _
  after_results
  exact ValueIdx.shapeCast_a_1a_apply _ _ _ _

/-- The norm's weights as a row. -/
theorem V_v2 (d : Fin 2048) : (V m c main_v2 : FVec Ideal S1x2048 .f32) (ix2 (0 : Fin 1) d) = nwt m c (ix1 d) := by
  show StableHlo.after hostOps0 _ (Proc.devRef .tc main_v2) (ix2 (0 : Fin 1) d) = _
  after_results
  exact ValueIdx.shapeCast_a_1a_apply _ _ _ _

variable (t : Fin cfg0.N)

/-- Where point `t` is in the grid. -/
def ptB : Fin 8 := ⟨t.1 / 44, by have h : t.1 < 352 := lt_of_lt_of_eq t.2 N_0; omega⟩
def ptI : Fin 4 := ⟨t.1 / 11 % 4, by omega⟩
def ptJ : Fin 11 := ⟨t.1 % 11, by omega⟩

/-- A column of the gate's half, and of the value's. -/
def colG (j : Fin 512) : Fin 11264 := ⟨(ptJ t).1 * 512 + j.1, by have := (ptJ t).2; omega⟩
def colV (j : Fin 512) : Fin 11264 := ⟨5632 + ((ptJ t).1 * 512 + j.1), by have := (ptJ t).2; omega⟩

theorem blk0_at (r : Fin 1024) (d : Fin 2048) (k : Fin 4096) (hk : k.1 = (ptI t).1 * 1024 + r.1) :
    (iblk m c 0 t : FVec Ideal S1x1024x2048 .f32) (ix3 (0 : Fin 1) r d) = hid m c (ix3 (ptB t) k d) := by
  obtain ⟨k, hl⟩ := k
  obtain rfl : k = (ptI t).1 * 1024 + r.1 := hk
  refine Eq.trans ?_ (congrFun (V_main_arg0 m c) _)
  blk_ext [iblk, idx0, ptB, ptI]

theorem blk1_at (hi : (ptI t).1 ≠ 0) (r : Fin 16) (d : Fin 2048) (k : Fin 4096) (hk : k.1 + 16 = (ptI t).1 * 1024 + r.1) :
    (iblk m c 1 t : FVec Ideal S1x16x2048 .f32) (ix3 (0 : Fin 1) r d) = hid m c (ix3 (ptB t) k d) := by
  obtain ⟨k, hl⟩ := k
  obtain rfl : k = ((ptI t).1 * 64 - 1) * 16 + r.1 := by simp only at hk; omega
  refine Eq.trans ?_ (congrFun (V_main_arg0 m c) _)
  blk_ext [iblk, idx1, ptB, ptI]

theorem blk2_at (hi : (ptI t).1 ≠ 3) (r : Fin 16) (d : Fin 2048) (k : Fin 4096) (hk : k.1 = (ptI t).1 * 1024 + 1024 + r.1) :
    (iblk m c 2 t : FVec Ideal S1x16x2048 .f32) (ix3 (0 : Fin 1) r d) = hid m c (ix3 (ptB t) k d) := by
  obtain ⟨k, hl⟩ := k
  obtain rfl : k = min ((ptI t).1 * 64 + 64) 255 * 16 + r.1 := by have := (ptI t).2; simp only at hk; omega
  refine Eq.trans ?_ (congrFun (V_main_arg0 m c) _)
  blk_ext [iblk, idx2, ptB, ptI]

theorem blk3_at (d : Fin 2048) : (iblk m c 3 t : FVec Ideal S1x2048 .f32) (ix2 (0 : Fin 1) d) = nwt m c (ix1 d) := by
  refine Eq.trans ?_ (V_v2 m c d)
  blk_ext [iblk, idx3]

theorem blk4_at (d : Fin 2048) :
    (iblk m c 4 t : FVec Ideal S1x1x2048 .f32) (ix3 (0 : Fin 1) (0 : Fin 1) d) = scl m c (ix3 (ptB t) (0 : Fin 1) d) := by
  refine Eq.trans ?_ (congrFun (V_main_arg2 m c) _)
  blk_ext [iblk, idx4, ptB]

theorem blk5_at (d : Fin 2048) :
    (iblk m c 5 t : FVec Ideal S1x1x2048 .f32) (ix3 (0 : Fin 1) (0 : Fin 1) d) = shf m c (ix3 (ptB t) (0 : Fin 1) d) := by
  refine Eq.trans ?_ (congrFun (V_main_arg3 m c) _)
  blk_ext [iblk, idx5, ptB]

theorem blk6_at (d : Fin 2048) (j : Fin 512) :
    (iblk m c 6 t : FVec Ideal S2048x512 .bf16) (ix2 d j) = wgt m c (ix2 d (colG t j)) := by
  refine Eq.trans ?_ (V_v0 m c _)
  blk_ext [iblk, idx6, colG, ptJ]

theorem blk7_at (d : Fin 2048) (j : Fin 512) :
    (iblk m c 7 t : FVec Ideal S2048x512 .bf16) (ix2 d j) = wgt m c (ix2 d (colV t j)) := by
  refine Eq.trans ?_ (V_v0 m c _)
  blk_ext [iblk, idx7, colV, ptJ]

theorem blk8_at (k : Fin 3) (j : Fin 512) :
    (iblk m c 8 t : FVec Ideal S3x512 .f32) (ix2 k j) = cwt m c (ix2 k (colG t j)) := by
  refine Eq.trans ?_ (congrFun (V_main_arg5 m c) _)
  blk_ext [iblk, idx8, colG, ptJ]

theorem blk9_at (j : Fin 512) :
    (iblk m c 9 t : FVec Ideal S1x512 .f32) (ix2 (0 : Fin 1) j) = cbs m c (ix1 (colG t j)) := by
  refine Eq.trans ?_ (V_v1 m c _)
  blk_ext [iblk, idx9, colG, ptJ]

theorem blk10_at (k : Fin 3) (j : Fin 512) :
    (iblk m c 10 t : FVec Ideal S3x512 .f32) (ix2 k j) = cwt m c (ix2 k (colV t j)) := by
  refine Eq.trans ?_ (congrFun (V_main_arg5 m c) _)
  blk_ext [iblk, idx10, colV, ptJ]

theorem blk11_at (j : Fin 512) :
    (iblk m c 11 t : FVec Ideal S1x512 .f32) (ix2 (0 : Fin 1) j) = cbs m c (ix1 (colV t j)) := by
  refine Eq.trans ?_ (V_v1 m c _)
  blk_ext [iblk, idx11, colV, ptJ]

end

end Up

end
-- ==== Proof.Up.Array.lean ====
/-
  The result array of the first feed-forward product.

  `scratch_at` says what the scratch holds at every point: the prepared rows of the point's block of rows, with the row
  before it and the row after it. `block_eq` reads the block of the result from there, and `final` puts the blocks together
  into the reference's array.
-/
module

public import proofs.«01_k».proof.Proof.Up.Blocks
public import Idealize.ShloMosaic.Lib.WholeRead

@[expose] public section

set_option maxRecDepth 16384

noncomputable section

namespace Up

open Cert.Kernel2Ideal Cert.Kernel2Ideal.Gen Idealize.ShloMosaic Idealize.ShloMosaic.TcCoe Idealize.SL.Sem
open Idealize.ShloMosaic.Pipeline (Dat)

section
variable (m : (ℓ : Loc nD τ sig) → Buf (Elt Ideal) ℓ) (c : Dev nD) (t : Fin cfg0.N)

/-- The scratch's rows, as filled at the first point of a block of rows. -/
theorem scr_at (p : S1056x2048.Idx) :
    scr (iblk m c 0 t) (iblk m c 1 t) (iblk m c 2 t) (iblk m c 3 t) (iblk m c 4 t) (iblk m c 5 t)
      (BitVec.ofNat 32 (grid0.coords t 1 : ℕ)) p =
      uAt (hid m c) (nwt m c) (scl m c) (shf m c) (ptB t) ((ptI t).1 * 1024 + (p 0).1 - 15) (p 1) := by
  rw [show (grid0.coords t 1 : ℕ) = (ptI t).1 from crd1 t]
  exact scr_rows (hid m c) (nwt m c) (scl m c) (shf m c) (ptB t) _ _ _ (blk3_at m c t) (blk4_at m c t) (blk5_at m c t) (ptI t)
    _ _ _ (blk0_at m c t) (blk1_at m c t) (blk2_at m c t) p

theorem scratch_A (h0 : t.val % 11 = 0) : (outsAt0 m c t.val t.isLt).2 =
    scr (iblk m c 0 t) (iblk m c 1 t) (iblk m c 2 t) (iblk m c 3 t) (iblk m c 4 t) (iblk m c 5 t)
      (BitVec.ofNat 32 (grid0.coords t 1 : ℕ)) := by
  rw [outsAt0_A m c t h0]
  frame_out
  exact canon_pieces _ _ _ _ _ _ _

theorem scratch_B (h0 : ¬t.val % 11 = 0) (hp) : (outsAt0 m c t.val t.isLt).2 = (outsAt0 m c (t.val - 1) hp).2 := by
  rw [outsAt0_B m c t h0]
  rfl

/-- The scratch at every point. -/
theorem scratch_at (n : ℕ) (hn : n < cfg0.N) (p : S1056x2048.Idx) : (outsAt0 m c n hn).2 p =
    uAt (hid m c) (nwt m c) (scl m c) (shf m c) (ptB ⟨n, hn⟩) ((ptI ⟨n, hn⟩).1 * 1024 + (p 0).1 - 15) (p 1) := by
  induction n with
  | zero => exact (congrFun (scratch_A m c ⟨0, hn⟩ rfl) p).trans (scr_at m c ⟨0, hn⟩ p)
  | succ n ih =>
    by_cases h0 : (n + 1) % 11 = 0
    · exact (congrFun (scratch_A m c ⟨n + 1, hn⟩ h0) p).trans (scr_at m c ⟨n + 1, hn⟩ p)
    · have hn' : n < cfg0.N := Nat.lt_of_succ_lt hn
      refine (congrFun (scratch_B m c ⟨n + 1, hn⟩ h0 hn') p).trans ((ih hn').trans ?_)
      have eb : ptB ⟨n, hn'⟩ = ptB ⟨n + 1, hn⟩ := Fin.ext (by show n / 44 = (n + 1) / 44; omega)
      have ei : ptI ⟨n, hn'⟩ = ptI ⟨n + 1, hn⟩ := Fin.ext (by show n / 11 % 4 = (n + 1) / 11 % 4; omega)
      rw [eb, ei]

/-- The block of the result, from the scratch. -/
def outBlk (s : FVec Ideal S1056x2048 .bf16) : FVec Ideal S1x1024x512 .bf16 :=
  k0_pay1 (F := Ideal) (k0_pay20 (F := Ideal) s (iblk m c 6 t) (iblk m c 8 t) (iblk m c 9 t)) (k0_pay21 (F := Ideal) s (iblk m c 7 t))
    (iblk m c 10 t) (k0_pay22 (F := Ideal) s (iblk m c 7 t)) (k0_pay23 (F := Ideal) s (iblk m c 7 t))
    (k0_pay24 (F := Ideal) (iblk m c 10 t)) (iblk m c 11 t)

theorem out_A (h0 : t.val % 11 = 0) : (outsAt0 m c t.val t.isLt).1 = outBlk m c t (outsAt0 m c t.val t.isLt).2 := by
  rw [scratch_A m c t h0, outsAt0_A m c t h0]
  refine funext fun p => ?_
  frame_out
  exact congrArg (fun s => outBlk m c t s p) (readCov_pieces (iblk m c 0 t) (iblk m c 1 t) (iblk m c 2 t) (iblk m c 3 t)
    (iblk m c 4 t) (iblk m c 5 t) (BitVec.ofNat 32 (grid0.coords t 1 : ℕ)) (View.whole cc0_scratch0) inb_S1056x2048_S1056x2048_0_0)

theorem out_B (h0 : ¬t.val % 11 = 0) : (outsAt0 m c t.val t.isLt).1 = outBlk m c t (outsAt0 m c t.val t.isLt).2 := by
  rw [scratch_B m c t h0 (Nat.lt_of_le_of_lt (Nat.sub_le _ _) t.isLt), outsAt0_B m c t h0]
  refine funext fun p => ?_
  frame_out
  exact congrArg (fun s => outBlk m c t s p)
    (Memref.IsWhole.read_unread (m := Memref.whole cc0_scratch0) (Memref.isWhole_whole _) _)

/-- What the body leaves in the result's block at point `t`, at an index. -/
theorem block_eq (r : Fin 1024) (j : Fin 512) (g : Fin 4096) (hg : g.1 = (ptI t).1 * 1024 + r.1) (k : Fin 5632)
    (hk : k.1 = (ptJ t).1 * 512 + j.1) :
    (outsAt0 m c t.val t.isLt).1 (ix3 (0 : Fin 1) r j) =
      Cert.Reference2Ideal.Read.val_main_v49 (F := Ideal) (hid m c) (nwt m c) (scl m c) (shf m c) (wgt m c) (cwt m c) (cbs m c)
        (ix3 (ptB t) g k) := by
  have e : (outsAt0 m c t.val t.isLt).1 = outBlk m c t (outsAt0 m c t.val t.isLt).2 := by
    by_cases h0 : t.val % 11 = 0
    · exact out_A m c t h0
    · exact out_B m c t h0
  refine (congrFun e _).trans ?_
  rw [ref_at]
  unfold outBlk
  rw [gate_at, left_at]
  rw [conv_rows (hid m c) (nwt m c) (scl m c) (shf m c) (ptB t) (ptI t) (wgt m c) (cwt m c) (cbs m c) _ _ _ _ r j (colG t j)
      (scratch_at m c t.val t.isLt) (blk6_at m c t · j) (blk8_at m c t · j) (blk9_at m c t j),
    conv_rows (hid m c) (nwt m c) (scl m c) (shf m c) (ptB t) (ptI t) (wgt m c) (cwt m c) (cbs m c) _ _ _ _ r j (colV t j)
      (scratch_at m c t.val t.isLt) (blk7_at m c t · j) (blk10_at m c t · j) (blk11_at m c t j)]
  rw [← hg, show colG t j = ⟨k.1, by omega⟩ from Fin.ext hk.symm,
    show colV t j = ⟨5632 + k.1, by omega⟩ from Fin.ext (by show 5632 + _ = 5632 + _; rw [hk])]
  rfl

end

section
variable (m : (ℓ : Loc nD τ sig) → Buf (Elt Ideal) ℓ) (ρ : Dev nD → PrngReg)

/-- THE RESULT ARRAY: the reference's. -/
theorem final (c : Dev nD) : (dats m 0 c).arrAt 12 cfg0.N =
    Cert.Reference2Ideal.Read.val_main_v49 (F := Ideal) (hid m c) (nwt m c) (scl m c) (shf m c) (wgt m c) (cwt m c) (cbs m c) := by
  refine (dats m 0 c).arrAt_eq_of_covers 12 _ (by decide +kernel) fun t hf y => ?_
  blk_simp
  rw [after0_12]
  obtain ⟨y0, r, j, rfl⟩ : ∃ (y0 : Fin 1) (r : Fin 1024) (j : Fin 512), y = ix3 y0 r j :=
    ⟨y 0, y 1, y 2, funext fun a => by fin_cases a <;> rfl⟩
  obtain rfl : y0 = 0 := Subsingleton.elim _ _
  have hi := (ptI t).2
  have hj := (ptJ t).2
  refine (block_eq m c t r j ⟨(ptI t).1 * 1024 + r.1, by omega⟩ rfl ⟨(ptJ t).1 * 512 + j.1, by omega⟩ rfl).trans (congrArg _ ?_)
  blk_ext [idx12, ptB, ptI, ptJ]

/-- The run: the result array at the reference's, the arguments unchanged. -/
theorem run : θ_run defs (onTc (τ := τ) (main (F := Ideal))) ⟨m, fun _ => 0, ρ⟩ fun r => ∀ c : Dev nD,
      r.2.mem ((c.tc : Thread nD τ).loc main_v3) =
        Cert.Reference2Ideal.Read.val_main_v49 (F := Ideal) (hid m c) (nwt m c) (scl m c) (shf m c) (wgt m c) (cwt m c) (cbs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ k c => ⟨(k c).1.trans (final m c), (k c).2⟩)
    (Cert.Kernel2Ideal.Value.run_blocks m ρ)

end

end Up

end
-- ==== Proof.Up.Claims.lean ====
/-
  The claims about the first feed-forward product, from its parts: the generated frames, and the two runs ending at one
  array.
-/
module

public import proofs.«01_k».proof.Defs
public import proofs.«01_k».proof.Proof.Up.Array
public import proofs.«01_k».proof.Proof.Gen.Kernel2.Frame
public import proofs.«01_k».proof.Proof.Gen.Reference2Ideal.Run
public import Idealize.ShloMosaic.Lib.Quiescent

@[expose] public section

noncomputable section

namespace Up.Claims

open Idealize.ShloMosaic Idealize.ShloMosaic.TcCoe Idealize.SL.Sem

theorem frame_kernel : Cert.quiescent_Kernel2 := fun m ρ _ => Cert.Kernel2.Gen.frame m ρ
theorem frame_kernelIdeal : Cert.quiescent_Kernel2Ideal := fun m ρ _ => Cert.Kernel2Ideal.Gen.frame m ρ
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => Cert.Reference2Ideal.Read.val_main_v49 (F := Ideal) (hid m c) (nwt m c) (scl m c) (shf m c) (wgt m c)
    (cwt m c) (cbs m c), run m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6⟩ := hagree c
  rw [Cert.Reference2Ideal.Read.val_main_v49_eq, h0, h1, h2, h3, h4, h5, h6]

end Up.Claims

end
-- ==== Proof.Down.Slots.lean ====
/-
  The scratch of an output projection, and the block stored from it.

  A group of four points computes four products, one for each slot of the scratch; `filled` says which slots hold a product
  of the present group, every point adds its own (`filled_put`), and at the last one all four are there (`put_last`),
  whatever the scratch held at first. `outBlk` is the block then stored.
-/
module

public import proofs.«01_k».proof.Proof.Gen.Kernel3Ideal.Frame
public import Idealize.ShloMosaic.Lib.WritesUnit
public import Idealize.ShloMosaic.Lib.VecWindow
public import Idealize.ShloMosaic.Lib.Pipeline.ValueKit

@[expose] public section

set_option maxRecDepth 16384

noncomputable section

namespace Down

open Cert.Kernel3Ideal Cert.Kernel3Ideal.Gen
open Idealize.ShloMosaic Idealize.ShloMosaic.TcCoe Idealize.ShloMosaic.Tactic

variable {F : FTy → Type} [FloatOps F]

/-- The scratch with slot `j` replaced. -/
def put (j : ℕ) (p : Vec F S1x512x512 .f32) (s : Vec F S4x512x512 .f32) : Vec F S4x512x512 .f32 := fun q =>
  if (q 0).1 = j then p (ix3 (0 : Fin 1) (q 1) (q 2)) else s q

/-- Slot `k` of the scratch. -/
abbrev slot (k : ℕ) (inb : ∀ a, (![k, 0, 0] : Fin 3 → ℕ) a + S1x512x512.size a ≤ S4x512x512.size a) (s : Vec F S4x512x512 .f32) :
    Vec F S1x512x512 .f32 := View.ld s (Rect.unit (s := S4x512x512) ![k, 0, 0] S1x512x512.size inb)

/-- The sum of the squares of each row of a slot. -/
def sumSq (o : Vec F S1x512x512 .f32) : FVec F S512x1 .f32 :=
  shapeCast S512x1 (multiReduction .add [1] S512
    (mulf (shapeCast S512x512 o shapeCasts_S1x512x512_S512x512 : FVec F S512x512 .f32)
      (shapeCast S512x512 o shapeCasts_S1x512x512_S512x512 : FVec F S512x512 .f32) : FVec F S512x512 .f32)
    0x00000000#32 reduces_S512x512_S512 (.inl rfl) rfl : FVec F S512 .f32) shapeCasts_S512_S512x1

/-- What each row is multiplied by: the reciprocal of the root of its mean square. -/
def scale (s : Vec F S4x512x512 .f32) : FVec F S512x1 .f32 :=
  rsqrt (addf (mulf (addf (addf (addf (sumSq (slot 0 inb_S4x512x512_S1x512x512_0_0_0 s))
      (sumSq (slot 1 inb_S4x512x512_S1x512x512_1_0_0 s))) (sumSq (slot 2 inb_S4x512x512_S1x512x512_2_0_0 s)))
      (sumSq (slot 3 inb_S4x512x512_S1x512x512_3_0_0 s)))
    (broadcast S512x1 (Scalar.ofBits .f32 0x3A000000#32 : F .f32)))
    (broadcast S512x1 (Scalar.ofBits .f32 0x358637BD#32 : F .f32)))

/-- A stored chunk of columns, from the chunk of the residual `h`, of the gate `g`, of the scratch `o` and of the weights `w`. -/
def chunk (r : FVec F S512x1 .f32) (h : Vec F S1x512x512 .f32) (g : Vec F S1x1x512 .f32) (o : Vec F S1x512x512 .f32)
    (w : Vec F S1x512 .f32) : Vec F S1x512x512 .f32 :=
  shapeCast S1x512x512 (addf (shapeCast S512x512 h shapeCasts_S1x512x512_S512x512 : FVec F S512x512 .f32)
    (mulf (broadcastTo S512x512 (shapeCast S1x512 g shapeCasts_S1x1x512_S1x512 : FVec F S1x512 .f32) broadcasts_S1x512_S512x512)
      (mulf (mulf (shapeCast S512x512 o shapeCasts_S1x512x512_S512x512 : FVec F S512x512 .f32)
        (broadcastTo S512x512 r broadcasts_S512x1_S512x512))
        (broadcastTo S512x512 (shapeCast S1x512 w shapeCasts_S1x512_S1x512 : FVec F S1x512 .f32) broadcasts_S1x512_S512x512))))
    shapeCasts_S512x512_S1x512x512

section
variable (s : Vec F S4x512x512 .f32) (x2 : Vec F S1x512x2048 .f32) (x3 : Vec F S1x1x2048 .f32) (x4 : Vec F S1x2048 .f32)

/-- The four chunks the last point of a group stores, the last one first. -/
def pieces : List (View.Piece (Elt F) S1x512x2048 .f32) :=
  [⟨Rect.unit (s := S1x512x2048) ![0, 0, 1536] S1x512x512.size inb_S1x512x2048_S1x512x512_0_0_1536,
      chunk (scale s) (View.ld x2 (Rect.unit (s := S1x512x2048) ![0, 0, 1536] S1x512x512.size inb_S1x512x2048_S1x512x512_0_0_1536))
        (View.ld x3 (Rect.unit (s := S1x1x2048) ![0, 0, 1536] S1x1x512.size inb_S1x1x2048_S1x1x512_0_0_1536))
        (slot 3 inb_S4x512x512_S1x512x512_3_0_0 s)
        (View.ld x4 (Rect.unit (s := S1x2048) ![0, 1536] S1x512.size inb_S1x2048_S1x512_0_1536))⟩,
    ⟨Rect.unit (s := S1x512x2048) ![0, 0, 1024] S1x512x512.size inb_S1x512x2048_S1x512x512_0_0_1024,
      chunk (scale s) (View.ld x2 (Rect.unit (s := S1x512x2048) ![0, 0, 1024] S1x512x512.size inb_S1x512x2048_S1x512x512_0_0_1024))
        (View.ld x3 (Rect.unit (s := S1x1x2048) ![0, 0, 1024] S1x1x512.size inb_S1x1x2048_S1x1x512_0_0_1024))
        (slot 2 inb_S4x512x512_S1x512x512_2_0_0 s)
        (View.ld x4 (Rect.unit (s := S1x2048) ![0, 1024] S1x512.size inb_S1x2048_S1x512_0_1024))⟩,
    ⟨Rect.unit (s := S1x512x2048) ![0, 0, 512] S1x512x512.size inb_S1x512x2048_S1x512x512_0_0_512,
      chunk (scale s) (View.ld x2 (Rect.unit (s := S1x512x2048) ![0, 0, 512] S1x512x512.size inb_S1x512x2048_S1x512x512_0_0_512))
        (View.ld x3 (Rect.unit (s := S1x1x2048) ![0, 0, 512] S1x1x512.size inb_S1x1x2048_S1x1x512_0_0_512))
        (slot 1 inb_S4x512x512_S1x512x512_1_0_0 s)
        (View.ld x4 (Rect.unit (s := S1x2048) ![0, 512] S1x512.size inb_S1x2048_S1x512_0_512))⟩,
    ⟨Rect.unit (s := S1x512x2048) ![0, 0, 0] S1x512x512.size inb_S1x512x2048_S1x512x512_0_0_0,
      chunk (scale s) (View.ld x2 (Rect.unit (s := S1x512x2048) ![0, 0, 0] S1x512x512.size inb_S1x512x2048_S1x512x512_0_0_0))
        (View.ld x3 (Rect.unit (s := S1x1x2048) ![0, 0, 0] S1x1x512.size inb_S1x1x2048_S1x1x512_0_0_0))
        (slot 0 inb_S4x512x512_S1x512x512_0_0_0 s)
        (View.ld x4 (Rect.unit (s := S1x2048) ![0, 0] S1x512.size inb_S1x2048_S1x512_0_0))⟩]

/-- The chunks fill the block. -/
theorem pieces_cover (y : S1x512x2048.Idx) : ∃ pc ∈ pieces s x2 x3 x4, y ∈ pc.1.set :=
  View.cover_of_tiledL (pieces s x2 x3 x4) S1x512x512.size (by sl_kernel_rfl) y

/-- The output block the last point of a group stores. -/
def outBlk : Vec F S1x512x2048 .f32 := View.canon (pieces s x2 x3 x4)

end

section
variable {N : ℕ} (hN : N = 256) (P : Fin N → Vec F S1x512x512 .f32)

/-- Point `k` of the group of point `t`. -/
def ptOf (t : Fin N) (k : Fin 4) : Fin N :=
  ⟨t.val - t.val % 4 + k.val, by
    have h := t.2
    have hk := k.2
    omega⟩

/-- The four products of the group of point `t`. -/
def accOf (t : Fin N) : Vec F S4x512x512 .f32 := fun q => P (ptOf hN t (q 0)) (ix3 (0 : Fin 1) (q 1) (q 2))

/-- The slots of the points before point `n` in its group hold their products. -/
def filled (n : ℕ) (s : Vec F S4x512x512 .f32) : Prop :=
  ∀ (u : Fin N) (q : S4x512x512.Idx), u.val / 4 = n / 4 → u.val < n → (q 0).val = u.val % 4 →
    s q = P u (ix3 (0 : Fin 1) (q 1) (q 2))

theorem filled_start (n : ℕ) (hn : n % 4 = 0) (s : Vec F S4x512x512 .f32) : filled P n s :=
  fun u q h1 h2 _ => absurd h1 (by omega)

theorem filled_put (t : Fin N) (s : Vec F S4x512x512 .f32) (h : filled P t.val s) :
    filled P (t.val + 1) (put (t.val % 4) (P t) s) := by
  intro u q h1 h2 h3
  unfold put
  by_cases hu : u.val = t.val
  · obtain rfl : u = t := Fin.ext hu
    rw [if_pos h3]
  · rw [if_neg (by omega)]
    exact h u q (by omega) (by omega) h3

theorem put_last (t : Fin N) (ht : t.val % 4 = 3) (s : Vec F S4x512x512 .f32) (h : filled P t.val s) :
    put (t.val % 4) (P t) s = accOf hN P t := by
  funext q
  have hq : (q 0).val < 4 := (q 0).2
  unfold put accOf
  by_cases h0 : (q 0).val = t.val % 4
  · rw [if_pos h0, show ptOf hN t (q 0) = t from Fin.ext (by show t.val - t.val % 4 + (q 0).val = t.val; omega)]
  · rw [if_neg h0]
    refine h (ptOf hN t (q 0)) q ?_ ?_ ?_
    · show (t.val - t.val % 4 + (q 0).val) / 4 = t.val / 4; omega
    · show t.val - t.val % 4 + (q 0).val < t.val; omega
    · show (q 0).val = (t.val - t.val % 4 + (q 0).val) % 4; omega

end

end Down

end
-- ==== Proof.Down.Body.lean ====
/-
  One grid point of the down projection.

  A point multiplies its block of activations by its block of weights and lays the product down in one of the four slots
  of the scratch. The last point of each group of four then reads the four slots and stores the output block. `body_lays`
  and `body_stores` say so of the printed body.
-/
module

public import proofs.«01_k».proof.Proof.Down.Slots

@[expose] public section

set_option maxRecDepth 16384

noncomputable section

namespace Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The product of a block of activations and a block of weights, in the shape of a slot. -/
def prod (x0 : Vec F S1x512x5632 .bf16) (x1 : Vec F S5632x512 .bf16) : Vec F S1x512x512 .f32 :=
  shapeCast S1x512x512 (matmul dot_S512x5632_S5632x512_S512x512_1_0_0_1_n_n none
    (shapeCast S512x5632 x0 shapeCasts_S1x512x5632_S512x5632 : FVec F S512x5632 .bf16)
    (shapeCast S5632x512 x1 shapeCasts_S5632x512_S5632x512 : FVec F S5632x512 .bf16)
    (constant S512x512 .f32 0x00000000#32) : FVec F S512x512 .f32) shapeCasts_S512x512_S1x512x512

/-- Slot `j` holds what was put there, and the other slots are as before. -/
theorem read_put {arg9 : Memref sig .tc .vmem S4x512x512 .f32} (f : arg9.view.ty.Contents (Elt F)) (i : grid0.Coords)
    (p : Vec F S1x512x512 .f32) (inb) :
    arg9.view.read (Elt F) (arg9.view.writes (Elt F) f [⟨Rect.unit (s := S4x512x512) (k0_off1 i) S1x512x512.size inb, p⟩])
      = put (i 2).1 p (arg9.view.read (Elt F) f) := by
  funext q
  rw [View.read_writes_cons_unit arg9.view f inb p [] q (k0_off1_eq i)]
  have h1 : (q 1).1 < 512 := (q 1).2
  have h2 : (q 2).1 < 512 := (q 2).2
  unfold put
  by_cases h : (q 0).1 = (i 2).1
  · rw [if_pos h, dif_pos (by
      intro a
      fin_cases a
      · exact ⟨le_of_eq h.symm, by show (q 0).1 < (i 2).1 + 1; omega⟩
      · exact ⟨Nat.zero_le _, by show (q 1).1 < 0 + 512; omega⟩
      · exact ⟨Nat.zero_le _, by show (q 2).1 < 0 + 512; omega⟩)]
    refine congrArg p (funext fun a => Fin.ext ?_)
    fin_cases a
    · show (q 0).1 - (i 2).1 = 0; omega
    · exact Nat.sub_zero _
    · exact Nat.sub_zero _
  · rw [if_neg h, dif_neg (fun hh => h (by
      have := hh 0
      have h3 : (i 2).1 ≤ (q 0).1 := this.1
      have h4 : (q 0).1 < (i 2).1 + 1 := this.2
      omega))]
    rfl

/-- The product of what the two whole loads read. -/
theorem prod_loads (arg3 : Memref sig .tc .vmem S1x512x5632 .bf16) (harg3 : arg3.IsWhole) (arg4 : Memref sig .tc .vmem S5632x512 .bf16)
    (harg4 : arg4.IsWhole) (x0 : Vec F S1x512x5632 .bf16) (x1 : Vec F S5632x512 .bf16) :
    prod (arg3.view.readAt (Elt F) (Rect.unit (s := S1x512x5632) ![0, 0, 0] S1x512x5632.size inb_S1x512x5632_S1x512x5632_0_0_0).toLoadRect (harg3.unread x0))
      (arg4.view.readAt (Elt F) (Rect.unit (s := S5632x512) ![0, 0] S5632x512.size inb_S5632x512_S5632x512_0_0).toLoadRect (harg4.unread x1))
      = prod x0 x1 :=
  congrArg₂ prod ((View.readAt_full _ _ _).trans (harg3.read_unread x0)) ((View.readAt_full _ _ _).trans (harg4.read_unread x1))

/-- A point that is not the last of its group puts its product in its slot and touches nothing else. -/
theorem body_lays (c : Dev nD) (i : grid0.Coords) (arg3 : Memref sig .tc .vmem S1x512x5632 .bf16) (harg3 : arg3.IsWhole)
    (arg4 : Memref sig .tc .vmem S5632x512 .bf16) (harg4 : arg4.IsWhole)
    (arg5 : Memref sig .tc .vmem S1x512x2048 .f32) (harg5 : arg5.IsWhole)
    (arg6 : Memref sig .tc .vmem S1x1x2048 .f32) (harg6 : arg6.IsWhole)
    (arg7 : Memref sig .tc .vmem S1x2048 .f32) (harg7 : arg7.IsWhole)
    (arg8 : Memref sig .tc .vmem S1x512x2048 .f32) (harg8 : arg8.IsWhole)
    (arg9 : Memref sig .tc .vmem S4x512x512 .f32) (harg9 : arg9.IsWhole)
    (x0 : Vec F S1x512x5632 .bf16) (x1 : Vec F S5632x512 .bf16) (s : Vec F S4x512x512 .f32) (E : Set ℕ) (K : PUnit → sProp 𝕄)
    (hc : ¬ k0_cond1 i = 1#1) :
    iprop(owns (c : Thread nD τ) arg3 fullShare x0 ∗ owns (c : Thread nD τ) arg4 fullShare x1
        ∗ owns (c : Thread nD τ) arg9 fullShare s
        ∗ (iprop(owns (c : Thread nD τ) arg3 fullShare x0 ∗ owns (c : Thread nD τ) arg4 fullShare x1
            ∗ owns (c : Thread nD τ) arg9 fullShare (put (i 2).1 (prod x0 x1) s)) -∗ K ⟨⟩))
      ⊢ wp frame (wpE (defs₀ (F := F)) Variants.none c none) E
        (cc0_ffn_down_lat i arg3 harg3 arg4 harg4 arg5 harg5 arg6 harg6 arg7 harg7 arg8 harg8 arg9 harg9) K := by
  unfold cc0_ffn_down_lat owns
  iintro ⟨⟨%f0, %hf0, H0⟩, ⟨%f1, %hf1, H1⟩, ⟨%fs, %hfs, HS⟩, Hk⟩
  obtain rfl := harg3.eq_unread hf0; obtain rfl := harg4.eq_unread hf1; obtain rfl := harg9.eq_unread hfs
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  refine (read_put _ i _ _).trans ?_
  rw [hfs]
  refine congrArg (fun p => put (i 2).1 p s) ?_
  exact prod_loads arg3 harg3 arg4 harg4 x0 x1

/-- The last point of a group also stores the output block, read off the scratch its product has completed. -/
theorem body_stores (c : Dev nD) (i : grid0.Coords) (arg3 : Memref sig .tc .vmem S1x512x5632 .bf16) (harg3 : arg3.IsWhole)
    (arg4 : Memref sig .tc .vmem S5632x512 .bf16) (harg4 : arg4.IsWhole)
    (arg5 : Memref sig .tc .vmem S1x512x2048 .f32) (harg5 : arg5.IsWhole)
    (arg6 : Memref sig .tc .vmem S1x1x2048 .f32) (harg6 : arg6.IsWhole)
    (arg7 : Memref sig .tc .vmem S1x2048 .f32) (harg7 : arg7.IsWhole)
    (arg8 : Memref sig .tc .vmem S1x512x2048 .f32) (harg8 : arg8.IsWhole)
    (arg9 : Memref sig .tc .vmem S4x512x512 .f32) (harg9 : arg9.IsWhole)
    (x0 : Vec F S1x512x5632 .bf16) (x1 : Vec F S5632x512 .bf16) (s : Vec F S4x512x512 .f32) (E : Set ℕ) (K : PUnit → sProp 𝕄)
    (x2 : Vec F S1x512x2048 .f32) (x3 : Vec F S1x1x2048 .f32) (x4 : Vec F S1x2048 .f32) (hc : k0_cond1 i = 1#1) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ (∃ d, owns (c : Thread nD τ) arg8 fullShare d)
        ∗ owns (c : Thread nD τ) arg9 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ owns (c : Thread nD τ) arg8 fullShare (outBlk (put (i 2).1 (prod x0 x1) s) x2 x3 x4)
            ∗ owns (c : Thread nD τ) arg9 fullShare (put (i 2).1 (prod x0 x1) s)) -∗ K ⟨⟩))
      ⊢ wp frame (wpE (defs₀ (F := F)) Variants.none c none) E
        (cc0_ffn_down_lat i arg3 harg3 arg4 harg4 arg5 harg5 arg6 harg6 arg7 harg7 arg8 harg8 arg9 harg9) K := by
  unfold cc0_ffn_down_lat owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hfs
  sl_exec (disch := first | sl_exact hc)
  have hS : arg9.view.read (Elt F) (arg9.view.writes (Elt F) (harg9.unread s)
      (body_stores.sl.HS_1 c i arg3 harg3 arg4 harg4 x0 x1)) = put (i 2).1 (prod x0 x1) s := by
    refine (read_put _ i _ _).trans ?_
    rw [hfs]
    exact congrArg (fun p => put (i 2).1 p s) (prod_loads arg3 harg3 arg4 harg4 x0 x1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_eq_canon arg8.view f5 _ ?_).trans ?_
    · intro y
      exact View.cover_of_tiledL (s := S1x512x2048) _ S1x512x512.size (by sl_kernel_rfl) y
    refine Eq.trans (b := outBlk (arg9.view.read (Elt F) (arg9.view.writes (Elt F) (harg9.unread s)
      (body_stores.sl.HS_1 c i arg3 harg3 arg4 harg4 x0 x1))) (arg5.view.read (Elt F) (harg5.unread x2))
      (arg6.view.read (Elt F) (harg6.unread x3)) (arg7.view.read (Elt F) (harg7.unread x4))) rfl ?_
    rw [hS, hf2, hf3, hf4]
  iexists _; isplitr
  swap; · iexact HS
  ipureintro
  exact hS

end Down

end
-- ==== Proof.Down.Run.lean ====
/-
  The run of the down projection.

  With `filled`, of the products of the present group of four points, as the invariant, every final state has the output
  array at what `dats` computes and the arguments unchanged.
-/
module

public import proofs.«01_k».proof.Proof.Down.Body

@[expose] public section

set_option maxRecDepth 16384

noncomputable section

namespace Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The grid -/

theorem lt_points (t : Fin cfg0.N) : t.val < 256 := lt_of_lt_of_eq t.isLt (show cfg0.N = 256 from N_0)

/-- The innermost coordinate counts the points of a group. -/
theorem coord_two (t : Fin cfg0.N) : (grid0.coords t 2).val = t.val % 4 := by
  have h : (grid0.coords t 2).val = t.val / 1 % 4 := Pipeline.Grid.coords_val t 2 (by decide) rfl
  rw [h, Nat.div_one]

/-- The output block is stored at the last point of a group. -/
theorem cond_iff (t : Fin cfg0.N) : k0_cond1 (grid0.coords t) = 1#1 ↔ t.val % 4 = 3 := by
  have e2 := coord_two t
  simp only [k0_cond1, e2]
  word_cmp

/-! ## The scratch -/

/-- The product point `t` computes. -/
def prodAt (c : Dev nD) (t : Fin cfg0.N) : Vec F S1x512x512 .f32 := prod (iblk m c 0 t) (iblk m c 1 t)

/-- The four products of the group of point `t`. -/
def accAt (c : Dev nD) (t : Fin cfg0.N) : Vec F S4x512x512 .f32 := accOf N_0 (prodAt m c) t

/-! ## The proof data -/

/-- The scratch buffer, whole. -/
abbrev scr : Memref sig .tc .vmem S4x512x512 .f32 := Memref.whole cc0_scratch0

/-- What the launch hands over: the scratch and the generator register, at anything. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before point `n`. -/
def inv (c : Dev nD) (n : ℕ) : sProp 𝕄 :=
  iprop((∃ s, ⌜filled (prodAt m c) n s⌝ ∗ owns (c : Thread nD τ) scr fullShare s) ∗ (∃ r, prngReg c r))

/-- The contents of the windows' arrays and blocks, and the invariant, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (accAt m c t) (iblk m c 2 t) (iblk m c 3 t) (iblk m c 4 t)
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (accAt m c t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## One point -/

/-- What a point starts from. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it ends with. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl,
    after0, after1, after2, after3, after4]
  rw [show (dats m 0 c).Φ t.succ = inv m c (t.val + 1) from rfl, show (dats m 0 c).Φ t.castSucc = inv m c t.val from rfl]
  unfold inv
  by_cases h3 : t.val % 4 = 3
  · have hc := (cond_iff t).mpr h3
    rw [show (dats m 0 c).leavesExact 5 t = owns (c : Thread nD τ) (st0_5 t) fullShare ((dats m 0 c).after 5 t) from by
      unfold Dat.leavesExact
      rw [show cfg0.idle 5 (cfg0.grid.coords t) = false from by
        show (!(k0_cond1 (grid0.coords t) == 1#1)) = false
        rw [hc]; rfl], after5]
    iintro ⟨⟨⟨%s, %hs, HS⟩, Hg⟩, Ho, ⟨%d0, H0⟩, ⟨%d1, H1⟩, ⟨%d2, H2⟩, ⟨%d3, H3⟩, ⟨%d4, H4⟩, ⟨%d5, H5⟩⟩
    iapply (body_stores c (grid0.coords t) _ _ _ _ _ _ _ _ _ _ _ _ _ _ (iblk m c 0 t) (iblk m c 1 t) s Set.univ _
      (iblk m c 2 t) (iblk m c 3 t) (iblk m c 4 t) hc)
    rw [coord_two t, show prod (iblk m c 0 t) (iblk m c 1 t) = prodAt m c t from rfl]
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    rw [show put (t.val % 4) (prodAt m c t) s = accAt m c t from put_last N_0 (prodAt m c) t h3 s hs]
    iintro ⟨H0, H1, H2, H3, H4, H5, HS⟩
    isplitl [HS Hg]
    · isplitl [HS]
      · iexists _; isplitr
        swap; · iexact HS
        ipureintro; exact filled_start (prodAt m c) _ (by omega) _
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬ k0_cond1 (grid0.coords t) = 1#1 := fun h => h3 ((cond_iff t).mp h)
    rw [(dats m 0 c).leavesExact_idle 5 t (by
        show (!(k0_cond1 (grid0.coords t) == 1#1)) = true
        rw [Bool.not_eq_true']
        exact beq_false_of_ne hc)
      (by
        have h := flush0_5 t
        exact Bool.eq_false_iff.mpr fun hf => h3 (h.mp hf))]
    iintro ⟨⟨⟨%s, %hs, HS⟩, Hg⟩, Ho, ⟨%d0, H0⟩, ⟨%d1, H1⟩, ⟨%d2, H2⟩, ⟨%d3, H3⟩, ⟨%d4, H4⟩, H5⟩
    iapply (body_lays c (grid0.coords t) _ _ _ _ _ _ _ _ _ _ _ _ _ _ (iblk m c 0 t) (iblk m c 1 t) s Set.univ _ hc)
    rw [coord_two t, show prod (iblk m c 0 t) (iblk m c 1 t) = prodAt m c t from rfl]
    isplitl [H0]; · iexact H0
    isplitl [H1]; · iexact H1
    isplitl [HS]; · iexact HS
    iintro ⟨H0, H1, HS⟩
    isplitl [HS Hg]
    · isplitl [HS]
      · iexists _; isplitr
        swap; · iexact HS
        ipureintro; exact filled_put (prodAt m c) t s hs
      iexact Hg
    isplitl [Ho]; · iexact Ho
    isplitl [H0]; · iexact H0
    isplitl [H1]; · iexact H1
    isplitl [H2]; · iexact H2
    isplitl [H3]; · iexact H3
    isplitl [H4]; · iexact H4
    iexact H5

/-! ## The run -/

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem start (c : Dev nD) : Pipeline.ΦA spec0 c ⊢ (dats m 0 c).Φ 0 := by
  rw [show (dats m 0 c).Φ 0 = inv m c 0 from rfl, PhiA_eq]
  unfold inv
  iintro ⟨⟨%d, HS⟩, Hg⟩
  isplitl [HS]
  · iexists _; isplitr
    swap; · iexact HS
    ipureintro; exact filled_start (prodAt m c) 0 rfl _
  iexact Hg

theorem finish (c : Dev nD) : (dats m 0 c).Φ (Fin.last cfg0.N) ⊢ Pipeline.ΦA spec0 c := by
  rw [show (dats m 0 c).Φ (Fin.last cfg0.N) = inv m c cfg0.N from rfl, PhiA_eq]
  unfold inv
  iintro ⟨⟨%d, %hd, HS⟩, Hg⟩
  isplitl [HS]
  · iexists _; iexact HS
  iexact Hg

set_option backward.isDefEq.respectTransparency.types false in
/-- Every run ends, with the arrays at what `dats` computes and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c w => by unfold Dat.share; exact ite_self _)
    (howed := fun _ _ => rfl) (V := V m) (hmain := hmain m Variants.none) (hA := A_eq m) (hin := start m) (hout := finish m)

theorem run : θ_run defs (onTc (τ := τ) (main (F := F))) (s₀ m ρ) (Pipeline.FramePost cfgs (dats m) 0 (V m)) :=
  (θ_run defs _ _).mono (fun _ h => h.1) (run_quiescent m ρ)

/-- Every run ends with the arguments unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Down

end
-- ==== Proof.Down.Steps.lean ====
/-
  The down projection's arithmetic, read at one element, and its output block as one array.

  `prod_at` reads a product, `scale_at` the factor of a row, `chunk_at` a stored chunk; `outBlk_at` puts the four chunks
  together.
-/
module

public import proofs.«01_k».proof.Proof.Down.Run
public import Idealize.ShloMosaic.Lib.Pointwise
public import Idealize.ShloMosaic.PureOps.Ideal.Laws

@[expose] public section

set_option maxRecDepth 16384

noncomputable section

namespace Down

open Cert.Kernel3Ideal Cert.Kernel3Ideal.Gen Idealize.ShloMosaic

/-- One over a row's root mean square (with the small constant both programs add under the root). -/
def rms (f : Fin 2048 → EReal) : EReal :=
  Ideal.rsqrt (Ideal.div (∑ d, f d * f d) (Ideal.ofBits .f32 0x45000000#32) + Ideal.ofBits .f32 0x358637BD#32)

theorem prod_at (x0 : FVec Ideal S1x512x5632 .bf16) (x1 : FVec Ideal S5632x512 .bf16) (r j : Fin 512) :
    prod (F := Ideal) x0 x1 (ix3 (0 : Fin 1) r j) = ∑ e : Fin 5632, x0 (ix3 (0 : Fin 1) r e) * x1 (ix2 e j) := by
  pointwise [prod]

theorem sumSq_at (o : FVec Ideal S1x512x512 .f32) (r : Fin 512) :
    sumSq (F := Ideal) o (ix2 r (0 : Fin 1)) = ∑ j : Fin 512, o (ix3 (0 : Fin 1) r j) * o (ix3 (0 : Fin 1) r j) := by
  pointwise [sumSq]

theorem slot_at (k : ℕ) (inb) (s : FVec Ideal S4x512x512 .f32) (n : Fin 4) (hn : n.1 = k) (r j : Fin 512) :
    (slot (F := Ideal) k inb s : FVec Ideal S1x512x512 .f32) (ix3 (0 : Fin 1) r j) = s (ix3 n r j) :=
  View.ld_unit_apply_of (Val := Elt Ideal) (e := .f32) s ![k, 0, 0] S1x512x512.size inb (ix3 (0 : Fin 1) r j) (ix3 n r j) (by
    intro a
    fin_cases a
    · exact hn
    · show r.1 = 0 + r.1; omega
    · show j.1 = 0 + j.1; omega)

/-- A row of the scratch, its four slots side by side. -/
def row (s : FVec Ideal S4x512x512 .f32) (r : Fin 512) (d : Fin 2048) : EReal :=
  s (ix3 (⟨d.1 / 512, by omega⟩ : Fin 4) r (⟨d.1 % 512, by omega⟩ : Fin 512))

/-- Half the exponent: dividing by 2048 is multiplying by its reciprocal. -/
theorem div_2048 (x : EReal) : Ideal.div x (Ideal.ofBits .f32 0x45000000#32) = x * Ideal.ofBits .f32 0x3A000000#32 := by
  have e1 : Ideal.ofBits .f32 0x45000000#32 = ((2048 : ℝ) : EReal) := by
    simp [Ideal.ofBits, Ideal.ieee, -EReal.coe_mul]; norm_num
  have e2 : Ideal.ofBits .f32 0x3A000000#32 = ((1 / 2048 : ℝ) : EReal) := by
    simp [Ideal.ofBits, Ideal.ieee, -EReal.coe_mul]; norm_num
  rw [e1, e2]
  unfold Ideal.div
  rw [if_neg (by norm_num), ← EReal.coe_inv]
  norm_num

/-- A sum over 2048 columns, 512 at a time. -/
theorem sum_split (f : Fin 2048 → EReal) :
    ∑ d, f d = (∑ j : Fin 512, f ⟨j.1, by omega⟩) + (∑ j : Fin 512, f ⟨512 + j.1, by omega⟩)
      + (∑ j : Fin 512, f ⟨1024 + j.1, by omega⟩) + ∑ j : Fin 512, f ⟨1536 + j.1, by omega⟩ := by
  rw [show (∑ d, f d) = ∑ d : Fin (1536 + 512), f d from rfl, Fin.sum_univ_add]
  rw [show (∑ d : Fin 1536, f (Fin.castAdd 512 d)) = ∑ d : Fin (1024 + 512), f (Fin.castAdd 512 d) from rfl, Fin.sum_univ_add]
  rw [show (∑ d : Fin 1024, f (Fin.castAdd 512 (Fin.castAdd 512 d))) = ∑ d : Fin (512 + 512), f (Fin.castAdd 512 (Fin.castAdd 512 d)) from rfl,
    Fin.sum_univ_add]
  rfl

theorem scale_at (s : FVec Ideal S4x512x512 .f32) (r : Fin 512) :
    scale (F := Ideal) s (ix2 r (0 : Fin 1)) = rms (row s r) := by
  pointwise [scale, sumSq_at]
  unfold rms
  rw [div_2048, sum_split]
  have h : ∀ (k : ℕ) (n : Fin 4) (hn : n.1 = k) (inb) (j : Fin 512) (d : Fin 2048) (hd : d.1 = 512 * k + j.1),
      (slot (F := Ideal) k inb s : FVec Ideal S1x512x512 .f32) (ix3 (0 : Fin 1) r j) = row s r d := fun k n hn inb j d hd => by
    rw [slot_at k inb s n hn r j]
    unfold row
    rw [show (⟨d.1 / 512, by omega⟩ : Fin 4) = n from Fin.ext (by show d.1 / 512 = n.1; omega),
      show (⟨d.1 % 512, by omega⟩ : Fin 512) = j from Fin.ext (by show d.1 % 512 = j.1; omega)]
  have q : ∀ (k : ℕ) (n : Fin 4) (hn : n.1 = k) (inb) (c : Fin 512 → Fin 2048) (hc : ∀ j, (c j).1 = 512 * k + j.1),
      (∑ j : Fin 512, (slot (F := Ideal) k inb s : FVec Ideal S1x512x512 .f32) (ix3 (0 : Fin 1) r j)
        * (slot (F := Ideal) k inb s : FVec Ideal S1x512x512 .f32) (ix3 (0 : Fin 1) r j)) = ∑ j, row s r (c j) * row s r (c j) :=
    fun k n hn inb c hc => Finset.sum_congr rfl fun j _ => by rw [h k n hn inb j (c j) (hc j)]
  rw [q 0 0 rfl _ (fun j => ⟨j.1, by omega⟩) fun j => by simp, q 1 1 rfl _ (fun j => ⟨512 + j.1, by omega⟩) fun j => by simp,
    q 2 2 rfl _ (fun j => ⟨1024 + j.1, by omega⟩) fun j => by simp, q 3 3 rfl _ (fun j => ⟨1536 + j.1, by omega⟩) fun j => by simp]

theorem chunk_at (R : FVec Ideal S512x1 .f32) (h : FVec Ideal S1x512x512 .f32) (g : FVec Ideal S1x1x512 .f32)
    (o : FVec Ideal S1x512x512 .f32) (w : FVec Ideal S1x512 .f32) (r j : Fin 512) :
    chunk (F := Ideal) R h g o w (ix3 (0 : Fin 1) r j) = h (ix3 (0 : Fin 1) r j) + g (ix3 (0 : Fin 1) (0 : Fin 1) j)
      * (o (ix3 (0 : Fin 1) r j) * R (ix2 r (0 : Fin 1)) * w (ix2 (0 : Fin 1) j)) := by
  pointwise [chunk]

section
variable (s : FVec Ideal S4x512x512 .f32) (x2 : FVec Ideal S1x512x2048 .f32) (x3 : FVec Ideal S1x1x2048 .f32) (x4 : FVec Ideal S1x2048 .f32)

/-- An element of the output block. -/
def outAt (r : Fin 512) (d : Fin 2048) : EReal := x2 (ix3 (0 : Fin 1) r d)
  + x3 (ix3 (0 : Fin 1) (0 : Fin 1) d) * (row s r d * rms (row s r) * x4 (ix2 (0 : Fin 1) d))

/-- Where chunk `k` of columns holds the element, it has that value. -/
theorem chunk_tile (p : S1x512x2048.Idx) (k o : ℕ) (n : Fin 4) (hn : n.1 = k) (ho : o = 512 * k) (i2 i3 i4 is) :
    View.TileAt (Val := Elt Ideal) (S := S1x512x2048) (e := .f32) p ![0, 0, o] S1x512x512.size
      (chunk (F := Ideal) (scale s) (View.ld (Val := Elt Ideal) (e' := .f32) x2 (Rect.unit (s := S1x512x2048) ![0, 0, o] S1x512x512.size i2))
        (View.ld (Val := Elt Ideal) (e' := .f32) x3 (Rect.unit (s := S1x1x2048) ![0, 0, o] S1x1x512.size i3)) (slot k is s)
        (View.ld (Val := Elt Ideal) (e' := .f32) x4 (Rect.unit (s := S1x2048) ![0, o] S1x512.size i4)))
      (outAt s x2 x3 x4 (p 1) (p 2)) := by
  intro x hx
  obtain ⟨x0, r, j, rfl⟩ : ∃ (x0 : Fin 1) (r j : Fin 512), x = ix3 x0 r j := ⟨x 0, x 1, x 2, funext fun a => by fin_cases a <;> rfl⟩
  obtain rfl : x0 = 0 := Subsingleton.elim _ _
  have h1 : (p 1).1 = 0 + r.1 := hx 1
  have h2 : (p 2).1 = o + j.1 := hx 2
  have e1 : p 1 = r := Fin.ext (by omega)
  rw [e1]
  generalize p 2 = d at *
  have hd : d.1 = o + j.1 := h2
  refine (chunk_at (scale s) _ _ _ _ r j).trans ?_
  unfold outAt row
  rw [scale_at, slot_at k is s n hn r j,
    show (⟨d.1 / 512, by omega⟩ : Fin 4) = n from Fin.ext (by show d.1 / 512 = n.1; omega),
    show (⟨d.1 % 512, by omega⟩ : Fin 512) = j from Fin.ext (by show d.1 % 512 = j.1; omega)]
  rw [View.ld_unit_apply_of (Val := Elt Ideal) (e := .f32) x2 ![0, 0, o] S1x512x512.size i2 (ix3 (0 : Fin 1) r j) (ix3 (0 : Fin 1) r d) (by
      intro a
      fin_cases a
      · rfl
      · show r.1 = 0 + r.1; omega
      · exact hd),
    View.ld_unit_apply_of (Val := Elt Ideal) (e := .f32) x3 ![0, 0, o] S1x1x512.size i3 (ix3 (0 : Fin 1) (0 : Fin 1) j) (ix3 (0 : Fin 1) (0 : Fin 1) d) (by
      intro a
      fin_cases a
      · rfl
      · rfl
      · exact hd),
    View.ld_unit_apply_of (Val := Elt Ideal) (e := .f32) x4 ![0, o] S1x512.size i4 (ix2 (0 : Fin 1) j) (ix2 (0 : Fin 1) d) (by
      intro a
      fin_cases a
      · rfl
      · exact hd)]
  rfl

/-- THE CHUNKS AS ONE BLOCK. -/
theorem outBlk_at (p : S1x512x2048.Idx) : (outBlk (F := Ideal) s x2 x3 x4 : FVec Ideal S1x512x2048 .f32) p = outAt s x2 x3 x4 (p 1) (p 2) := by
  unfold outBlk
  refine View.canon_eq_of_allAt (pieces (F := Ideal) s x2 x3 x4) p _ (pieces_cover (F := Ideal) s x2 x3 x4 p) ?_
  unfold pieces
  refine View.allAt_cons_unit _ _ _ _ _ ?_ ?_
  · exact chunk_tile s x2 x3 x4 p 3 1536 3 rfl rfl _ _ _ _
  refine View.allAt_cons_unit _ _ _ _ _ ?_ ?_
  · exact chunk_tile s x2 x3 x4 p 2 1024 2 rfl rfl _ _ _ _
  refine View.allAt_cons_unit _ _ _ _ _ ?_ ?_
  · exact chunk_tile s x2 x3 x4 p 1 512 1 rfl rfl _ _ _ _
  refine View.allAt_cons_unit _ _ _ _ _ ?_ ?_
  · exact chunk_tile s x2 x3 x4 p 0 0 0 rfl rfl _ _ _ _
  exact View.allAt_nil _ _

end

end Down

end
-- ==== Proof.Down.Reference.lean ====
/-
  The down projection of the reference, read at one element.
-/
module

public import proofs.«01_k».proof.Proof.Down.Steps
public import proofs.«01_k».proof.Proof.Gen.Reference3Ideal.Read

@[expose] public section

set_option maxRecDepth 16384

noncomputable section

namespace Down

open Cert.Reference3Ideal Cert.Reference3Ideal.Gen Cert.Reference3Ideal.Read Idealize.ShloMosaic

/-- The activations, the product's weights, the residual, the gate and the norm's weights. -/
abbrev Act : Type := FVec Ideal S8x4096x5632 .bf16
abbrev Wt : Type := FVec Ideal S5632x2048 .f32
abbrev Res : Type := FVec Ideal S8x4096x2048 .f32
abbrev Gate : Type := FVec Ideal S8x1x2048 .f32
abbrev Nw : Type := FVec Ideal S2048 .f32

/-- A row of a product over `K` activations. -/
def fRow {K : ℕ} (a : FVec Ideal (⟨3, ![8, 4096, K]⟩ : Shape) .bf16) (w : FVec Ideal (⟨2, ![K, 2048]⟩ : Shape) .f32) (b : Fin 8)
    (k : Fin 4096) (d : Fin 2048) : EReal := ∑ e : Fin K, a (ix3 b k e) * w (ix2 e d)

section
variable (a : Act) (w : Wt) (h : Res) (g : Gate) (nw : Nw) (b : Fin 8) (k : Fin 4096) (d : Fin 2048)

theorem v1_at : val_main_v1 (F := Ideal) a w (ix3 b k d) = fRow a w b k d := by
  rw [val_main_v1_apply]
  unfold fRow
  refine Finset.sum_congr rfl fun e _ => ?_
  rw [val_main_v0_apply, show lidx_main_v1 (ix3 b k d) e = ix3 b k e from funext fun a => Fin.ext (by fin_cases a <;> rfl),
    show ridx_main_v1 (ix3 b k d) e = ix2 e d from funext fun a => Fin.ext (by fin_cases a <;> rfl)]
  rfl

theorem v9_at : val_main_v9 (F := Ideal) a w (ix3 b k (0 : Fin 1)) = rms (fRow a w b k) := by
  rw [val_main_v9_apply, val_main_v8_apply, val_main_v7_apply, val_main_v6_apply, val_main_v5_apply, val_main_v4_apply,
    val_main_v3_apply, val_main_cst_apply, val_main_cst_0_apply, val_main_cst_1_apply]
  unfold rms
  have e : (Ideal.ofBits .f32 0x00000000#32 : EReal) = 0 := by simp [Ideal.ofBits, Ideal.ieee]
  have e2 : ∀ d : Fin 2048, val_main_v2 (F := Ideal) a w (idx_main_v3 (idx_main_v4 (ix3 b k (0 : Fin 1))) d)
      = fRow a w b k d * fRow a w b k d := fun d => by
    rw [val_main_v2_apply, show idx_main_v3 (idx_main_v4 (ix3 b k (0 : Fin 1))) d = ix3 b k d from
      funext fun a => Fin.ext (by fin_cases a <;> rfl), v1_at]
    rfl
  rw [Finset.sum_congr rfl fun d _ => e2 d]
  show Ideal.rsqrt (Ideal.div (Ideal.ofBits .f32 0x00000000#32 + _) _ + _) = _
  rw [e, zero_add]
  rfl

/-- THE REFERENCE AT AN ELEMENT. -/
theorem ref_at : val_main_v17 (F := Ideal) a w h g nw (ix3 b k d) =
    h (ix3 b k d) + g (ix3 b (0 : Fin 1) d) * (fRow a w b k d * rms (fRow a w b k) * nw (ix1 d)) := by
  rw [val_main_v17_apply, val_main_v16_apply, val_main_v15_apply, val_main_v14_apply, val_main_v13_apply, val_main_v12_apply,
    val_main_v11_apply, val_main_v10_apply]
  rw [show idx_main_v10 (ix3 b k d) = ix3 b k (0 : Fin 1) from funext fun a => Fin.ext (by fin_cases a <;> rfl),
    show idx_main_v15 (ix3 b k d) = ix3 b (0 : Fin 1) d from funext fun a => Fin.ext (by fin_cases a <;> rfl),
    show idx_main_v12 (idx_main_v13 (ix3 b k d)) = ix1 d from funext fun a => Fin.ext (by fin_cases a <;> rfl), v9_at, v1_at]
  rfl

end

end Down

end
-- ==== Proof.Down.Array.lean ====
/-
  The result array of the down projection.

  The grid walks batch entry (8), block of 512 rows (8) and block of 512 columns (4). `idx0 .. idx5` say which block of its
  array each window holds at point `t`, `blk0_at .. blk4_at` read each input block from the arguments, `row_at` reads the
  four products of a group, and `final` puts the output blocks together into the reference's array.
-/
module

public import proofs.«01_k».proof.Proof.Down.Reference
public import Idealize.ShloMosaic.Lib.StableHlo.Run
public import Idealize.ShloMosaic.Lib.ValueLayout
public import Idealize.ShloMosaic.Lib.WholeRead

@[expose] public section

set_option maxRecDepth 16384

noncomputable section

namespace Down

open Cert.Kernel3Ideal Cert.Kernel3Ideal.Gen Idealize.ShloMosaic Idealize.ShloMosaic.TcCoe Idealize.SL.Sem
open Idealize.ShloMosaic.Pipeline (Dat)

theorem idx0 : ∀ t : Fin cfg0.N, win0_0.index t = ![t.val / 32, t.val / 4 % 8, 0] :=
  (by decide +kernel : ∀ t : Fin grid0.N, win0_0.index t = ![t.val / 32, t.val / 4 % 8, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 32, t.val / 4 % 8, 0] :=
  (by decide +kernel : ∀ t : Fin grid0.N, win0_2.index t = ![t.val / 32, t.val / 4 % 8, 0])
theorem idx3 : ∀ t : Fin cfg0.N, win0_3.index t = ![t.val / 32, 0, 0] :=
  (by decide +kernel : ∀ t : Fin grid0.N, win0_3.index t = ![t.val / 32, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 32, t.val / 4 % 8, 0] :=
  (by decide +kernel : ∀ t : Fin grid0.N, win0_5.index t = ![t.val / 32, t.val / 4 % 8, 0])

section
variable (m : (ℓ : Loc nD τ sig) → Buf (Elt Ideal) ℓ) (c : Dev nD)

/-- The arguments as launched. -/
abbrev act : Act := m ((c.tc : Thread nD τ).loc main_arg0)
abbrev wgt : Wt := m ((c.tc : Thread nD τ).loc main_arg1)
abbrev res : Res := m ((c.tc : Thread nD τ).loc main_arg2)
abbrev gte : Gate := m ((c.tc : Thread nD τ).loc main_arg3)
abbrev nwt : Nw := m ((c.tc : Thread nD τ).loc main_arg4)

/-- The weights, cast. -/
theorem V_v0 (i : S5632x2048.Idx) : (V m c main_v0 : FVec Ideal S5632x2048 .bf16) i = wgt m c i := by
  show StableHlo.after hostOps0 _ (Proc.devRef .tc main_v0) i = _
  after_results
  rfl

/-- The norm's weights as a row. -/
theorem V_v1 (d : Fin 2048) : (V m c main_v1 : FVec Ideal S1x2048 .f32) (ix2 (0 : Fin 1) d) = nwt m c (ix1 d) := by
  show StableHlo.after hostOps0 _ (Proc.devRef .tc main_v1) (ix2 (0 : Fin 1) d) = _
  after_results
  exact ValueIdx.shapeCast_a_1a_apply _ _ _ _

variable (t : Fin cfg0.N)

/-- Where point `t` is in the grid. -/
def ptB : Fin 8 := ⟨t.1 / 32, by have h := lt_points t; omega⟩
def ptI : Fin 8 := ⟨t.1 / 4 % 8, by omega⟩

/-- A row of the block, in the array. -/
def rowOf (r : Fin 512) : Fin 4096 := ⟨(ptI t).1 * 512 + r.1, by have := (ptI t).2; omega⟩

theorem blk0_at (r : Fin 512) (e : Fin 5632) :
    (iblk m c 0 t : FVec Ideal S1x512x5632 .bf16) (ix3 (0 : Fin 1) r e) = act m c (ix3 (ptB t) (rowOf t r) e) := by
  refine Eq.trans ?_ (congrFun (V_main_arg0 m c) _)
  blk_ext [iblk, idx0, ptB, ptI, rowOf]

theorem blk1_at (e : Fin 5632) (j : Fin 512) (d : Fin 2048) (hd : d.1 = t.1 % 4 * 512 + j.1) :
    (iblk m c 1 t : FVec Ideal S5632x512 .bf16) (ix2 e j) = wgt m c (ix2 e d) := by
  obtain ⟨d, hl⟩ := d
  obtain rfl : d = t.1 % 4 * 512 + j.1 := hd
  refine Eq.trans ?_ (V_v0 m c _)
  blk_ext [iblk, idx1]

theorem blk2_at (r : Fin 512) (d : Fin 2048) :
    (iblk m c 2 t : FVec Ideal S1x512x2048 .f32) (ix3 (0 : Fin 1) r d) = res m c (ix3 (ptB t) (rowOf t r) d) := by
  refine Eq.trans ?_ (congrFun (V_main_arg2 m c) _)
  blk_ext [iblk, idx2, ptB, ptI, rowOf]

theorem blk3_at (d : Fin 2048) :
    (iblk m c 3 t : FVec Ideal S1x1x2048 .f32) (ix3 (0 : Fin 1) (0 : Fin 1) d) = gte m c (ix3 (ptB t) (0 : Fin 1) d) := by
  refine Eq.trans ?_ (congrFun (V_main_arg3 m c) _)
  blk_ext [iblk, idx3, ptB]

theorem blk4_at (d : Fin 2048) : (iblk m c 4 t : FVec Ideal S1x2048 .f32) (ix2 (0 : Fin 1) d) = nwt m c (ix1 d) := by
  refine Eq.trans ?_ (V_v1 m c d)
  blk_ext [iblk, idx4]

/-- The four products of a group are a row of the product. -/
theorem row_at (r : Fin 512) : row (accAt m c t) r = fRow (act m c) (wgt m c) (ptB t) (rowOf t r) := by
  funext d
  have hd := d.2
  have ht := lt_points t
  have hu : (ptOf N_0 t (⟨d.1 / 512, by omega⟩ : Fin 4)).1 = t.1 - t.1 % 4 + d.1 / 512 := rfl
  show prodAt m c (ptOf N_0 t (⟨d.1 / 512, by omega⟩ : Fin 4)) (ix3 (0 : Fin 1) r (⟨d.1 % 512, by omega⟩ : Fin 512)) = _
  generalize ptOf N_0 t (⟨d.1 / 512, by omega⟩ : Fin 4) = u at *
  unfold prodAt
  rw [prod_at]
  unfold fRow
  refine Finset.sum_congr rfl fun e _ => ?_
  rw [blk0_at m c u r e, blk1_at m c u e _ d (by show d.1 = u.1 % 4 * 512 + d.1 % 512; omega),
    show ptB u = ptB t from Fin.ext (by show u.1 / 32 = t.1 / 32; omega),
    show rowOf u r = rowOf t r from Fin.ext (by show u.1 / 4 % 8 * 512 + r.1 = t.1 / 4 % 8 * 512 + r.1; omega)]

/-- What the last point of a group stores, at an element. -/
theorem block_eq (r : Fin 512) (d : Fin 2048) :
    (outBlk (F := Ideal) (accAt m c t) (iblk m c 2 t) (iblk m c 3 t) (iblk m c 4 t) : FVec Ideal S1x512x2048 .f32) (ix3 (0 : Fin 1) r d) =
      Cert.Reference3Ideal.Read.val_main_v17 (F := Ideal) (act m c) (wgt m c) (res m c) (gte m c) (nwt m c)
        (ix3 (ptB t) (rowOf t r) d) := by
  refine (outBlk_at _ _ _ _ _).trans ?_
  rw [ref_at]
  show outAt _ _ _ _ r d = _
  unfold outAt
  rw [row_at, blk2_at, blk3_at, blk4_at]

end

section
variable (m : (ℓ : Loc nD τ sig) → Buf (Elt Ideal) ℓ) (ρ : Dev nD → PrngReg)

/-- THE RESULT ARRAY: the reference's. -/
theorem final (c : Dev nD) : (dats m 0 c).arrAt 5 cfg0.N =
    Cert.Reference3Ideal.Read.val_main_v17 (F := Ideal) (act m c) (wgt m c) (res m c) (gte m c) (nwt m c) := by
  refine (dats m 0 c).arrAt_eq_of_covers 5 _ (by decide +kernel) fun t hf y => ?_
  blk_simp
  rw [after5]
  obtain ⟨y0, r, d, rfl⟩ : ∃ (y0 : Fin 1) (r : Fin 512) (d : Fin 2048), y = ix3 y0 r d :=
    ⟨y 0, y 1, y 2, funext fun a => by fin_cases a <;> rfl⟩
  obtain rfl : y0 = 0 := Subsingleton.elim _ _
  refine (block_eq m c t r d).trans (congrArg _ ?_)
  blk_ext [idx5, ptB, ptI, rowOf]

/-- The run: the result array at the reference's, the arguments unchanged. -/
theorem run_final : θ_run defs (onTc (τ := τ) (main (F := Ideal))) ⟨m, fun _ => 0, ρ⟩ fun r => ∀ c : Dev nD,
      r.2.mem ((c.tc : Thread nD τ).loc main_v2) =
        Cert.Reference3Ideal.Read.val_main_v17 (F := Ideal) (act m c) (wgt m c) (res m c) (gte m c) (nwt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final m c), h.2.1 c⟩)
    (θ_run_and (run m ρ) (unchanged m ρ))

end

end Down

end
-- ==== Proof.Down.Claims.lean ====
/-
  The claims about the down projection. The two printed kernels, before and after the ideal pass, are the same text, so that
  the run proved for one is the run of the other (`defs_eq`).
-/
module

public import proofs.«01_k».proof.Defs
public import proofs.«01_k».proof.Proof.Down.Array
public import proofs.«01_k».proof.Proof.Gen.Kernel3.Frame
public import proofs.«01_k».proof.Proof.Gen.Reference3Ideal.Run
public import Idealize.ShloMosaic.Lib.Quiescent

@[expose] public section

set_option backward.isDefEq.respectTransparency.types false
set_option backward.isDefEq.respectTransparency false

noncomputable section

namespace Down.Claims

open Idealize.ShloMosaic Idealize.ShloMosaic.TcCoe Idealize.SL.Sem

theorem bodies_eq : Cert.Kernel3.defs₀ (F := Bits) = Cert.Kernel3Ideal.defs₀ (F := Bits) := by
  unfold Cert.Kernel3.defs₀ Cert.Kernel3Ideal.defs₀
  refine congrArg Defs.onTc (funext fun b => funext fun a => ?_)
  obtain ⟨k, hk⟩ := b
  cases k with
  | zero => rfl
  | succ k => exact absurd hk (by omega)

theorem defs_eq : Cert.Kernel3.defs (F := Bits) = Cert.Kernel3Ideal.defs (F := Bits) :=
  congrArg (Pipeline.defs (Cert.Kernel3.pcfgs (F := Bits))) bodies_eq

theorem frame_kernel : Cert.quiescent_Kernel3 := fun m ρ _ => by
  rw [defs_eq]
  exact Down.unchanged (F := Bits) m ρ
theorem frame_kernelIdeal : Cert.quiescent_Kernel3Ideal := fun m ρ _ => Down.unchanged (F := Ideal) m ρ
theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => Cert.Reference3Ideal.Read.val_main_v17 (F := Ideal) (act m c) (wgt m c) (res m c) (gte m c) (nwt m c),
    run_final m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4⟩ := hagree c
  rw [Cert.Reference3Ideal.Read.val_main_v17_eq, h0, h1, h2, h3, h4]

end Down.Claims

end
-- ==== Proof.Xbc.Reference.lean ====
/-
  The state-space mixer's input projection in the reference, read at one element.

  Rows are prepared, multiplied and convolved as in the feed-forward part (`uAt`, `pAt`, `convAt`), with the columns 4096 to
  10239 of the weights (`cols`).
-/
module

public import proofs.«01_k».proof.Proof.Up.Rows
public import proofs.«01_k».proof.Proof.Gen.Reference4Ideal.Read

@[expose] public section

set_option maxRecDepth 16384

noncomputable section

namespace Xbc

open Cert.Reference4Ideal Cert.Reference4Ideal.Gen Cert.Reference4Ideal.Read Idealize.ShloMosaic
open Up (Hid Nw Mod uAt uRow rms pAt pAt_out convAt ofBits_one)

/-- The whole projection's weights, and the convolution's weights and bias. -/
abbrev Wt : Type := FVec Ideal S2048x10368 .f32
abbrev Cw : Type := FVec Ideal S3x6144 .f32
abbrev Cb : Type := FVec Ideal S6144 .f32

/-- The columns of x, B and C. -/
def cols (w : Wt) : FVec Ideal (⟨2, ![2048, 6144]⟩ : Shape) .f32 := fun p =>
  w (ix2 (p 0 : Fin 2048) (⟨4096 + (p 1).1, by have : (p 1).1 < 6144 := (p 1).2; omega⟩ : Fin 10368))

/-- A number times its logistic. -/
def silu (x : EReal) : EReal := x * Ideal.div 1 (1 + Ideal.exp (0 - x))

section
variable (h : Hid) (nw : Nw) (sc sh : Mod) (w : Wt) (cw : Cw) (cb : Cb)
variable (b : Fin 8) (g : Fin 4096) (d : Fin 2048) (j : Fin 6144)

/-- The prepared rows are those of the feed-forward part. -/
theorem v18_at : val_main_v18 (F := Ideal) h nw sc sh (ix3 b g d) = uAt h nw sc sh b (g.1 + 1) d :=
  Up.v18_at h nw sc sh b g d

theorem v19_at : val_main_v19 (F := Ideal) w (ix2 d j) = cols w (ix2 d j) := by
  rw [val_main_v19_apply]
  exact congrArg w (funext fun a => Fin.ext (by fin_cases a <;> rfl))

theorem v20_at : val_main_v20 (F := Ideal) h nw sc sh w (ix3 b g j) = pAt h nw sc sh (cols w) b (g.1 + 1) j := by
  rw [val_main_v20_apply]
  unfold pAt
  refine Finset.sum_congr rfl fun d _ => ?_
  rw [← v18_at h nw sc sh b g d, ← v19_at w d j]
  rw [show lidx_main_v20 (ix3 b g j) d = ix3 b g d from funext fun a => Fin.ext (by fin_cases a <;> rfl),
    show ridx_main_v20 (ix3 b g j) d = ix2 d j from funext fun a => Fin.ext (by fin_cases a <;> rfl)]

theorem v21_at (i : S8x1x6144.Idx) : val_main_v21 (F := Ideal) i = 0 := by
  rw [val_main_v21_apply, val_main_cst_3_apply]
  show Ideal.ofBits .f32 0x00000000#32 = 0
  simp [Ideal.ofBits, Ideal.ieee]

/-- The row before. -/
theorem v23_at : val_main_v23 (F := Ideal) h nw sc sh w (ix3 b g j) = pAt h nw sc sh (cols w) b g.1 j := by
  unfold val_main_v23
  by_cases hg : g.1 = 0
  · refine (concatenate_pair_apply_left (t := S8x4096x6144) (s₁ := S8x1x6144) (s₂ := S8x4095x6144) 1 _ _ _ _ rfl
      (ix3 b (0 : Fin 1) j) (by intro a; fin_cases a <;> first | rfl | exact hg.symm)).trans ?_
    rw [v21_at, pAt_out _ _ _ _ _ _ _ _ (by omega)]
  · refine (concatenate_pair_apply_right (t := S8x4096x6144) (s₁ := S8x1x6144) (s₂ := S8x4095x6144) 1 _ _ _ _ rfl rfl
      (ix3 b (⟨g.1 - 1, by omega⟩ : Fin 4095) j)
      (by intro a ha; fin_cases a <;> first | rfl | exact absurd rfl ha)
      (by show g.1 - 1 + 1 = g.1; omega)).trans ?_
    rw [val_main_v22_apply, show idx_main_v22 (ix3 b (⟨g.1 - 1, by omega⟩ : Fin 4095) j) = ix3 b (⟨g.1 - 1, by omega⟩ : Fin 4096) j from
      funext fun a => Fin.ext (by fin_cases a <;> rfl), v20_at]
    exact congrArg (fun n => pAt h nw sc sh (cols w) b n j) (by show g.1 - 1 + 1 = g.1; omega)

/-- The row after. -/
theorem v25_at : val_main_v25 (F := Ideal) h nw sc sh w (ix3 b g j) = pAt h nw sc sh (cols w) b (g.1 + 2) j := by
  unfold val_main_v25
  by_cases hg : g.1 = 4095
  · refine (concatenate_pair_apply_right (t := S8x4096x6144) (s₁ := S8x4095x6144) (s₂ := S8x1x6144) 1 _ _ _ _ rfl rfl
      (ix3 b (0 : Fin 1) j)
      (by intro a ha; fin_cases a <;> first | rfl | exact absurd rfl ha)
      (by show 0 + 4095 = g.1; omega)).trans ?_
    rw [v21_at, pAt_out _ _ _ _ _ _ _ _ (by omega)]
  · refine (concatenate_pair_apply_left (t := S8x4096x6144) (s₁ := S8x4095x6144) (s₂ := S8x1x6144) 1 _ _ _ _ rfl
      (ix3 b (⟨g.1, by omega⟩ : Fin 4095) j) (by intro a; fin_cases a <;> rfl)).trans ?_
    rw [val_main_v24_apply, show idx_main_v24 (ix3 b (⟨g.1, by omega⟩ : Fin 4095) j) = ix3 b (⟨1 + g.1, by omega⟩ : Fin 4096) j from
      funext fun a => Fin.ext (by fin_cases a <;> rfl), v20_at]
    exact congrArg (fun n => pAt h nw sc sh (cols w) b n j) (by show 1 + g.1 + 1 = g.1 + 2; omega)

theorem v29_at : val_main_v29 (F := Ideal) cw (ix3 b g j) = cw (ix2 (0 : Fin 3) j) := by
  rw [val_main_v29_apply, val_main_v28_apply, val_main_v27_apply, val_main_v26_apply]
  exact congrArg cw (funext fun a => Fin.ext (by
    have := j.2
    match a with
    | ⟨0, _⟩ => rfl
    | ⟨1, _⟩ => first | rfl | (show j.1 % 6144 = j.1; omega)))

theorem v34_at : val_main_v34 (F := Ideal) cw (ix3 b g j) = cw (ix2 (1 : Fin 3) j) := by
  rw [val_main_v34_apply, val_main_v33_apply, val_main_v32_apply, val_main_v31_apply]
  exact congrArg cw (funext fun a => Fin.ext (by
    have := j.2
    match a with
    | ⟨0, _⟩ => rfl
    | ⟨1, _⟩ => first | rfl | (show j.1 % 6144 = j.1; omega)))

theorem v40_at : val_main_v40 (F := Ideal) cw (ix3 b g j) = cw (ix2 (2 : Fin 3) j) := by
  rw [val_main_v40_apply, val_main_v39_apply, val_main_v38_apply, val_main_v37_apply]
  exact congrArg cw (funext fun a => Fin.ext (by
    have := j.2
    match a with
    | ⟨0, _⟩ => rfl
    | ⟨1, _⟩ => first | rfl | (show j.1 % 6144 = j.1; omega)))

theorem v44_at : val_main_v44 (F := Ideal) cb (ix3 b g j) = cb (ix1 j) := by
  rw [val_main_v44_apply, val_main_v43_apply]
  exact congrArg cb (funext fun a => Fin.ext (by fin_cases a; rfl))

theorem v45_at : val_main_v45 (F := Ideal) h nw sc sh w cw cb (ix3 b g j) = convAt h nw sc sh (cols w) cw cb b g.1 j := by
  rw [val_main_v45_apply, val_main_v42_apply, val_main_v41_apply, val_main_v36_apply, val_main_v35_apply, val_main_v30_apply,
    v29_at, v34_at, v40_at, v44_at, v23_at, v20_at, v25_at]
  rfl

/-- THE REFERENCE at an element. -/
theorem ref_at : val_main_v46 (F := Ideal) h nw sc sh w cw cb (ix3 b g j) = silu (convAt h nw sc sh (cols w) cw cb b g.1 j) := by
  rw [val_main_v46_apply, val_main_call0_v5_apply, val_main_call0_v4_apply,
    val_main_call0_cst_0_apply, val_main_call0_v3_apply, val_main_call0_v2_apply, val_main_call0_cst_apply,
    val_main_call0_v1_apply, val_main_call0_v0_apply, v45_at]
  unfold silu
  generalize convAt h nw sc sh (cols w) cw cb b g.1 j = x
  show x * Ideal.div (Ideal.ofBits .f32 0x3F800000#32) (Ideal.ofBits .f32 0x3F800000#32 + Ideal.exp (-x)) = _
  rw [ofBits_one, zero_sub]

end

end Xbc

end
-- ==== Proof.Xbc.Array.lean ====
/-
  The result array of the state-space mixer's input projection.

  The grid walks batch entry (8), block of 1024 rows (4) and block of 512 columns (12). The scratch is filled as in the
  feed-forward part, at the first of twelve points; the block of the result is the convolution of its products times its
  logistic.
-/
module

public import proofs.«01_k».proof.Proof.Xbc.Reference
public import proofs.«01_k».proof.Proof.Gen.Kernel4Ideal.Value
public import Idealize.ShloMosaic.Lib.StableHlo.Run
public import Idealize.ShloMosaic.Lib.ValueLayout
public import Idealize.ShloMosaic.Lib.WholeRead

@[expose] public section

set_option maxRecDepth 16384

noncomputable section

namespace Xbc

open Cert.Kernel4Ideal Cert.Kernel4Ideal.Gen Idealize.ShloMosaic Idealize.ShloMosaic.TcCoe Idealize.SL.Sem
open Idealize.ShloMosaic.Pipeline (Dat)
open Up (Hid Nw Mod uAt conv prod convAt scr scr_rows conv_rows canon_pieces readCov_pieces)

theorem crd1 : ∀ t : Fin cfg0.N, (grid0.coords t 1 : ℕ) = t.val / 12 % 4 :=
  (by decide +kernel : ∀ t : Fin grid0.N, (grid0.coords t 1 : ℕ) = t.val / 12 % 4)

theorem idx0 : ∀ t : Fin cfg0.N, win0_0.index t = ![t.val / 48, t.val / 12 % 4, 0] :=
  (by decide +kernel : ∀ t : Fin grid0.N, win0_0.index t = ![t.val / 48, t.val / 12 % 4, 0])
theorem idx1 : ∀ t : Fin cfg0.N, win0_1.index t = ![t.val / 48, t.val / 12 % 4 * 64 - 1, 0] :=
  (by decide +kernel : ∀ t : Fin grid0.N, win0_1.index t = ![t.val / 48, t.val / 12 % 4 * 64 - 1, 0])
theorem idx2 : ∀ t : Fin cfg0.N, win0_2.index t = ![t.val / 48, min (t.val / 12 % 4 * 64 + 64) 255, 0] :=
  (by decide +kernel : ∀ t : Fin grid0.N, win0_2.index t = ![t.val / 48, min (t.val / 12 % 4 * 64 + 64) 255, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val / 48, 0, 0] :=
  (by decide +kernel : ∀ t : Fin grid0.N, win0_4.index t = ![t.val / 48, 0, 0])
theorem idx5 : ∀ t : Fin cfg0.N, win0_5.index t = ![t.val / 48, 0, 0] :=
  (by decide +kernel : ∀ t : Fin grid0.N, win0_5.index t = ![t.val / 48, 0, 0])
theorem idx6 : ∀ t : Fin cfg0.N, win0_6.index t = ![0, t.val % 12] :=
  (by decide +kernel : ∀ t : Fin grid0.N, win0_6.index t = ![0, t.val % 12])
theorem idx7 : ∀ t : Fin cfg0.N, win0_7.index t = ![0, t.val % 12] :=
  (by decide +kernel : ∀ t : Fin grid0.N, win0_7.index t = ![0, t.val % 12])
theorem idx8 : ∀ t : Fin cfg0.N, win0_8.index t = ![0, t.val % 12] :=
  (by decide +kernel : ∀ t : Fin grid0.N, win0_8.index t = ![0, t.val % 12])
theorem idx9 : ∀ t : Fin cfg0.N, win0_9.index t = ![t.val / 48, t.val / 12 % 4, t.val % 12] :=
  (by decide +kernel : ∀ t : Fin grid0.N, win0_9.index t = ![t.val / 48, t.val / 12 % 4, t.val % 12])

/-- The block of the result at an element. -/
theorem pay19_at (s : FVec Ideal S1056x2048 .bf16) (w : FVec Ideal S2048x512 .bf16) (cw : FVec Ideal S3x512 .f32)
    (cb : FVec Ideal S1x512 .f32) (r : Fin 1024) (j : Fin 512) :
    k0_pay19 (F := Ideal) s w cw cb (ix3 (0 : Fin 1) r j) = silu (conv s w cw cb r j) := by
  pointwise [k0_pay19, silu, conv, prod]
  rw [Up.turn_up, Up.turn_down]

section
variable (m : (ℓ : Loc nD τ sig) → Buf (Elt Ideal) ℓ) (c : Dev nD)

/-- The arguments as launched. -/
abbrev hid : Hid := m ((c.tc : Thread nD τ).loc main_arg0)
abbrev nwt : Nw := m ((c.tc : Thread nD τ).loc main_arg1)
abbrev scl : Mod := m ((c.tc : Thread nD τ).loc main_arg2)
abbrev shf : Mod := m ((c.tc : Thread nD τ).loc main_arg3)
abbrev wgt : Wt := m ((c.tc : Thread nD τ).loc main_arg4)
abbrev cwt : Cw := m ((c.tc : Thread nD τ).loc main_arg5)
abbrev cbs : Cb := m ((c.tc : Thread nD τ).loc main_arg6)

/-- The columns of the weights, cast. -/
theorem V_v1 (d : Fin 2048) (j : Fin 6144) : (V m c main_v1 : FVec Ideal S2048x6144 .bf16) (ix2 d j) = cols (wgt m c) (ix2 d j) := by
  show StableHlo.after hostOps0 _ (Proc.devRef .tc main_v1) (ix2 d j) = _
  after_results
  exact congrArg (wgt m c) (funext fun a => Fin.ext (by
    fin_cases a
    · show 0 + d.1 = d.1; omega
    · rfl))

/-- The convolution's bias as a row. -/
theorem V_v2 (j : Fin 6144) : (V m c main_v2 : FVec Ideal S1x6144 .f32) (ix2 (0 : Fin 1) j) = cbs m c (ix1 j) := by
  show StableHlo.after hostOps0 _ (Proc.devRef .tc main_v2) (ix2 (0 : Fin 1) j) = _
  after_results
  exact ValueIdx.shapeCast_a_1a_apply _ _ _ _

/-- The norm's weights as a row. -/
theorem V_v3 (d : Fin 2048) : (V m c main_v3 : FVec Ideal S1x2048 .f32) (ix2 (0 : Fin 1) d) = nwt m c (ix1 d) := by
  show StableHlo.after hostOps0 _ (Proc.devRef .tc main_v3) (ix2 (0 : Fin 1) d) = _
  after_results
  exact ValueIdx.shapeCast_a_1a_apply _ _ _ _

variable (t : Fin cfg0.N)

/-- Where point `t` is in the grid. -/
def ptB : Fin 8 := ⟨t.1 / 48, by have h : t.1 < 384 := lt_of_lt_of_eq t.2 N_0; omega⟩
def ptI : Fin 4 := ⟨t.1 / 12 % 4, by omega⟩

/-- A column of the block, in the array. -/
def col (j : Fin 512) : Fin 6144 := ⟨t.1 % 12 * 512 + j.1, by omega⟩

theorem blk0_at (r : Fin 1024) (d : Fin 2048) (k : Fin 4096) (hk : k.1 = (ptI t).1 * 1024 + r.1) :
    (iblk m c 0 t : FVec Ideal S1x1024x2048 .f32) (ix3 (0 : Fin 1) r d) = hid m c (ix3 (ptB t) k d) := by
  obtain ⟨k, hl⟩ := k
  obtain rfl : k = (ptI t).1 * 1024 + r.1 := hk
  refine Eq.trans ?_ (congrFun (V_main_arg0 m c) _)
  blk_ext [iblk, idx0, ptB, ptI]

theorem blk1_at (hi : (ptI t).1 ≠ 0) (r : Fin 16) (d : Fin 2048) (k : Fin 4096) (hk : k.1 + 16 = (ptI t).1 * 1024 + r.1) :
    (iblk m c 1 t : FVec Ideal S1x16x2048 .f32) (ix3 (0 : Fin 1) r d) = hid m c (ix3 (ptB t) k d) := by
  obtain ⟨k, hl⟩ := k
  obtain rfl : k = ((ptI t).1 * 64 - 1) * 16 + r.1 := by simp only at hk; omega
  refine Eq.trans ?_ (congrFun (V_main_arg0 m c) _)
  blk_ext [iblk, idx1, ptB, ptI]

theorem blk2_at (hi : (ptI t).1 ≠ 3) (r : Fin 16) (d : Fin 2048) (k : Fin 4096) (hk : k.1 = (ptI t).1 * 1024 + 1024 + r.1) :
    (iblk m c 2 t : FVec Ideal S1x16x2048 .f32) (ix3 (0 : Fin 1) r d) = hid m c (ix3 (ptB t) k d) := by
  obtain ⟨k, hl⟩ := k
  obtain rfl : k = min ((ptI t).1 * 64 + 64) 255 * 16 + r.1 := by have := (ptI t).2; simp only at hk; omega
  refine Eq.trans ?_ (congrFun (V_main_arg0 m c) _)
  blk_ext [iblk, idx2, ptB, ptI]

theorem blk3_at (d : Fin 2048) : (iblk m c 3 t : FVec Ideal S1x2048 .f32) (ix2 (0 : Fin 1) d) = nwt m c (ix1 d) := by
  refine Eq.trans ?_ (V_v3 m c d)
  blk_ext [iblk, idx3]

theorem blk4_at (d : Fin 2048) :
    (iblk m c 4 t : FVec Ideal S1x1x2048 .f32) (ix3 (0 : Fin 1) (0 : Fin 1) d) = scl m c (ix3 (ptB t) (0 : Fin 1) d) := by
  refine Eq.trans ?_ (congrFun (V_main_arg2 m c) _)
  blk_ext [iblk, idx4, ptB]

theorem blk5_at (d : Fin 2048) :
    (iblk m c 5 t : FVec Ideal S1x1x2048 .f32) (ix3 (0 : Fin 1) (0 : Fin 1) d) = shf m c (ix3 (ptB t) (0 : Fin 1) d) := by
  refine Eq.trans ?_ (congrFun (V_main_arg3 m c) _)
  blk_ext [iblk, idx5, ptB]

theorem blk6_at (d : Fin 2048) (j : Fin 512) :
    (iblk m c 6 t : FVec Ideal S2048x512 .bf16) (ix2 d j) = cols (wgt m c) (ix2 d (col t j)) := by
  refine Eq.trans ?_ (V_v1 m c _ _)
  blk_ext [iblk, idx6, col]

theorem blk7_at (k : Fin 3) (j : Fin 512) :
    (iblk m c 7 t : FVec Ideal S3x512 .f32) (ix2 k j) = cwt m c (ix2 k (col t j)) := by
  refine Eq.trans ?_ (congrFun (V_main_arg5 m c) _)
  blk_ext [iblk, idx7, col]

theorem blk8_at (j : Fin 512) :
    (iblk m c 8 t : FVec Ideal S1x512 .f32) (ix2 (0 : Fin 1) j) = cbs m c (ix1 (col t j)) := by
  refine Eq.trans ?_ (V_v2 m c _)
  blk_ext [iblk, idx8, col]

/-- The scratch's rows, as filled at the first point of a block of rows. -/
theorem scr_at (p : S1056x2048.Idx) :
    scr (iblk m c 0 t) (iblk m c 1 t) (iblk m c 2 t) (iblk m c 3 t) (iblk m c 4 t) (iblk m c 5 t)
      (BitVec.ofNat 32 (grid0.coords t 1 : ℕ)) p =
      uAt (hid m c) (nwt m c) (scl m c) (shf m c) (ptB t) ((ptI t).1 * 1024 + (p 0).1 - 15) (p 1) := by
  rw [show (grid0.coords t 1 : ℕ) = (ptI t).1 from crd1 t]
  exact scr_rows (hid m c) (nwt m c) (scl m c) (shf m c) (ptB t) _ _ _ (blk3_at m c t) (blk4_at m c t) (blk5_at m c t) (ptI t)
    _ _ _ (blk0_at m c t) (blk1_at m c t) (blk2_at m c t) p

theorem scratch_A (h0 : t.val % 12 = 0) : (outsAt0 m c t.val t.isLt).2 =
    scr (iblk m c 0 t) (iblk m c 1 t) (iblk m c 2 t) (iblk m c 3 t) (iblk m c 4 t) (iblk m c 5 t)
      (BitVec.ofNat 32 (grid0.coords t 1 : ℕ)) := by
  rw [outsAt0_A m c t h0]
  frame_out
  exact canon_pieces (iblk m c 0 t) (iblk m c 1 t) (iblk m c 2 t) (iblk m c 3 t) (iblk m c 4 t) (iblk m c 5 t)
    (BitVec.ofNat 32 (grid0.coords t 1 : ℕ))

theorem scratch_B (h0 : ¬t.val % 12 = 0) (hp) : (outsAt0 m c t.val t.isLt).2 = (outsAt0 m c (t.val - 1) hp).2 := by
  rw [outsAt0_B m c t h0]
  rfl

/-- The scratch at every point. -/
theorem scratch_at (n : ℕ) (hn : n < cfg0.N) (p : S1056x2048.Idx) : (outsAt0 m c n hn).2 p =
    uAt (hid m c) (nwt m c) (scl m c) (shf m c) (ptB ⟨n, hn⟩) ((ptI ⟨n, hn⟩).1 * 1024 + (p 0).1 - 15) (p 1) := by
  induction n with
  | zero => exact (congrFun (scratch_A m c ⟨0, hn⟩ rfl) p).trans (scr_at m c ⟨0, hn⟩ p)
  | succ n ih =>
    by_cases h0 : (n + 1) % 12 = 0
    · exact (congrFun (scratch_A m c ⟨n + 1, hn⟩ h0) p).trans (scr_at m c ⟨n + 1, hn⟩ p)
    · have hn' : n < cfg0.N := Nat.lt_of_succ_lt hn
      refine (congrFun (scratch_B m c ⟨n + 1, hn⟩ h0 hn') p).trans ((ih hn').trans ?_)
      have eb : ptB ⟨n, hn'⟩ = ptB ⟨n + 1, hn⟩ := Fin.ext (by show n / 48 = (n + 1) / 48; omega)
      have ei : ptI ⟨n, hn'⟩ = ptI ⟨n + 1, hn⟩ := Fin.ext (by show n / 12 % 4 = (n + 1) / 12 % 4; omega)
      rw [eb, ei]

/-- The block of the result, from the scratch. -/
def outBlk (s : FVec Ideal S1056x2048 .bf16) : FVec Ideal S1x1024x512 .f32 :=
  k0_pay19 (F := Ideal) s (iblk m c 6 t) (iblk m c 7 t) (iblk m c 8 t)

theorem out_A (h0 : t.val % 12 = 0) : (outsAt0 m c t.val t.isLt).1 = outBlk m c t (outsAt0 m c t.val t.isLt).2 := by
  rw [scratch_A m c t h0, outsAt0_A m c t h0]
  refine funext fun p => ?_
  frame_out
  exact congrArg (fun s => outBlk m c t s p) (readCov_pieces (iblk m c 0 t) (iblk m c 1 t) (iblk m c 2 t) (iblk m c 3 t)
    (iblk m c 4 t) (iblk m c 5 t) (BitVec.ofNat 32 (grid0.coords t 1 : ℕ)) (View.whole cc0_scratch0) inb_S1056x2048_S1056x2048_0_0)

theorem out_B (h0 : ¬t.val % 12 = 0) : (outsAt0 m c t.val t.isLt).1 = outBlk m c t (outsAt0 m c t.val t.isLt).2 := by
  rw [scratch_B m c t h0 (Nat.lt_of_le_of_lt (Nat.sub_le _ _) t.isLt), outsAt0_B m c t h0]
  refine funext fun p => ?_
  frame_out
  exact congrArg (fun s => outBlk m c t s p)
    (Memref.IsWhole.read_unread (m := Memref.whole cc0_scratch0) (Memref.isWhole_whole _) _)

/-- What the body leaves in the result's block at point `t`, at an index. -/
theorem block_eq (r : Fin 1024) (j : Fin 512) (g : Fin 4096) (hg : g.1 = (ptI t).1 * 1024 + r.1) :
    (outsAt0 m c t.val t.isLt).1 (ix3 (0 : Fin 1) r j) =
      Cert.Reference4Ideal.Read.val_main_v46 (F := Ideal) (hid m c) (nwt m c) (scl m c) (shf m c) (wgt m c) (cwt m c) (cbs m c)
        (ix3 (ptB t) g (col t j)) := by
  have e : (outsAt0 m c t.val t.isLt).1 = outBlk m c t (outsAt0 m c t.val t.isLt).2 := by
    by_cases h0 : t.val % 12 = 0
    · exact out_A m c t h0
    · exact out_B m c t h0
  refine (congrFun e _).trans ?_
  rw [ref_at]
  unfold outBlk
  rw [pay19_at]
  rw [conv_rows (hid m c) (nwt m c) (scl m c) (shf m c) (ptB t) (ptI t) (cols (wgt m c)) (cwt m c) (cbs m c) _ _ _ _ r j (col t j)
      (scratch_at m c t.val t.isLt) (blk6_at m c t · j) (blk7_at m c t · j) (blk8_at m c t j), ← hg]

end

section
variable (m : (ℓ : Loc nD τ sig) → Buf (Elt Ideal) ℓ) (ρ : Dev nD → PrngReg)

/-- THE RESULT ARRAY: the reference's. -/
theorem final (c : Dev nD) : (dats m 0 c).arrAt 9 cfg0.N =
    Cert.Reference4Ideal.Read.val_main_v46 (F := Ideal) (hid m c) (nwt m c) (scl m c) (shf m c) (wgt m c) (cwt m c) (cbs m c) := by
  refine (dats m 0 c).arrAt_eq_of_covers 9 _ (by decide +kernel) fun t hf y => ?_
  blk_simp
  rw [after0_9]
  obtain ⟨y0, r, j, rfl⟩ : ∃ (y0 : Fin 1) (r : Fin 1024) (j : Fin 512), y = ix3 y0 r j :=
    ⟨y 0, y 1, y 2, funext fun a => by fin_cases a <;> rfl⟩
  obtain rfl : y0 = 0 := Subsingleton.elim _ _
  have hi := (ptI t).2
  refine (block_eq m c t r j ⟨(ptI t).1 * 1024 + r.1, by omega⟩ rfl).trans (congrArg _ ?_)
  blk_ext [idx9, ptB, ptI, col]

/-- The run: the result array at the reference's, the arguments unchanged. -/
theorem run : θ_run defs (onTc (τ := τ) (main (F := Ideal))) ⟨m, fun _ => 0, ρ⟩ fun r => ∀ c : Dev nD,
      r.2.mem ((c.tc : Thread nD τ).loc main_v4) =
        Cert.Reference4Ideal.Read.val_main_v46 (F := Ideal) (hid m c) (nwt m c) (scl m c) (shf m c) (wgt m c) (cwt m c) (cbs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ k c => ⟨(k c).1.trans (final m c), (k c).2⟩)
    (Cert.Kernel4Ideal.Value.run_blocks m ρ)

end

end Xbc

end
-- ==== Proof.Xbc.Claims.lean ====
/-
  The claims about the state-space mixer's input projection, from its parts: the generated frames, and the two runs ending at one
  array.
-/
module

public import proofs.«01_k».proof.Defs
public import proofs.«01_k».proof.Proof.Xbc.Array
public import proofs.«01_k».proof.Proof.Gen.Kernel4.Frame
public import proofs.«01_k».proof.Proof.Gen.Reference4Ideal.Run
public import Idealize.ShloMosaic.Lib.Quiescent

@[expose] public section

noncomputable section

namespace Xbc.Claims

open Idealize.ShloMosaic Idealize.ShloMosaic.TcCoe Idealize.SL.Sem

theorem frame_kernel : Cert.quiescent_Kernel4 := fun m ρ _ => Cert.Kernel4.Gen.frame m ρ
theorem frame_kernelIdeal : Cert.quiescent_Kernel4Ideal := fun m ρ _ => Cert.Kernel4Ideal.Gen.frame m ρ
theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => Cert.Reference4Ideal.Read.val_main_v46 (F := Ideal) (hid m c) (nwt m c) (scl m c) (shf m c) (wgt m c)
    (cwt m c) (cbs m c), run m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6⟩ := hagree c
  rw [Cert.Reference4Ideal.Read.val_main_v46_eq, h0, h1, h2, h3, h4, h5, h6]

end Xbc.Claims

end
-- ==== Proof.SsdOut.Body.lean ====
/-
  One grid point of the state-space mixer's output projection.

  A point multiplies its block of activations by its block of weights and lays the product down in one of the four slots
  of the scratch. The last point of each group of four then reads the four slots and stores the output block. `body_lays`
  and `body_stores` say so of the printed body.
-/
module

public import proofs.«01_k».proof.Proof.Down.Slots
public import proofs.«01_k».proof.Proof.Gen.Kernel5Ideal.Frame

@[expose] public section

set_option maxRecDepth 16384

noncomputable section

namespace SsdOut

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Down (put slot scale chunk pieces outBlk)

variable {F : FTy → Type} [FloatOps F]

local notation "𝕄" => MT nD τ sig Unit (Elt F) ℕ (UR sig nD τ) ℕ

/-- The product of a block of activations and a block of weights, in the shape of a slot. -/
def prod (x0 : Vec F S1x512x4096 .bf16) (x1 : Vec F S4096x512 .bf16) : Vec F S1x512x512 .f32 :=
  shapeCast S1x512x512 (matmul dot_S512x4096_S4096x512_S512x512_1_0_0_1_n_n none
    (shapeCast S512x4096 x0 shapeCasts_S1x512x4096_S512x4096 : FVec F S512x4096 .bf16)
    (shapeCast S4096x512 x1 shapeCasts_S4096x512_S4096x512 : FVec F S4096x512 .bf16)
    (constant S512x512 .f32 0x00000000#32) : FVec F S512x512 .f32) shapeCasts_S512x512_S1x512x512

/-- Slot `j` holds what was put there, and the other slots are as before. -/
theorem read_put {arg9 : Memref sig .tc .vmem S4x512x512 .f32} (f : arg9.view.ty.Contents (Elt F)) (i : grid0.Coords)
    (p : Vec F S1x512x512 .f32) (inb) :
    arg9.view.read (Elt F) (arg9.view.writes (Elt F) f [⟨Rect.unit (s := S4x512x512) (k0_off1 i) S1x512x512.size inb, p⟩])
      = put (i 2).1 p (arg9.view.read (Elt F) f) := by
  funext q
  rw [View.read_writes_cons_unit arg9.view f inb p [] q (k0_off1_eq i)]
  have h1 : (q 1).1 < 512 := (q 1).2
  have h2 : (q 2).1 < 512 := (q 2).2
  unfold put
  by_cases h : (q 0).1 = (i 2).1
  · rw [if_pos h, dif_pos (by
      intro a
      fin_cases a
      · exact ⟨le_of_eq h.symm, by show (q 0).1 < (i 2).1 + 1; omega⟩
      · exact ⟨Nat.zero_le _, by show (q 1).1 < 0 + 512; omega⟩
      · exact ⟨Nat.zero_le _, by show (q 2).1 < 0 + 512; omega⟩)]
    refine congrArg p (funext fun a => Fin.ext ?_)
    fin_cases a
    · show (q 0).1 - (i 2).1 = 0; omega
    · exact Nat.sub_zero _
    · exact Nat.sub_zero _
  · rw [if_neg h, dif_neg (fun hh => h (by
      have := hh 0
      have h3 : (i 2).1 ≤ (q 0).1 := this.1
      have h4 : (q 0).1 < (i 2).1 + 1 := this.2
      omega))]
    rfl

/-- The product of what the two whole loads read. -/
theorem prod_loads (arg3 : Memref sig .tc .vmem S1x512x4096 .bf16) (harg3 : arg3.IsWhole) (arg4 : Memref sig .tc .vmem S4096x512 .bf16)
    (harg4 : arg4.IsWhole) (x0 : Vec F S1x512x4096 .bf16) (x1 : Vec F S4096x512 .bf16) :
    prod (arg3.view.readAt (Elt F) (Rect.unit (s := S1x512x4096) ![0, 0, 0] S1x512x4096.size inb_S1x512x4096_S1x512x4096_0_0_0).toLoadRect (harg3.unread x0))
      (arg4.view.readAt (Elt F) (Rect.unit (s := S4096x512) ![0, 0] S4096x512.size inb_S4096x512_S4096x512_0_0).toLoadRect (harg4.unread x1))
      = prod x0 x1 :=
  congrArg₂ prod ((View.readAt_full _ _ _).trans (harg3.read_unread x0)) ((View.readAt_full _ _ _).trans (harg4.read_unread x1))

/-- A point that is not the last of its group puts its product in its slot and touches nothing else. -/
theorem body_lays (c : Dev nD) (i : grid0.Coords) (arg3 : Memref sig .tc .vmem S1x512x4096 .bf16) (harg3 : arg3.IsWhole)
    (arg4 : Memref sig .tc .vmem S4096x512 .bf16) (harg4 : arg4.IsWhole)
    (arg5 : Memref sig .tc .vmem S1x512x2048 .f32) (harg5 : arg5.IsWhole)
    (arg6 : Memref sig .tc .vmem S1x1x2048 .f32) (harg6 : arg6.IsWhole)
    (arg7 : Memref sig .tc .vmem S1x2048 .f32) (harg7 : arg7.IsWhole)
    (arg8 : Memref sig .tc .vmem S1x512x2048 .f32) (harg8 : arg8.IsWhole)
    (arg9 : Memref sig .tc .vmem S4x512x512 .f32) (harg9 : arg9.IsWhole)
    (x0 : Vec F S1x512x4096 .bf16) (x1 : Vec F S4096x512 .bf16) (s : Vec F S4x512x512 .f32) (E : Set ℕ) (K : PUnit → sProp 𝕄)
    (hc : ¬ k0_cond1 i = 1#1) :
    iprop(owns (c : Thread nD τ) arg3 fullShare x0 ∗ owns (c : Thread nD τ) arg4 fullShare x1
        ∗ owns (c : Thread nD τ) arg9 fullShare s
        ∗ (iprop(owns (c : Thread nD τ) arg3 fullShare x0 ∗ owns (c : Thread nD τ) arg4 fullShare x1
            ∗ owns (c : Thread nD τ) arg9 fullShare (put (i 2).1 (prod x0 x1) s)) -∗ K ⟨⟩))
      ⊢ wp frame (wpE (defs₀ (F := F)) Variants.none c none) E
        (cc0_ssd_out i arg3 harg3 arg4 harg4 arg5 harg5 arg6 harg6 arg7 harg7 arg8 harg8 arg9 harg9) K := by
  unfold cc0_ssd_out owns
  iintro ⟨⟨%f0, %hf0, H0⟩, ⟨%f1, %hf1, H1⟩, ⟨%fs, %hfs, HS⟩, Hk⟩
  obtain rfl := harg3.eq_unread hf0; obtain rfl := harg4.eq_unread hf1; obtain rfl := harg9.eq_unread hfs
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  refine (read_put _ i _ _).trans ?_
  rw [hfs]
  refine congrArg (fun p => put (i 2).1 p s) ?_
  exact prod_loads arg3 harg3 arg4 harg4 x0 x1

/-- The last point of a group also stores the output block, read off the scratch its product has completed. -/
theorem body_stores (c : Dev nD) (i : grid0.Coords) (arg3 : Memref sig .tc .vmem S1x512x4096 .bf16) (harg3 : arg3.IsWhole)
    (arg4 : Memref sig .tc .vmem S4096x512 .bf16) (harg4 : arg4.IsWhole)
    (arg5 : Memref sig .tc .vmem S1x512x2048 .f32) (harg5 : arg5.IsWhole)
    (arg6 : Memref sig .tc .vmem S1x1x2048 .f32) (harg6 : arg6.IsWhole)
    (arg7 : Memref sig .tc .vmem S1x2048 .f32) (harg7 : arg7.IsWhole)
    (arg8 : Memref sig .tc .vmem S1x512x2048 .f32) (harg8 : arg8.IsWhole)
    (arg9 : Memref sig .tc .vmem S4x512x512 .f32) (harg9 : arg9.IsWhole)
    (x0 : Vec F S1x512x4096 .bf16) (x1 : Vec F S4096x512 .bf16) (s : Vec F S4x512x512 .f32) (E : Set ℕ) (K : PUnit → sProp 𝕄)
    (x2 : Vec F S1x512x2048 .f32) (x3 : Vec F S1x1x2048 .f32) (x4 : Vec F S1x2048 .f32) (hc : k0_cond1 i = 1#1) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ (∃ d, owns (c : Thread nD τ) arg8 fullShare d)
        ∗ owns (c : Thread nD τ) arg9 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ owns (c : Thread nD τ) arg8 fullShare (outBlk (put (i 2).1 (prod x0 x1) s) x2 x3 x4)
            ∗ owns (c : Thread nD τ) arg9 fullShare (put (i 2).1 (prod x0 x1) s)) -∗ K ⟨⟩))
      ⊢ wp frame (wpE (defs₀ (F := F)) Variants.none c none) E
        (cc0_ssd_out i arg3 harg3 arg4 harg4 arg5 harg5 arg6 harg6 arg7 harg7 arg8 harg8 arg9 harg9) K := by
  unfold cc0_ssd_out owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hfs
  sl_exec (disch := first | sl_exact hc)
  have hS : arg9.view.read (Elt F) (arg9.view.writes (Elt F) (harg9.unread s)
      (body_stores.sl.HS_1 c i arg3 harg3 arg4 harg4 x0 x1)) = put (i 2).1 (prod x0 x1) s := by
    refine (read_put _ i _ _).trans ?_
    rw [hfs]
    exact congrArg (fun p => put (i 2).1 p s) (prod_loads arg3 harg3 arg4 harg4 x0 x1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_eq_canon arg8.view f5 _ ?_).trans ?_
    · intro y
      exact View.cover_of_tiledL (s := S1x512x2048) _ S1x512x512.size (by sl_kernel_rfl) y
    refine Eq.trans (b := outBlk (arg9.view.read (Elt F) (arg9.view.writes (Elt F) (harg9.unread s)
      (body_stores.sl.HS_1 c i arg3 harg3 arg4 harg4 x0 x1))) (arg5.view.read (Elt F) (harg5.unread x2))
      (arg6.view.read (Elt F) (harg6.unread x3)) (arg7.view.read (Elt F) (harg7.unread x4))) rfl ?_
    rw [hS, hf2, hf3, hf4]
  iexists _; isplitr
  swap; · iexact HS
  ipureintro
  exact hS

end SsdOut

end
-- ==== Proof.SsdOut.Run.lean ====
/-
  The run of the state-space mixer's output projection.

  With `filled`, of the products of the present group of four points, as the invariant, every final state has the output
  array at what `dats` computes and the arguments unchanged.
-/
module

public import proofs.«01_k».proof.Proof.SsdOut.Body

@[expose] public section

set_option maxRecDepth 16384

noncomputable section

namespace SsdOut

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Down (put slot outBlk accOf filled filled_start filled_put put_last)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The grid -/

theorem lt_points (t : Fin cfg0.N) : t.val < 256 := lt_of_lt_of_eq t.isLt (show cfg0.N = 256 from N_0)

/-- The innermost coordinate counts the points of a group. -/
theorem coord_two (t : Fin cfg0.N) : (grid0.coords t 2).val = t.val % 4 := by
  have h : (grid0.coords t 2).val = t.val / 1 % 4 := Pipeline.Grid.coords_val t 2 (by decide) rfl
  rw [h, Nat.div_one]

/-- The output block is stored at the last point of a group. -/
theorem cond_iff (t : Fin cfg0.N) : k0_cond1 (grid0.coords t) = 1#1 ↔ t.val % 4 = 3 := by
  have e2 := coord_two t
  simp only [k0_cond1, e2]
  word_cmp

/-! ## The scratch -/

/-- The product point `t` computes. -/
def prodAt (c : Dev nD) (t : Fin cfg0.N) : Vec F S1x512x512 .f32 := prod (iblk m c 0 t) (iblk m c 1 t)

/-- The four products of the group of point `t`. -/
def accAt (c : Dev nD) (t : Fin cfg0.N) : Vec F S4x512x512 .f32 := accOf N_0 (prodAt m c) t

/-! ## The proof data -/

/-- The scratch buffer, whole. -/
abbrev scr : Memref sig .tc .vmem S4x512x512 .f32 := Memref.whole cc0_scratch0

/-- What the launch hands over: the scratch and the generator register, at anything. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before point `n`. -/
def inv (c : Dev nD) (n : ℕ) : sProp 𝕄 :=
  iprop((∃ s, ⌜filled (prodAt m c) n s⌝ ∗ owns (c : Thread nD τ) scr fullShare s) ∗ (∃ r, prngReg c r))

/-- The contents of the windows' arrays and blocks, and the invariant, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (accAt m c t) (iblk m c 2 t) (iblk m c 3 t) (iblk m c 4 t)
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (accAt m c t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## One point -/

/-- What a point starts from. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it ends with. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl,
    after0, after1, after2, after3, after4]
  rw [show (dats m 0 c).Φ t.succ = inv m c (t.val + 1) from rfl, show (dats m 0 c).Φ t.castSucc = inv m c t.val from rfl]
  unfold inv
  by_cases h3 : t.val % 4 = 3
  · have hc := (cond_iff t).mpr h3
    rw [show (dats m 0 c).leavesExact 5 t = owns (c : Thread nD τ) (st0_5 t) fullShare ((dats m 0 c).after 5 t) from by
      unfold Dat.leavesExact
      rw [show cfg0.idle 5 (cfg0.grid.coords t) = false from by
        show (!(k0_cond1 (grid0.coords t) == 1#1)) = false
        rw [hc]; rfl], after5]
    iintro ⟨⟨⟨%s, %hs, HS⟩, Hg⟩, Ho, ⟨%d0, H0⟩, ⟨%d1, H1⟩, ⟨%d2, H2⟩, ⟨%d3, H3⟩, ⟨%d4, H4⟩, ⟨%d5, H5⟩⟩
    iapply (body_stores c (grid0.coords t) _ _ _ _ _ _ _ _ _ _ _ _ _ _ (iblk m c 0 t) (iblk m c 1 t) s Set.univ _
      (iblk m c 2 t) (iblk m c 3 t) (iblk m c 4 t) hc)
    rw [coord_two t, show prod (iblk m c 0 t) (iblk m c 1 t) = prodAt m c t from rfl]
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    rw [show put (t.val % 4) (prodAt m c t) s = accAt m c t from put_last N_0 (prodAt m c) t h3 s hs]
    iintro ⟨H0, H1, H2, H3, H4, H5, HS⟩
    isplitl [HS Hg]
    · isplitl [HS]
      · iexists _; isplitr
        swap; · iexact HS
        ipureintro; exact filled_start (prodAt m c) _ (by omega) _
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬ k0_cond1 (grid0.coords t) = 1#1 := fun h => h3 ((cond_iff t).mp h)
    rw [(dats m 0 c).leavesExact_idle 5 t (by
        show (!(k0_cond1 (grid0.coords t) == 1#1)) = true
        rw [Bool.not_eq_true']
        exact beq_false_of_ne hc)
      (by
        have h := flush0_5 t
        exact Bool.eq_false_iff.mpr fun hf => h3 (h.mp hf))]
    iintro ⟨⟨⟨%s, %hs, HS⟩, Hg⟩, Ho, ⟨%d0, H0⟩, ⟨%d1, H1⟩, ⟨%d2, H2⟩, ⟨%d3, H3⟩, ⟨%d4, H4⟩, H5⟩
    iapply (body_lays c (grid0.coords t) _ _ _ _ _ _ _ _ _ _ _ _ _ _ (iblk m c 0 t) (iblk m c 1 t) s Set.univ _ hc)
    rw [coord_two t, show prod (iblk m c 0 t) (iblk m c 1 t) = prodAt m c t from rfl]
    isplitl [H0]; · iexact H0
    isplitl [H1]; · iexact H1
    isplitl [HS]; · iexact HS
    iintro ⟨H0, H1, HS⟩
    isplitl [HS Hg]
    · isplitl [HS]
      · iexists _; isplitr
        swap; · iexact HS
        ipureintro; exact filled_put (prodAt m c) t s hs
      iexact Hg
    isplitl [Ho]; · iexact Ho
    isplitl [H0]; · iexact H0
    isplitl [H1]; · iexact H1
    isplitl [H2]; · iexact H2
    isplitl [H3]; · iexact H3
    isplitl [H4]; · iexact H4
    iexact H5

/-! ## The run -/

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem start (c : Dev nD) : Pipeline.ΦA spec0 c ⊢ (dats m 0 c).Φ 0 := by
  rw [show (dats m 0 c).Φ 0 = inv m c 0 from rfl, PhiA_eq]
  unfold inv
  iintro ⟨⟨%d, HS⟩, Hg⟩
  isplitl [HS]
  · iexists _; isplitr
    swap; · iexact HS
    ipureintro; exact filled_start (prodAt m c) 0 rfl _
  iexact Hg

theorem finish (c : Dev nD) : (dats m 0 c).Φ (Fin.last cfg0.N) ⊢ Pipeline.ΦA spec0 c := by
  rw [show (dats m 0 c).Φ (Fin.last cfg0.N) = inv m c cfg0.N from rfl, PhiA_eq]
  unfold inv
  iintro ⟨⟨%d, %hd, HS⟩, Hg⟩
  isplitl [HS]
  · iexists _; iexact HS
  iexact Hg

set_option backward.isDefEq.respectTransparency.types false in
/-- Every run ends, with the arrays at what `dats` computes and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c w => by unfold Dat.share; exact ite_self _)
    (howed := fun _ _ => rfl) (V := V m) (hmain := hmain m Variants.none) (hA := A_eq m) (hin := start m) (hout := finish m)

theorem run : θ_run defs (onTc (τ := τ) (main (F := F))) (s₀ m ρ) (Pipeline.FramePost cfgs (dats m) 0 (V m)) :=
  (θ_run defs _ _).mono (fun _ h => h.1) (run_quiescent m ρ)

/-- Every run ends with the arguments unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end SsdOut

end
-- ==== Proof.SsdOut.Reference.lean ====
/-
  The state-space mixer's output projection of the reference, read at one element.
-/
module

public import proofs.«01_k».proof.Proof.Down.Reference
public import proofs.«01_k».proof.Proof.Gen.Reference5Ideal.Read

@[expose] public section

set_option maxRecDepth 16384

noncomputable section

namespace SsdOut

open Cert.Reference5Ideal Cert.Reference5Ideal.Gen Cert.Reference5Ideal.Read Idealize.ShloMosaic
open Down (Res Gate Nw fRow rms)

/-- The activations and the product's weights. -/
abbrev Act : Type := FVec Ideal S8x4096x4096 .bf16
abbrev Wt : Type := FVec Ideal S4096x2048 .f32

section
variable (a : Act) (w : Wt) (h : Res) (g : Gate) (nw : Nw) (b : Fin 8) (k : Fin 4096) (d : Fin 2048)

theorem v1_at : val_main_v1 (F := Ideal) a w (ix3 b k d) = fRow a w b k d := by
  rw [val_main_v1_apply]
  unfold fRow
  refine Finset.sum_congr rfl fun e _ => ?_
  rw [val_main_v0_apply, show lidx_main_v1 (ix3 b k d) e = ix3 b k e from funext fun a => Fin.ext (by fin_cases a <;> rfl),
    show ridx_main_v1 (ix3 b k d) e = ix2 e d from funext fun a => Fin.ext (by fin_cases a <;> rfl)]
  rfl

theorem v9_at : val_main_v9 (F := Ideal) a w (ix3 b k (0 : Fin 1)) = rms (fRow a w b k) := by
  rw [val_main_v9_apply, val_main_v8_apply, val_main_v7_apply, val_main_v6_apply, val_main_v5_apply, val_main_v4_apply,
    val_main_v3_apply, val_main_cst_apply, val_main_cst_0_apply, val_main_cst_1_apply]
  unfold rms
  have e : (Ideal.ofBits .f32 0x00000000#32 : EReal) = 0 := by simp [Ideal.ofBits, Ideal.ieee]
  have e2 : ∀ d : Fin 2048, val_main_v2 (F := Ideal) a w (idx_main_v3 (idx_main_v4 (ix3 b k (0 : Fin 1))) d)
      = fRow a w b k d * fRow a w b k d := fun d => by
    rw [val_main_v2_apply, show idx_main_v3 (idx_main_v4 (ix3 b k (0 : Fin 1))) d = ix3 b k d from
      funext fun a => Fin.ext (by fin_cases a <;> rfl), v1_at]
    rfl
  rw [Finset.sum_congr rfl fun d _ => e2 d]
  show Ideal.rsqrt (Ideal.div (Ideal.ofBits .f32 0x00000000#32 + _) _ + _) = _
  rw [e, zero_add]
  rfl

/-- THE REFERENCE AT AN ELEMENT. -/
theorem ref_at : val_main_v17 (F := Ideal) a w h g nw (ix3 b k d) =
    h (ix3 b k d) + g (ix3 b (0 : Fin 1) d) * (fRow a w b k d * rms (fRow a w b k) * nw (ix1 d)) := by
  rw [val_main_v17_apply, val_main_v16_apply, val_main_v15_apply, val_main_v14_apply, val_main_v13_apply, val_main_v12_apply,
    val_main_v11_apply, val_main_v10_apply]
  rw [show idx_main_v10 (ix3 b k d) = ix3 b k (0 : Fin 1) from funext fun a => Fin.ext (by fin_cases a <;> rfl),
    show idx_main_v15 (ix3 b k d) = ix3 b (0 : Fin 1) d from funext fun a => Fin.ext (by fin_cases a <;> rfl),
    show idx_main_v12 (idx_main_v13 (ix3 b k d)) = ix1 d from funext fun a => Fin.ext (by fin_cases a <;> rfl), v9_at, v1_at]
  rfl

end

end SsdOut

end
-- ==== Proof.SsdOut.Array.lean ====
/-
  The result array of the state-space mixer's output projection.

  The grid walks batch entry (8), block of 512 rows (8) and block of 512 columns (4). `idx0 .. idx5` say which block of its
  array each window holds at point `t`, `blk0_at .. blk4_at` read each input block from the arguments, `row_at` reads the
  four products of a group, and `final` puts the output blocks together into the reference's array.
-/
module

public import proofs.«01_k».proof.Proof.SsdOut.Run
public import proofs.«01_k».proof.Proof.SsdOut.Reference
public import Idealize.ShloMosaic.Lib.StableHlo.Run
public import Idealize.ShloMosaic.Lib.ValueLayout
public import Idealize.ShloMosaic.Lib.WholeRead

@[expose] public section

set_option maxRecDepth 16384

noncomputable section

namespace SsdOut

open Cert.Kernel5Ideal Cert.Kernel5Ideal.Gen Idealize.ShloMosaic Idealize.ShloMosaic.TcCoe Idealize.SL.Sem
open Idealize.ShloMosaic.Pipeline (Dat)
open Down (Res Gate Nw fRow rms row outBlk outBlk_at outAt accOf ptOf)

theorem idx0 : ∀ t : Fin cfg0.N, win0_0.index t = ![t.val / 32, t.val / 4 % 8, 0] :=
  (by decide +kernel : ∀ t : Fin grid0.N, win0_0.index t = ![t.val / 32, t.val / 4 % 8, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 32, t.val / 4 % 8, 0] :=
  (by decide +kernel : ∀ t : Fin grid0.N, win0_2.index t = ![t.val / 32, t.val / 4 % 8, 0])
theorem idx3 : ∀ t : Fin cfg0.N, win0_3.index t = ![t.val / 32, 0, 0] :=
  (by decide +kernel : ∀ t : Fin grid0.N, win0_3.index t = ![t.val / 32, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 32, t.val / 4 % 8, 0] :=
  (by decide +kernel : ∀ t : Fin grid0.N, win0_5.index t = ![t.val / 32, t.val / 4 % 8, 0])

theorem prod_at (x0 : FVec Ideal S1x512x4096 .bf16) (x1 : FVec Ideal S4096x512 .bf16) (r j : Fin 512) :
    prod (F := Ideal) x0 x1 (ix3 (0 : Fin 1) r j) = ∑ e : Fin 4096, x0 (ix3 (0 : Fin 1) r e) * x1 (ix2 e j) := by
  pointwise [prod]

section
variable (m : (ℓ : Loc nD τ sig) → Buf (Elt Ideal) ℓ) (c : Dev nD)

/-- The arguments as launched. -/
abbrev act : Act := m ((c.tc : Thread nD τ).loc main_arg0)
abbrev wgt : Wt := m ((c.tc : Thread nD τ).loc main_arg1)
abbrev res : Res := m ((c.tc : Thread nD τ).loc main_arg2)
abbrev gte : Gate := m ((c.tc : Thread nD τ).loc main_arg3)
abbrev nwt : Nw := m ((c.tc : Thread nD τ).loc main_arg4)

/-- The weights, cast. -/
theorem V_v0 (i : S4096x2048.Idx) : (V m c main_v0 : FVec Ideal S4096x2048 .bf16) i = wgt m c i := by
  show StableHlo.after hostOps0 _ (Proc.devRef .tc main_v0) i = _
  after_results
  rfl

/-- The norm's weights as a row. -/
theorem V_v1 (d : Fin 2048) : (V m c main_v1 : FVec Ideal S1x2048 .f32) (ix2 (0 : Fin 1) d) = nwt m c (ix1 d) := by
  show StableHlo.after hostOps0 _ (Proc.devRef .tc main_v1) (ix2 (0 : Fin 1) d) = _
  after_results
  exact ValueIdx.shapeCast_a_1a_apply _ _ _ _

variable (t : Fin cfg0.N)

/-- Where point `t` is in the grid. -/
def ptB : Fin 8 := ⟨t.1 / 32, by have h := lt_points t; omega⟩
def ptI : Fin 8 := ⟨t.1 / 4 % 8, by omega⟩

/-- A row of the block, in the array. -/
def rowOf (r : Fin 512) : Fin 4096 := ⟨(ptI t).1 * 512 + r.1, by have := (ptI t).2; omega⟩

theorem blk0_at (r : Fin 512) (e : Fin 4096) :
    (iblk m c 0 t : FVec Ideal S1x512x4096 .bf16) (ix3 (0 : Fin 1) r e) = act m c (ix3 (ptB t) (rowOf t r) e) := by
  refine Eq.trans ?_ (congrFun (V_main_arg0 m c) _)
  blk_ext [iblk, idx0, ptB, ptI, rowOf]

theorem blk1_at (e : Fin 4096) (j : Fin 512) (d : Fin 2048) (hd : d.1 = t.1 % 4 * 512 + j.1) :
    (iblk m c 1 t : FVec Ideal S4096x512 .bf16) (ix2 e j) = wgt m c (ix2 e d) := by
  obtain ⟨d, hl⟩ := d
  obtain rfl : d = t.1 % 4 * 512 + j.1 := hd
  refine Eq.trans ?_ (V_v0 m c _)
  blk_ext [iblk, idx1]

theorem blk2_at (r : Fin 512) (d : Fin 2048) :
    (iblk m c 2 t : FVec Ideal S1x512x2048 .f32) (ix3 (0 : Fin 1) r d) = res m c (ix3 (ptB t) (rowOf t r) d) := by
  refine Eq.trans ?_ (congrFun (V_main_arg2 m c) _)
  blk_ext [iblk, idx2, ptB, ptI, rowOf]

theorem blk3_at (d : Fin 2048) :
    (iblk m c 3 t : FVec Ideal S1x1x2048 .f32) (ix3 (0 : Fin 1) (0 : Fin 1) d) = gte m c (ix3 (ptB t) (0 : Fin 1) d) := by
  refine Eq.trans ?_ (congrFun (V_main_arg3 m c) _)
  blk_ext [iblk, idx3, ptB]

theorem blk4_at (d : Fin 2048) : (iblk m c 4 t : FVec Ideal S1x2048 .f32) (ix2 (0 : Fin 1) d) = nwt m c (ix1 d) := by
  refine Eq.trans ?_ (V_v1 m c d)
  blk_ext [iblk, idx4]

/-- The four products of a group are a row of the product. -/
theorem row_at (r : Fin 512) : row (accAt m c t) r = fRow (act m c) (wgt m c) (ptB t) (rowOf t r) := by
  funext d
  have hd := d.2
  have ht := lt_points t
  have hu : (ptOf N_0 t (⟨d.1 / 512, by omega⟩ : Fin 4)).1 = t.1 - t.1 % 4 + d.1 / 512 := rfl
  show prodAt m c (ptOf N_0 t (⟨d.1 / 512, by omega⟩ : Fin 4)) (ix3 (0 : Fin 1) r (⟨d.1 % 512, by omega⟩ : Fin 512)) = _
  generalize ptOf N_0 t (⟨d.1 / 512, by omega⟩ : Fin 4) = u at *
  unfold prodAt
  rw [prod_at]
  unfold fRow
  refine Finset.sum_congr rfl fun e _ => ?_
  rw [blk0_at m c u r e, blk1_at m c u e _ d (by show d.1 = u.1 % 4 * 512 + d.1 % 512; omega),
    show ptB u = ptB t from Fin.ext (by show u.1 / 32 = t.1 / 32; omega),
    show rowOf u r = rowOf t r from Fin.ext (by show u.1 / 4 % 8 * 512 + r.1 = t.1 / 4 % 8 * 512 + r.1; omega)]

/-- What the last point of a group stores, at an element. -/
theorem block_eq (r : Fin 512) (d : Fin 2048) :
    (outBlk (F := Ideal) (accAt m c t) (iblk m c 2 t) (iblk m c 3 t) (iblk m c 4 t) : FVec Ideal S1x512x2048 .f32) (ix3 (0 : Fin 1) r d) =
      Cert.Reference5Ideal.Read.val_main_v17 (F := Ideal) (act m c) (wgt m c) (res m c) (gte m c) (nwt m c)
        (ix3 (ptB t) (rowOf t r) d) := by
  refine (outBlk_at _ _ _ _ _).trans ?_
  rw [ref_at]
  show outAt _ _ _ _ r d = _
  unfold outAt
  rw [row_at, blk2_at, blk3_at, blk4_at]

end

section
variable (m : (ℓ : Loc nD τ sig) → Buf (Elt Ideal) ℓ) (ρ : Dev nD → PrngReg)

/-- THE RESULT ARRAY: the reference's. -/
theorem final (c : Dev nD) : (dats m 0 c).arrAt 5 cfg0.N =
    Cert.Reference5Ideal.Read.val_main_v17 (F := Ideal) (act m c) (wgt m c) (res m c) (gte m c) (nwt m c) := by
  refine (dats m 0 c).arrAt_eq_of_covers 5 _ (by decide +kernel) fun t hf y => ?_
  blk_simp
  rw [after5]
  obtain ⟨y0, r, d, rfl⟩ : ∃ (y0 : Fin 1) (r : Fin 512) (d : Fin 2048), y = ix3 y0 r d :=
    ⟨y 0, y 1, y 2, funext fun a => by fin_cases a <;> rfl⟩
  obtain rfl : y0 = 0 := Subsingleton.elim _ _
  refine (block_eq m c t r d).trans (congrArg _ ?_)
  blk_ext [idx5, ptB, ptI, rowOf]

/-- The run: the result array at the reference's, the arguments unchanged. -/
theorem run_final : θ_run defs (onTc (τ := τ) (main (F := Ideal))) ⟨m, fun _ => 0, ρ⟩ fun r => ∀ c : Dev nD,
      r.2.mem ((c.tc : Thread nD τ).loc main_v2) =
        Cert.Reference5Ideal.Read.val_main_v17 (F := Ideal) (act m c) (wgt m c) (res m c) (gte m c) (nwt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final m c), h.2.1 c⟩)
    (θ_run_and (run m ρ) (unchanged m ρ))

end

end SsdOut

end
-- ==== Proof.SsdOut.Claims.lean ====
/-
  The claims about the state-space mixer's output projection. The two printed kernels, before and after the ideal pass, are the same text, so that
  the run proved for one is the run of the other (`defs_eq`).
-/
module

public import proofs.«01_k».proof.Defs
public import proofs.«01_k».proof.Proof.SsdOut.Array
public import proofs.«01_k».proof.Proof.Gen.Kernel5.Frame
public import proofs.«01_k».proof.Proof.Gen.Reference5Ideal.Run
public import Idealize.ShloMosaic.Lib.Quiescent

@[expose] public section

set_option backward.isDefEq.respectTransparency.types false
set_option backward.isDefEq.respectTransparency false

noncomputable section

namespace SsdOut.Claims

open Idealize.ShloMosaic Idealize.ShloMosaic.TcCoe Idealize.SL.Sem

theorem bodies_eq : Cert.Kernel5.defs₀ (F := Bits) = Cert.Kernel5Ideal.defs₀ (F := Bits) := by
  unfold Cert.Kernel5.defs₀ Cert.Kernel5Ideal.defs₀
  refine congrArg Defs.onTc (funext fun b => funext fun a => ?_)
  obtain ⟨k, hk⟩ := b
  cases k with
  | zero => rfl
  | succ k => exact absurd hk (by omega)

theorem defs_eq : Cert.Kernel5.defs (F := Bits) = Cert.Kernel5Ideal.defs (F := Bits) :=
  congrArg (Pipeline.defs (Cert.Kernel5.pcfgs (F := Bits))) bodies_eq

theorem frame_kernel : Cert.quiescent_Kernel5 := fun m ρ _ => by
  rw [defs_eq]
  exact SsdOut.unchanged (F := Bits) m ρ
theorem frame_kernelIdeal : Cert.quiescent_Kernel5Ideal := fun m ρ _ => SsdOut.unchanged (F := Ideal) m ρ
theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => Cert.Reference5Ideal.Read.val_main_v17 (F := Ideal) (act m c) (wgt m c) (res m c) (gte m c) (nwt m c),
    run_final m ρ, ?_⟩
  refine (θ_run Cert.Reference5Ideal.defs _ _).mono (fun _ h c => ⟨(h c).1.trans ?_, (h c).2⟩)
    (Cert.Reference5Ideal.Value.run (F := Ideal) m' ρ')
  obtain ⟨h0, h1, h2, h3, h4⟩ := hagree c
  rw [Cert.Reference5Ideal.Read.val_main_v17_eq, h0, h1, h2, h3, h4]

end SsdOut.Claims

end
-- ==== Proof.AttnOut.Body.lean ====
/-
  One grid point of the attention's output projection.

  A point multiplies its block of activations by its block of weights and lays the product down in one of the four slots
  of the scratch. The last point of each group of four then reads the four slots and stores the output block. `body_lays`
  and `body_stores` say so of the printed body.
-/
module

public import proofs.«01_k».proof.Proof.Down.Slots
public import proofs.«01_k».proof.Proof.Gen.Kernel6Ideal.Frame

@[expose] public section

set_option maxRecDepth 16384

noncomputable section

namespace AttnOut

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Down (put slot scale chunk pieces outBlk)

variable {F : FTy → Type} [FloatOps F]

local notation "𝕄" => MT nD τ sig Unit (Elt F) ℕ (UR sig nD τ) ℕ

/-- The product of a block of activations and a block of weights, in the shape of a slot. -/
def prod (x0 : Vec F S1x512x2048 .bf16) (x1 : Vec F S2048x512 .bf16) : Vec F S1x512x512 .f32 :=
  shapeCast S1x512x512 (matmul dot_S512x2048_S2048x512_S512x512_1_0_0_1_n_n none
    (shapeCast S512x2048 x0 shapeCasts_S1x512x2048_S512x2048 : FVec F S512x2048 .bf16)
    (shapeCast S2048x512 x1 shapeCasts_S2048x512_S2048x512 : FVec F S2048x512 .bf16)
    (constant S512x512 .f32 0x00000000#32) : FVec F S512x512 .f32) shapeCasts_S512x512_S1x512x512

/-- Slot `j` holds what was put there, and the other slots are as before. -/
theorem read_put {arg9 : Memref sig .tc .vmem S4x512x512 .f32} (f : arg9.view.ty.Contents (Elt F)) (i : grid0.Coords)
    (p : Vec F S1x512x512 .f32) (inb) :
    arg9.view.read (Elt F) (arg9.view.writes (Elt F) f [⟨Rect.unit (s := S4x512x512) (k0_off1 i) S1x512x512.size inb, p⟩])
      = put (i 2).1 p (arg9.view.read (Elt F) f) := by
  funext q
  rw [View.read_writes_cons_unit arg9.view f inb p [] q (k0_off1_eq i)]
  have h1 : (q 1).1 < 512 := (q 1).2
  have h2 : (q 2).1 < 512 := (q 2).2
  unfold put
  by_cases h : (q 0).1 = (i 2).1
  · rw [if_pos h, dif_pos (by
      intro a
      fin_cases a
      · exact ⟨le_of_eq h.symm, by show (q 0).1 < (i 2).1 + 1; omega⟩
      · exact ⟨Nat.zero_le _, by show (q 1).1 < 0 + 512; omega⟩
      · exact ⟨Nat.zero_le _, by show (q 2).1 < 0 + 512; omega⟩)]
    refine congrArg p (funext fun a => Fin.ext ?_)
    fin_cases a
    · show (q 0).1 - (i 2).1 = 0; omega
    · exact Nat.sub_zero _
    · exact Nat.sub_zero _
  · rw [if_neg h, dif_neg (fun hh => h (by
      have := hh 0
      have h3 : (i 2).1 ≤ (q 0).1 := this.1
      have h4 : (q 0).1 < (i 2).1 + 1 := this.2
      omega))]
    rfl

/-- The product of what the two whole loads read. -/
theorem prod_loads (arg3 : Memref sig .tc .vmem S1x512x2048 .bf16) (harg3 : arg3.IsWhole) (arg4 : Memref sig .tc .vmem S2048x512 .bf16)
    (harg4 : arg4.IsWhole) (x0 : Vec F S1x512x2048 .bf16) (x1 : Vec F S2048x512 .bf16) :
    prod (arg3.view.readAt (Elt F) (Rect.unit (s := S1x512x2048) ![0, 0, 0] S1x512x2048.size inb_S1x512x2048_S1x512x2048_0_0_0).toLoadRect (harg3.unread x0))
      (arg4.view.readAt (Elt F) (Rect.unit (s := S2048x512) ![0, 0] S2048x512.size inb_S2048x512_S2048x512_0_0).toLoadRect (harg4.unread x1))
      = prod x0 x1 :=
  congrArg₂ prod ((View.readAt_full _ _ _).trans (harg3.read_unread x0)) ((View.readAt_full _ _ _).trans (harg4.read_unread x1))

/-- A point that is not the last of its group puts its product in its slot and touches nothing else. -/
theorem body_lays (c : Dev nD) (i : grid0.Coords) (arg3 : Memref sig .tc .vmem S1x512x2048 .bf16) (harg3 : arg3.IsWhole)
    (arg4 : Memref sig .tc .vmem S2048x512 .bf16) (harg4 : arg4.IsWhole)
    (arg5 : Memref sig .tc .vmem S1x512x2048 .f32) (harg5 : arg5.IsWhole)
    (arg6 : Memref sig .tc .vmem S1x1x2048 .f32) (harg6 : arg6.IsWhole)
    (arg7 : Memref sig .tc .vmem S1x2048 .f32) (harg7 : arg7.IsWhole)
    (arg8 : Memref sig .tc .vmem S1x512x2048 .f32) (harg8 : arg8.IsWhole)
    (arg9 : Memref sig .tc .vmem S4x512x512 .f32) (harg9 : arg9.IsWhole)
    (x0 : Vec F S1x512x2048 .bf16) (x1 : Vec F S2048x512 .bf16) (s : Vec F S4x512x512 .f32) (E : Set ℕ) (K : PUnit → sProp 𝕄)
    (hc : ¬ k0_cond1 i = 1#1) :
    iprop(owns (c : Thread nD τ) arg3 fullShare x0 ∗ owns (c : Thread nD τ) arg4 fullShare x1
        ∗ owns (c : Thread nD τ) arg9 fullShare s
        ∗ (iprop(owns (c : Thread nD τ) arg3 fullShare x0 ∗ owns (c : Thread nD τ) arg4 fullShare x1
            ∗ owns (c : Thread nD τ) arg9 fullShare (put (i 2).1 (prod x0 x1) s)) -∗ K ⟨⟩))
      ⊢ wp frame (wpE (defs₀ (F := F)) Variants.none c none) E
        (cc0_attn_out_lat i arg3 harg3 arg4 harg4 arg5 harg5 arg6 harg6 arg7 harg7 arg8 harg8 arg9 harg9) K := by
  unfold cc0_attn_out_lat owns
  iintro ⟨⟨%f0, %hf0, H0⟩, ⟨%f1, %hf1, H1⟩, ⟨%fs, %hfs, HS⟩, Hk⟩
  obtain rfl := harg3.eq_unread hf0; obtain rfl := harg4.eq_unread hf1; obtain rfl := harg9.eq_unread hfs
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  refine (read_put _ i _ _).trans ?_
  rw [hfs]
  refine congrArg (fun p => put (i 2).1 p s) ?_
  exact prod_loads arg3 harg3 arg4 harg4 x0 x1

/-- The last point of a group also stores the output block, read off the scratch its product has completed. -/
theorem body_stores (c : Dev nD) (i : grid0.Coords) (arg3 : Memref sig .tc .vmem S1x512x2048 .bf16) (harg3 : arg3.IsWhole)
    (arg4 : Memref sig .tc .vmem S2048x512 .bf16) (harg4 : arg4.IsWhole)
    (arg5 : Memref sig .tc .vmem S1x512x2048 .f32) (harg5 : arg5.IsWhole)
    (arg6 : Memref sig .tc .vmem S1x1x2048 .f32) (harg6 : arg6.IsWhole)
    (arg7 : Memref sig .tc .vmem S1x2048 .f32) (harg7 : arg7.IsWhole)
    (arg8 : Memref sig .tc .vmem S1x512x2048 .f32) (harg8 : arg8.IsWhole)
    (arg9 : Memref sig .tc .vmem S4x512x512 .f32) (harg9 : arg9.IsWhole)
    (x0 : Vec F S1x512x2048 .bf16) (x1 : Vec F S2048x512 .bf16) (s : Vec F S4x512x512 .f32) (E : Set ℕ) (K : PUnit → sProp 𝕄)
    (x2 : Vec F S1x512x2048 .f32) (x3 : Vec F S1x1x2048 .f32) (x4 : Vec F S1x2048 .f32) (hc : k0_cond1 i = 1#1) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ (∃ d, owns (c : Thread nD τ) arg8 fullShare d)
        ∗ owns (c : Thread nD τ) arg9 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ owns (c : Thread nD τ) arg8 fullShare (outBlk (put (i 2).1 (prod x0 x1) s) x2 x3 x4)
            ∗ owns (c : Thread nD τ) arg9 fullShare (put (i 2).1 (prod x0 x1) s)) -∗ K ⟨⟩))
      ⊢ wp frame (wpE (defs₀ (F := F)) Variants.none c none) E
        (cc0_attn_out_lat i arg3 harg3 arg4 harg4 arg5 harg5 arg6 harg6 arg7 harg7 arg8 harg8 arg9 harg9) K := by
  unfold cc0_attn_out_lat owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hfs
  sl_exec (disch := first | sl_exact hc)
  have hS : arg9.view.read (Elt F) (arg9.view.writes (Elt F) (harg9.unread s)
      (body_stores.sl.HS_1 c i arg3 harg3 arg4 harg4 x0 x1)) = put (i 2).1 (prod x0 x1) s := by
    refine (read_put _ i _ _).trans ?_
    rw [hfs]
    exact congrArg (fun p => put (i 2).1 p s) (prod_loads arg3 harg3 arg4 harg4 x0 x1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_eq_canon arg8.view f5 _ ?_).trans ?_
    · intro y
      exact View.cover_of_tiledL (s := S1x512x2048) _ S1x512x512.size (by sl_kernel_rfl) y
    refine Eq.trans (b := outBlk (arg9.view.read (Elt F) (arg9.view.writes (Elt F) (harg9.unread s)
      (body_stores.sl.HS_1 c i arg3 harg3 arg4 harg4 x0 x1))) (arg5.view.read (Elt F) (harg5.unread x2))
      (arg6.view.read (Elt F) (harg6.unread x3)) (arg7.view.read (Elt F) (harg7.unread x4))) rfl ?_
    rw [hS, hf2, hf3, hf4]
  iexists _; isplitr
  swap; · iexact HS
  ipureintro
  exact hS

end AttnOut

end
-- ==== Proof.AttnOut.Run.lean ====
/-
  The run of the attention's output projection.

  With `filled`, of the products of the present group of four points, as the invariant, every final state has the output
  array at what `dats` computes and the arguments unchanged.
-/
module

public import proofs.«01_k».proof.Proof.AttnOut.Body

@[expose] public section

set_option maxRecDepth 16384

noncomputable section

namespace AttnOut

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Down (put slot outBlk accOf filled filled_start filled_put put_last)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The grid -/

theorem lt_points (t : Fin cfg0.N) : t.val < 256 := lt_of_lt_of_eq t.isLt (show cfg0.N = 256 from N_0)

/-- The innermost coordinate counts the points of a group. -/
theorem coord_two (t : Fin cfg0.N) : (grid0.coords t 2).val = t.val % 4 := by
  have h : (grid0.coords t 2).val = t.val / 1 % 4 := Pipeline.Grid.coords_val t 2 (by decide) rfl
  rw [h, Nat.div_one]

/-- The output block is stored at the last point of a group. -/
theorem cond_iff (t : Fin cfg0.N) : k0_cond1 (grid0.coords t) = 1#1 ↔ t.val % 4 = 3 := by
  have e2 := coord_two t
  simp only [k0_cond1, e2]
  word_cmp

/-! ## The scratch -/

/-- The product point `t` computes. -/
def prodAt (c : Dev nD) (t : Fin cfg0.N) : Vec F S1x512x512 .f32 := prod (iblk m c 0 t) (iblk m c 1 t)

/-- The four products of the group of point `t`. -/
def accAt (c : Dev nD) (t : Fin cfg0.N) : Vec F S4x512x512 .f32 := accOf N_0 (prodAt m c) t

/-! ## The proof data -/

/-- The scratch buffer, whole. -/
abbrev scr : Memref sig .tc .vmem S4x512x512 .f32 := Memref.whole cc0_scratch0

/-- What the launch hands over: the scratch and the generator register, at anything. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before point `n`. -/
def inv (c : Dev nD) (n : ℕ) : sProp 𝕄 :=
  iprop((∃ s, ⌜filled (prodAt m c) n s⌝ ∗ owns (c : Thread nD τ) scr fullShare s) ∗ (∃ r, prngReg c r))

/-- The contents of the windows' arrays and blocks, and the invariant, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (accAt m c t) (iblk m c 2 t) (iblk m c 3 t) (iblk m c 4 t)
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (accAt m c t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## One point -/

/-- What a point starts from. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it ends with. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl,
    after0, after1, after2, after3, after4]
  rw [show (dats m 0 c).Φ t.succ = inv m c (t.val + 1) from rfl, show (dats m 0 c).Φ t.castSucc = inv m c t.val from rfl]
  unfold inv
  by_cases h3 : t.val % 4 = 3
  · have hc := (cond_iff t).mpr h3
    rw [show (dats m 0 c).leavesExact 5 t = owns (c : Thread nD τ) (st0_5 t) fullShare ((dats m 0 c).after 5 t) from by
      unfold Dat.leavesExact
      rw [show cfg0.idle 5 (cfg0.grid.coords t) = false from by
        show (!(k0_cond1 (grid0.coords t) == 1#1)) = false
        rw [hc]; rfl], after5]
    iintro ⟨⟨⟨%s, %hs, HS⟩, Hg⟩, Ho, ⟨%d0, H0⟩, ⟨%d1, H1⟩, ⟨%d2, H2⟩, ⟨%d3, H3⟩, ⟨%d4, H4⟩, ⟨%d5, H5⟩⟩
    iapply (body_stores c (grid0.coords t) _ _ _ _ _ _ _ _ _ _ _ _ _ _ (iblk m c 0 t) (iblk m c 1 t) s Set.univ _
      (iblk m c 2 t) (iblk m c 3 t) (iblk m c 4 t) hc)
    rw [coord_two t, show prod (iblk m c 0 t) (iblk m c 1 t) = prodAt m c t from rfl]
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    rw [show put (t.val % 4) (prodAt m c t) s = accAt m c t from put_last N_0 (prodAt m c) t h3 s hs]
    iintro ⟨H0, H1, H2, H3, H4, H5, HS⟩
    isplitl [HS Hg]
    · isplitl [HS]
      · iexists _; isplitr
        swap; · iexact HS
        ipureintro; exact filled_start (prodAt m c) _ (by omega) _
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬ k0_cond1 (grid0.coords t) = 1#1 := fun h => h3 ((cond_iff t).mp h)
    rw [(dats m 0 c).leavesExact_idle 5 t (by
        show (!(k0_cond1 (grid0.coords t) == 1#1)) = true
        rw [Bool.not_eq_true']
        exact beq_false_of_ne hc)
      (by
        have h := flush0_5 t
        exact Bool.eq_false_iff.mpr fun hf => h3 (h.mp hf))]
    iintro ⟨⟨⟨%s, %hs, HS⟩, Hg⟩, Ho, ⟨%d0, H0⟩, ⟨%d1, H1⟩, ⟨%d2, H2⟩, ⟨%d3, H3⟩, ⟨%d4, H4⟩, H5⟩
    iapply (body_lays c (grid0.coords t) _ _ _ _ _ _ _ _ _ _ _ _ _ _ (iblk m c 0 t) (iblk m c 1 t) s Set.univ _ hc)
    rw [coord_two t, show prod (iblk m c 0 t) (iblk m c 1 t) = prodAt m c t from rfl]
    isplitl [H0]; · iexact H0
    isplitl [H1]; · iexact H1
    isplitl [HS]; · iexact HS
    iintro ⟨H0, H1, HS⟩
    isplitl [HS Hg]
    · isplitl [HS]
      · iexists _; isplitr
        swap; · iexact HS
        ipureintro; exact filled_put (prodAt m c) t s hs
      iexact Hg
    isplitl [Ho]; · iexact Ho
    isplitl [H0]; · iexact H0
    isplitl [H1]; · iexact H1
    isplitl [H2]; · iexact H2
    isplitl [H3]; · iexact H3
    isplitl [H4]; · iexact H4
    iexact H5

/-! ## The run -/

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem start (c : Dev nD) : Pipeline.ΦA spec0 c ⊢ (dats m 0 c).Φ 0 := by
  rw [show (dats m 0 c).Φ 0 = inv m c 0 from rfl, PhiA_eq]
  unfold inv
  iintro ⟨⟨%d, HS⟩, Hg⟩
  isplitl [HS]
  · iexists _; isplitr
    swap; · iexact HS
    ipureintro; exact filled_start (prodAt m c) 0 rfl _
  iexact Hg

theorem finish (c : Dev nD) : (dats m 0 c).Φ (Fin.last cfg0.N) ⊢ Pipeline.ΦA spec0 c := by
  rw [show (dats m 0 c).Φ (Fin.last cfg0.N) = inv m c cfg0.N from rfl, PhiA_eq]
  unfold inv
  iintro ⟨⟨%d, %hd, HS⟩, Hg⟩
  isplitl [HS]
  · iexists _; iexact HS
  iexact Hg

set_option backward.isDefEq.respectTransparency.types false in
/-- Every run ends, with the arrays at what `dats` computes and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c w => by unfold Dat.share; exact ite_self _)
    (howed := fun _ _ => rfl) (V := V m) (hmain := hmain m Variants.none) (hA := A_eq m) (hin := start m) (hout := finish m)

theorem run : θ_run defs (onTc (τ := τ) (main (F := F))) (s₀ m ρ) (Pipeline.FramePost cfgs (dats m) 0 (V m)) :=
  (θ_run defs _ _).mono (fun _ h => h.1) (run_quiescent m ρ)

/-- Every run ends with the arguments unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end AttnOut

end
-- ==== Proof.AttnOut.Reference.lean ====
/-
  The attention's output projection of the reference, read at one element.
-/
module

public import proofs.«01_k».proof.Proof.Down.Reference
public import proofs.«01_k».proof.Proof.Gen.Reference6Ideal.Read

@[expose] public section

set_option maxRecDepth 16384

noncomputable section

namespace AttnOut

open Cert.Reference6Ideal Cert.Reference6Ideal.Gen Cert.Reference6Ideal.Read Idealize.ShloMosaic
open Down (Res Gate Nw fRow rms)

/-- The activations and the product's weights. -/
abbrev Act : Type := FVec Ideal S8x4096x2048 .bf16
abbrev Wt : Type := FVec Ideal S2048x2048 .f32

section
variable (a : Act) (w : Wt) (h : Res) (g : Gate) (nw : Nw) (b : Fin 8) (k : Fin 4096) (d : Fin 2048)

theorem v1_at : val_main_v1 (F := Ideal) a w (ix3 b k d) = fRow a w b k d := by
  rw [val_main_v1_apply]
  unfold fRow
  refine Finset.sum_congr rfl fun e _ => ?_
  rw [val_main_v0_apply, show lidx_main_v1 (ix3 b k d) e = ix3 b k e from funext fun a => Fin.ext (by fin_cases a <;> rfl),
    show ridx_main_v1 (ix3 b k d) e = ix2 e d from funext fun a => Fin.ext (by fin_cases a <;> rfl)]
  rfl

theorem v9_at : val_main_v9 (F := Ideal) a w (ix3 b k (0 : Fin 1)) = rms (fRow a w b k) := by
  rw [val_main_v9_apply, val_main_v8_apply, val_main_v7_apply, val_main_v6_apply, val_main_v5_apply, val_main_v4_apply,
    val_main_v3_apply, val_main_cst_apply, val_main_cst_0_apply, val_main_cst_1_apply]
  unfold rms
  have e : (Ideal.ofBits .f32 0x00000000#32 : EReal) = 0 := by simp [Ideal.ofBits, Ideal.ieee]
  have e2 : ∀ d : Fin 2048, val_main_v2 (F := Ideal) a w (idx_main_v3 (idx_main_v4 (ix3 b k (0 : Fin 1))) d)
      = fRow a w b k d * fRow a w b k d := fun d => by
    rw [val_main_v2_apply, show idx_main_v3 (idx_main_v4 (ix3 b k (0 : Fin 1))) d = ix3 b k d from
      funext fun a => Fin.ext (by fin_cases a <;> rfl), v1_at]
    rfl
  rw [Finset.sum_congr rfl fun d _ => e2 d]
  show Ideal.rsqrt (Ideal.div (Ideal.ofBits .f32 0x00000000#32 + _) _ + _) = _
  rw [e, zero_add]
  rfl

/-- THE REFERENCE AT AN ELEMENT. -/
theorem ref_at : val_main_v17 (F := Ideal) a w h g nw (ix3 b k d) =
    h (ix3 b k d) + g (ix3 b (0 : Fin 1) d) * (fRow a w b k d * rms (fRow a w b k) * nw (ix1 d)) := by
  rw [val_main_v17_apply, val_main_v16_apply, val_main_v15_apply, val_main_v14_apply, val_main_v13_apply, val_main_v12_apply,
    val_main_v11_apply, val_main_v10_apply]
  rw [show idx_main_v10 (ix3 b k d) = ix3 b k (0 : Fin 1) from funext fun a => Fin.ext (by fin_cases a <;> rfl),
    show idx_main_v15 (ix3 b k d) = ix3 b (0 : Fin 1) d from funext fun a => Fin.ext (by fin_cases a <;> rfl),
    show idx_main_v12 (idx_main_v13 (ix3 b k d)) = ix1 d from funext fun a => Fin.ext (by fin_cases a <;> rfl), v9_at, v1_at]
  rfl

end

end AttnOut

end
-- ==== Proof.AttnOut.Array.lean ====
/-
  The result array of the attention's output projection.

  The grid walks batch entry (8), block of 512 rows (8) and block of 512 columns (4). `idx0 .. idx5` say which block of its
  array each window holds at point `t`, `blk0_at .. blk4_at` read each input block from the arguments, `row_at` reads the
  four products of a group, and `final` puts the output blocks together into the reference's array.
-/
module

public import proofs.«01_k».proof.Proof.AttnOut.Run
public import proofs.«01_k».proof.Proof.AttnOut.Reference
public import Idealize.ShloMosaic.Lib.StableHlo.Run
public import Idealize.ShloMosaic.Lib.ValueLayout
public import Idealize.ShloMosaic.Lib.WholeRead

@[expose] public section

set_option maxRecDepth 16384

noncomputable section

namespace AttnOut

open Cert.Kernel6Ideal Cert.Kernel6Ideal.Gen Idealize.ShloMosaic Idealize.ShloMosaic.TcCoe Idealize.SL.Sem
open Idealize.ShloMosaic.Pipeline (Dat)
open Down (Res Gate Nw fRow rms row outBlk outBlk_at outAt accOf ptOf)

theorem idx0 : ∀ t : Fin cfg0.N, win0_0.index t = ![t.val / 32, t.val / 4 % 8, 0] :=
  (by decide +kernel : ∀ t : Fin grid0.N, win0_0.index t = ![t.val / 32, t.val / 4 % 8, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 32, t.val / 4 % 8, 0] :=
  (by decide +kernel : ∀ t : Fin grid0.N, win0_2.index t = ![t.val / 32, t.val / 4 % 8, 0])
theorem idx3 : ∀ t : Fin cfg0.N, win0_3.index t = ![t.val / 32, 0, 0] :=
  (by decide +kernel : ∀ t : Fin grid0.N, win0_3.index t = ![t.val / 32, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 32, t.val / 4 % 8, 0] :=
  (by decide +kernel : ∀ t : Fin grid0.N, win0_5.index t = ![t.val / 32, t.val / 4 % 8, 0])

theorem prod_at (x0 : FVec Ideal S1x512x2048 .bf16) (x1 : FVec Ideal S2048x512 .bf16) (r j : Fin 512) :
    prod (F := Ideal) x0 x1 (ix3 (0 : Fin 1) r j) = ∑ e : Fin 2048, x0 (ix3 (0 : Fin 1) r e) * x1 (ix2 e j) := by
  pointwise [prod]

section
variable (m : (ℓ : Loc nD τ sig) → Buf (Elt Ideal) ℓ) (c : Dev nD)

/-- The arguments as launched. -/
abbrev act : Act := m ((c.tc : Thread nD τ).loc main_arg0)
abbrev wgt : Wt := m ((c.tc : Thread nD τ).loc main_arg1)
abbrev res : Res := m ((c.tc : Thread nD τ).loc main_arg2)
abbrev gte : Gate := m ((c.tc : Thread nD τ).loc main_arg3)
abbrev nwt : Nw := m ((c.tc : Thread nD τ).loc main_arg4)

/-- The weights, cast. -/
theorem V_v0 (i : S2048x2048.Idx) : (V m c main_v0 : FVec Ideal S2048x2048 .bf16) i = wgt m c i := by
  show StableHlo.after hostOps0 _ (Proc.devRef .tc main_v0) i = _
  after_results
  rfl

/-- The norm's weights as a row. -/
theorem V_v1 (d : Fin 2048) : (V m c main_v1 : FVec Ideal S1x2048 .f32) (ix2 (0 : Fin 1) d) = nwt m c (ix1 d) := by
  show StableHlo.after hostOps0 _ (Proc.devRef .tc main_v1) (ix2 (0 : Fin 1) d) = _
  after_results
  exact ValueIdx.shapeCast_a_1a_apply _ _ _ _

variable (t : Fin cfg0.N)

/-- Where point `t` is in the grid. -/
def ptB : Fin 8 := ⟨t.1 / 32, by have h := lt_points t; omega⟩
def ptI : Fin 8 := ⟨t.1 / 4 % 8, by omega⟩

/-- A row of the block, in the array. -/
def rowOf (r : Fin 512) : Fin 4096 := ⟨(ptI t).1 * 512 + r.1, by have := (ptI t).2; omega⟩

theorem blk0_at (r : Fin 512) (e : Fin 2048) :
    (iblk m c 0 t : FVec Ideal S1x512x2048 .bf16) (ix3 (0 : Fin 1) r e) = act m c (ix3 (ptB t) (rowOf t r) e) := by
  refine Eq.trans ?_ (congrFun (V_main_arg0 m c) _)
  blk_ext [iblk, idx0, ptB, ptI, rowOf]

theorem blk1_at (e : Fin 2048) (j : Fin 512) (d : Fin 2048) (hd : d.1 = t.1 % 4 * 512 + j.1) :
    (iblk m c 1 t : FVec Ideal S2048x512 .bf16) (ix2 e j) = wgt m c (ix2 e d) := by
  obtain ⟨d, hl⟩ := d
  obtain rfl : d = t.1 % 4 * 512 + j.1 := hd
  refine Eq.trans ?_ (V_v0 m c _)
  blk_ext [iblk, idx1]

theorem blk2_at (r : Fin 512) (d : Fin 2048) :
    (iblk m c 2 t : FVec Ideal S1x512x2048 .f32) (ix3 (0 : Fin 1) r d) = res m c (ix3 (ptB t) (rowOf t r) d) := by
  refine Eq.trans ?_ (congrFun (V_main_arg2 m c) _)
  blk_ext [iblk, idx2, ptB, ptI, rowOf]

theorem blk3_at (d : Fin 2048) :
    (iblk m c 3 t : FVec Ideal S1x1x2048 .f32) (ix3 (0 : Fin 1) (0 : Fin 1) d) = gte m c (ix3 (ptB t) (0 : Fin 1) d) := by
  refine Eq.trans ?_ (congrFun (V_main_arg3 m c) _)
  blk_ext [iblk, idx3, ptB]

theorem blk4_at (d : Fin 2048) : (iblk m c 4 t : FVec Ideal S1x2048 .f32) (ix2 (0 : Fin 1) d) = nwt m c (ix1 d) := by
  refine Eq.trans ?_ (V_v1 m c d)
  blk_ext [iblk, idx4]

/-- The four products of a group are a row of the product. -/
theorem row_at (r : Fin 512) : row (accAt m c t) r = fRow (act m c) (wgt m c) (ptB t) (rowOf t r) := by
  funext d
  have hd := d.2
  have ht := lt_points t
  have hu : (ptOf N_0 t (⟨d.1 / 512, by omega⟩ : Fin 4)).1 = t.1 - t.1 % 4 + d.1 / 512 := rfl
  show prodAt m c (ptOf N_0 t (⟨d.1 / 512, by omega⟩ : Fin 4)) (ix3 (0 : Fin 1) r (⟨d.1 % 512, by omega⟩ : Fin 512)) = _
  generalize ptOf N_0 t (⟨d.1 / 512, by omega⟩ : Fin 4) = u at *
  unfold prodAt
  rw [prod_at]
  unfold fRow
  refine Finset.sum_congr rfl fun e _ => ?_
  rw [blk0_at m c u r e, blk1_at m c u e _ d (by show d.1 = u.1 % 4 * 512 + d.1 % 512; omega),
    show ptB u = ptB t from Fin.ext (by show u.1 / 32 = t.1 / 32; omega),
    show rowOf u r = rowOf t r from Fin.ext (by show u.1 / 4 % 8 * 512 + r.1 = t.1 / 4 % 8 * 512 + r.1; omega)]

/-- What the last point of a group stores, at an element. -/
theorem block_eq (r : Fin 512) (d : Fin 2048) :
    (outBlk (F := Ideal) (accAt m c t) (iblk m c 2 t) (iblk m c 3 t) (iblk m c 4 t) : FVec Ideal S1x512x2048 .f32) (ix3 (0 : Fin 1) r d) =
      Cert.Reference6Ideal.Read.val_main_v17 (F := Ideal) (act m c) (wgt m c) (res m c) (gte m c) (nwt m c)
        (ix3 (ptB t) (rowOf t r) d) := by
  refine (outBlk_at _ _ _ _ _).trans ?_
  rw [ref_at]
  show outAt _ _ _ _ r d = _
  unfold outAt
  rw [row_at, blk2_at, blk3_at, blk4_at]

end

section
variable (m : (ℓ : Loc nD τ sig) → Buf (Elt Ideal) ℓ) (ρ : Dev nD → PrngReg)

/-- THE RESULT ARRAY: the reference's. -/
theorem final (c : Dev nD) : (dats m 0 c).arrAt 5 cfg0.N =
    Cert.Reference6Ideal.Read.val_main_v17 (F := Ideal) (act m c) (wgt m c) (res m c) (gte m c) (nwt m c) := by
  refine (dats m 0 c).arrAt_eq_of_covers 5 _ (by decide +kernel) fun t hf y => ?_
  blk_simp
  rw [after5]
  obtain ⟨y0, r, d, rfl⟩ : ∃ (y0 : Fin 1) (r : Fin 512) (d : Fin 2048), y = ix3 y0 r d :=
    ⟨y 0, y 1, y 2, funext fun a => by fin_cases a <;> rfl⟩
  obtain rfl : y0 = 0 := Subsingleton.elim _ _
  refine (block_eq m c t r d).trans (congrArg _ ?_)
  blk_ext [idx5, ptB, ptI, rowOf]

/-- The run: the result array at the reference's, the arguments unchanged. -/
theorem run_final : θ_run defs (onTc (τ := τ) (main (F := Ideal))) ⟨m, fun _ => 0, ρ⟩ fun r => ∀ c : Dev nD,
      r.2.mem ((c.tc : Thread nD τ).loc main_v2) =
        Cert.Reference6Ideal.Read.val_main_v17 (F := Ideal) (act m c) (wgt m c) (res m c) (gte m c) (nwt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final m c), h.2.1 c⟩)
    (θ_run_and (run m ρ) (unchanged m ρ))

end

end AttnOut

end
-- ==== Proof.AttnOut.Claims.lean ====
/-
  The claims about the attention's output projection. The two printed kernels, before and after the ideal pass, are the same text, so that
  the run proved for one is the run of the other (`defs_eq`).
-/
module

public import proofs.«01_k».proof.Defs
public import proofs.«01_k».proof.Proof.AttnOut.Array
public import proofs.«01_k».proof.Proof.Gen.Kernel6.Frame
public import proofs.«01_k».proof.Proof.Gen.Reference6Ideal.Run
public import Idealize.ShloMosaic.Lib.Quiescent

@[expose] public section

set_option backward.isDefEq.respectTransparency.types false
set_option backward.isDefEq.respectTransparency false

noncomputable section

namespace AttnOut.Claims

open Idealize.ShloMosaic Idealize.ShloMosaic.TcCoe Idealize.SL.Sem

theorem bodies_eq : Cert.Kernel6.defs₀ (F := Bits) = Cert.Kernel6Ideal.defs₀ (F := Bits) := by
  unfold Cert.Kernel6.defs₀ Cert.Kernel6Ideal.defs₀
  refine congrArg Defs.onTc (funext fun b => funext fun a => ?_)
  obtain ⟨k, hk⟩ := b
  cases k with
  | zero => rfl
  | succ k => exact absurd hk (by omega)

theorem defs_eq : Cert.Kernel6.defs (F := Bits) = Cert.Kernel6Ideal.defs (F := Bits) :=
  congrArg (Pipeline.defs (Cert.Kernel6.pcfgs (F := Bits))) bodies_eq

theorem frame_kernel : Cert.quiescent_Kernel6 := fun m ρ _ => by
  rw [defs_eq]
  exact AttnOut.unchanged (F := Bits) m ρ
theorem frame_kernelIdeal : Cert.quiescent_Kernel6Ideal := fun m ρ _ => AttnOut.unchanged (F := Ideal) m ρ
theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => Cert.Reference6Ideal.Read.val_main_v17 (F := Ideal) (act m c) (wgt m c) (res m c) (gte m c) (nwt m c),
    run_final m ρ, ?_⟩
  refine (θ_run Cert.Reference6Ideal.defs _ _).mono (fun _ h c => ⟨(h c).1.trans ?_, (h c).2⟩)
    (Cert.Reference6Ideal.Value.run (F := Ideal) m' ρ')
  obtain ⟨h0, h1, h2, h3, h4⟩ := hagree c
  rw [Cert.Reference6Ideal.Read.val_main_v17_eq, h0, h1, h2, h3, h4]

end AttnOut.Claims

end
-- ==== Proof.Zin.Reference.lean ====
/-
  The state-space mixer's gate projection of the reference, read at one element.
-/
module

public import proofs.«01_k».proof.Proof.Up.Reference
public import proofs.«01_k».proof.Proof.Gen.Reference7Ideal.Read

@[expose] public section

set_option maxRecDepth 16384

noncomputable section

namespace Zin

open Cert.Reference7Ideal Cert.Reference7Ideal.Gen Cert.Reference7Ideal.Read Idealize.ShloMosaic
open Up (Hid Nw Mod uAt pAt)

/-- The whole projection's weights. -/
abbrev Wt : Type := FVec Ideal S2048x10368 .f32

/-- The columns of the gate. -/
def cols (w : Wt) : FVec Ideal (⟨2, ![2048, 4096]⟩ : Shape) .f32 := fun p =>
  w (ix2 (p 0 : Fin 2048) (⟨(p 1).1, by have : (p 1).1 < 4096 := (p 1).2; omega⟩ : Fin 10368))

section
variable (h : Hid) (nw : Nw) (sc sh : Mod) (w : Wt) (b : Fin 8) (g : Fin 4096) (d : Fin 2048) (j : Fin 4096)

/-- The prepared rows are those of the feed-forward part. -/
theorem v18_at : val_main_v18 (F := Ideal) h nw sc sh (ix3 b g d) = uAt h nw sc sh b (g.1 + 1) d :=
  Up.v18_at h nw sc sh b g d

theorem v19_at : val_main_v19 (F := Ideal) w (ix2 d j) = cols w (ix2 d j) := by
  rw [val_main_v19_apply]
  exact congrArg w (funext fun a => Fin.ext (by fin_cases a <;> rfl))

/-- THE REFERENCE at an element. -/
theorem ref_at : val_main_v20 (F := Ideal) h nw sc sh w (ix3 b g j) = pAt h nw sc sh (cols w) b (g.1 + 1) j := by
  rw [val_main_v20_apply]
  unfold pAt
  refine Finset.sum_congr rfl fun d _ => ?_
  rw [← v18_at h nw sc sh b g d, ← v19_at w d j]
  rw [show lidx_main_v20 (ix3 b g j) d = ix3 b g d from funext fun a => Fin.ext (by fin_cases a <;> rfl),
    show ridx_main_v20 (ix3 b g j) d = ix2 d j from funext fun a => Fin.ext (by fin_cases a <;> rfl)]

end

end Zin

end
-- ==== Proof.Zin.Block.lean ====
/-
  The scratch a projection without convolution fills once per block of rows.

  The body stores the block's 1024 rows in eight chunks of 128. `flat` is what they amount to, row by row, and
  `canon_pieces` and `readCov_pieces` say that the chunks, read back, are `flat`. Each chunk is computed as in the
  feed-forward part.
-/
module

public import proofs.«01_k».proof.Proof.Up.Rows
public import proofs.«01_k».proof.Proof.Gen.Kernel7Ideal.Frame

@[expose] public section

set_option maxRecDepth 16384

noncomputable section

namespace Zin

open Cert.Kernel7Ideal Cert.Kernel7Ideal.Gen Idealize.ShloMosaic Idealize.ShloMosaic.Tactic
open Up (uBlk)

section
variable (x0 : FVec Ideal S1x1024x2048 .f32) (x3 : FVec Ideal S1x2048 .f32) (x4 x5 : FVec Ideal S1x1x2048 .f32)

/-- The scratch, row by row. -/
def flat : FVec Ideal S1024x2048 .bf16 := fun p => uBlk x3 x4 x5 x0 (p 0) (p 1)

/-- The chunks, the last stored first. -/
def pieces : List (View.Piece (Elt Ideal) S1024x2048 .bf16) :=
  [⟨Rect.unit ![896, 0] ![128, 2048] inb_S1024x2048_S128x2048_896_0,
      k0_pay1 (F := Ideal) (k0_pay16 (F := Ideal) (k0_pay3 (F := Ideal) x3 x4) (k0_pay4 (F := Ideal) x5) (k0_pay5 (F := Ideal) x0)
        (View.ld (Val := Elt Ideal) (e' := .f32) x0 (Rect.unit ![0, 896, 0] ![1, 128, 2048] inb_S1x1024x2048_S1x128x2048_0_896_0)))⟩,
    ⟨Rect.unit ![768, 0] ![128, 2048] inb_S1024x2048_S128x2048_768_0,
      k0_pay15 (F := Ideal) (k0_pay3 (F := Ideal) x3 x4) (k0_pay4 (F := Ideal) x5) (k0_pay5 (F := Ideal) x0)
        (View.ld (Val := Elt Ideal) (e' := .f32) x0 (Rect.unit ![0, 768, 0] ![1, 128, 2048] inb_S1x1024x2048_S1x128x2048_0_768_0))⟩,
    ⟨Rect.unit ![640, 0] ![128, 2048] inb_S1024x2048_S128x2048_640_0,
      k0_pay14 (F := Ideal) (k0_pay3 (F := Ideal) x3 x4) (k0_pay4 (F := Ideal) x5) (k0_pay5 (F := Ideal) x0)
        (View.ld (Val := Elt Ideal) (e' := .f32) x0 (Rect.unit ![0, 640, 0] ![1, 128, 2048] inb_S1x1024x2048_S1x128x2048_0_640_0))⟩,
    ⟨Rect.unit ![512, 0] ![128, 2048] inb_S1024x2048_S128x2048_512_0,
      k0_pay13 (F := Ideal) (k0_pay4 (F := Ideal) x5) (k0_pay12 (F := Ideal) (k0_pay3 (F := Ideal) x3 x4) (k0_pay5 (F := Ideal) x0)
        (View.ld (Val := Elt Ideal) (e' := .f32) x0 (Rect.unit ![0, 512, 0] ![1, 128, 2048] inb_S1x1024x2048_S1x128x2048_0_512_0)))⟩,
    ⟨Rect.unit ![384, 0] ![128, 2048] inb_S1024x2048_S128x2048_384_0,
      k0_pay11 (F := Ideal) (k0_pay3 (F := Ideal) x3 x4) (k0_pay4 (F := Ideal) x5) (k0_pay5 (F := Ideal) x0)
        (View.ld (Val := Elt Ideal) (e' := .f32) x0 (Rect.unit ![0, 384, 0] ![1, 128, 2048] inb_S1x1024x2048_S1x128x2048_0_384_0))⟩,
    ⟨Rect.unit ![256, 0] ![128, 2048] inb_S1024x2048_S128x2048_256_0,
      k0_pay10 (F := Ideal) (k0_pay3 (F := Ideal) x3 x4) (k0_pay4 (F := Ideal) x5) (k0_pay5 (F := Ideal) x0)
        (View.ld (Val := Elt Ideal) (e' := .f32) x0 (Rect.unit ![0, 256, 0] ![1, 128, 2048] inb_S1x1024x2048_S1x128x2048_0_256_0))⟩,
    ⟨Rect.unit ![128, 0] ![128, 2048] inb_S1024x2048_S128x2048_128_0,
      k0_pay9 (F := Ideal) (k0_pay3 (F := Ideal) x3 x4) (k0_pay4 (F := Ideal) x5) (k0_pay7 (F := Ideal)
        (View.ld (Val := Elt Ideal) (e' := .f32) x0 (Rect.unit ![0, 128, 0] ![1, 128, 2048] inb_S1x1024x2048_S1x128x2048_0_128_0))) (k0_pay8 (F := Ideal) x0)⟩,
    ⟨Rect.unit ![0, 0] ![128, 2048] inb_S1024x2048_S128x2048_0_0,
      k0_pay6 (F := Ideal) x3 x4 x5 x0
        (View.ld (Val := Elt Ideal) (e' := .f32) x0 (Rect.unit ![0, 0, 0] ![1, 128, 2048] inb_S1x1024x2048_S1x128x2048_0_0_0))⟩]

variable (p : S1024x2048.Idx)

/-- Where a chunk of 128 rows holds the element, it has `flat`'s value. -/
theorem chunk_tile (o : ℕ) (hr : o + 128 ≤ 1024)
    (P : FVec Ideal S128x2048 .bf16) (y : FVec Ideal S1x128x2048 .f32)
    (hP : ∀ (r : Fin 128) (d : Fin 2048) (k : Fin 1024), k.1 = o + r.1 → P (ix2 r d) =
      y (ix3 (0 : Fin 1) r d) * k0_pay5 (F := Ideal) x0 (ix2 k (0 : Fin 1)) * k0_pay3 (F := Ideal) x3 x4 (ix2 (0 : Fin 1) d)
        + k0_pay4 (F := Ideal) x5 (ix2 (0 : Fin 1) d))
    (hy : ∀ (r : Fin 128) (d : Fin 2048) (k : Fin 1024), k.1 = o + r.1 → y (ix3 (0 : Fin 1) r d) = x0 (ix3 (0 : Fin 1) k d)) :
    View.TileAt (Val := Elt Ideal) (S := S1024x2048) (e := .bf16) p ![o, 0] ![128, 2048] P (flat x0 x3 x4 x5 p) := by
  intro x hx
  obtain ⟨r, d, rfl⟩ : ∃ (r : Fin 128) (d : Fin 2048), x = ix2 r d := ⟨x 0, x 1, funext fun a => by fin_cases a <;> rfl⟩
  have h0 : (p 0).1 = o + r.1 := hx 0
  have h1 : (p 1).1 = 0 + d.1 := hx 1
  have e1 : p 1 = d := Fin.ext (by omega)
  have hk : o + r.1 < 1024 := by omega
  have e0 : p 0 = (⟨o + r.1, hk⟩ : Fin 1024) := Fin.ext h0
  refine (hP r d ⟨o + r.1, hk⟩ rfl).trans ?_
  rw [hy r d ⟨o + r.1, hk⟩ rfl,
    show k0_pay5 (F := Ideal) x0 (ix2 (⟨o + r.1, hk⟩ : Fin 1024) (0 : Fin 1)) = _ from Up.pay4_at x0 ⟨o + r.1, hk⟩,
    show k0_pay3 (F := Ideal) x3 x4 (ix2 (0 : Fin 1) d) = _ from Up.pay2_at x3 x4 d,
    show k0_pay4 (F := Ideal) x5 (ix2 (0 : Fin 1) d) = _ from Up.pay3_at x5 d]
  unfold flat
  rw [e0, e1]
  rfl

theorem cover_pieces : ∃ q ∈ pieces x0 x3 x4 x5, p ∈ q.1.set :=
  View.cover_of_tiledBy (pieces x0 x3 x4 x5) ![128, 2048] (by sl_kernel_rfl) p

/-- THE CHUNKS AS ONE ARRAY. -/
theorem canon_pieces : View.canon (pieces x0 x3 x4 x5) = flat x0 x3 x4 x5 := by
  funext p
  refine View.canon_eq_of_allAt _ p _ (cover_pieces x0 x3 x4 x5 p) ?_
  unfold pieces
  refine View.allAt_cons_unit _ _ _ _ _ (chunk_tile x0 x3 x4 x5 p 896 (by omega) _ _ (Up.pay16_at _ _ _ _) (Up.ld_rows x0 896 _)) ?_
  refine View.allAt_cons_unit _ _ _ _ _ (chunk_tile x0 x3 x4 x5 p 768 (by omega) _ _ (Up.pay14_at _ _ _ _) (Up.ld_rows x0 768 _)) ?_
  refine View.allAt_cons_unit _ _ _ _ _ (chunk_tile x0 x3 x4 x5 p 640 (by omega) _ _ (Up.pay13_at _ _ _ _) (Up.ld_rows x0 640 _)) ?_
  refine View.allAt_cons_unit _ _ _ _ _ (chunk_tile x0 x3 x4 x5 p 512 (by omega) _ _ (Up.pay12_at _ _ _ _) (Up.ld_rows x0 512 _)) ?_
  refine View.allAt_cons_unit _ _ _ _ _ (chunk_tile x0 x3 x4 x5 p 384 (by omega) _ _ (Up.pay10_at _ _ _ _) (Up.ld_rows x0 384 _)) ?_
  refine View.allAt_cons_unit _ _ _ _ _ (chunk_tile x0 x3 x4 x5 p 256 (by omega) _ _ (Up.pay9_at _ _ _ _) (Up.ld_rows x0 256 _)) ?_
  refine View.allAt_cons_unit _ _ _ _ _ (chunk_tile x0 x3 x4 x5 p 128 (by omega) _ _
    (Up.pay8_at x0 (View.ld (Val := Elt Ideal) (e' := .f32) x0 (Rect.unit (s := S1x1024x2048) ![0, 128, 0] ![1, 128, 2048] inb_S1x1024x2048_S1x128x2048_0_128_0))
      (k0_pay3 (F := Ideal) x3 x4) (k0_pay4 (F := Ideal) x5)) (Up.ld_rows x0 128 _)) ?_
  refine View.allAt_cons_unit _ _ _ _ _ (chunk_tile x0 x3 x4 x5 p 0 (by omega) _ _
    (fun r d k hk => Up.pay5_at _ _ _ _ _ r d k (by omega)) (Up.ld_rows x0 0 _)) ?_
  exact View.allAt_nil _ _

/-- The chunks read back through the whole scratch. -/
theorem readCov_pieces {sig : RefSig} {κ : Kind} {sp : Space} (v : View sig κ sp S1024x2048 .bf16) (inb) :
    v.readCov (pieces x0 x3 x4 x5) (Rect.unit (s := S1024x2048) ![0, 0] ![1024, 2048] inb).toLoadRect =
      flat x0 x3 x4 x5 := by
  rw [View.readCov_eq_canon_ld _ _ _ (cover_pieces x0 x3 x4 x5), canon_pieces]
  exact View.ld_unit_lit' inb _ (by intro a; fin_cases a <;> rfl)

end

section
variable (h : Up.Hid) (nw : Up.Nw) (sc sh : Up.Mod) (b : Fin 8) (i : Fin 4)

/-- The scratch's rows are the prepared rows of the sequence (which are counted from one). -/
theorem flat_rows (x0 : FVec Ideal S1x1024x2048 .f32) (x3 : FVec Ideal S1x2048 .f32) (x4 x5 : FVec Ideal S1x1x2048 .f32)
    (h3 : ∀ d : Fin 2048, x3 (ix2 (0 : Fin 1) d) = nw (ix1 d))
    (h4 : ∀ d : Fin 2048, x4 (ix3 (0 : Fin 1) (0 : Fin 1) d) = sc (ix3 b (0 : Fin 1) d))
    (h5 : ∀ d : Fin 2048, x5 (ix3 (0 : Fin 1) (0 : Fin 1) d) = sh (ix3 b (0 : Fin 1) d))
    (h0 : ∀ (r : Fin 1024) (d : Fin 2048) (k : Fin 4096), k.1 = i.1 * 1024 + r.1 → x0 (ix3 (0 : Fin 1) r d) = h (ix3 b k d))
    (p : S1024x2048.Idx) : flat x0 x3 x4 x5 p = Up.uAt h nw sc sh b (i.1 * 1024 + (p 0).1 + 1) (p 1) := by
  have hp : (p 0).1 < 1024 := (p 0).2
  have hi := i.2
  exact Up.uBlk_eq h nw sc sh b x3 x4 x5 h3 h4 h5 x0 (p 0) (p 1) ⟨i.1 * 1024 + (p 0).1, by omega⟩ _ rfl fun d => h0 _ d _ rfl

/-- A row of the scratch times a column of a block of weights is an entry of the reference's product. -/
theorem prod_rows {N : ℕ} (W : FVec Ideal (⟨2, ![2048, N]⟩ : Shape) .f32) (s : FVec Ideal S1024x2048 .bf16)
    (w : FVec Ideal S2048x512 .bf16) (r : Fin 1024) (j : Fin 512) (col : Fin N)
    (hs : ∀ p, s p = Up.uAt h nw sc sh b (i.1 * 1024 + (p 0).1 + 1) (p 1)) (hw : ∀ d, w (ix2 d j) = W (ix2 d col)) :
    ∑ d : Fin 2048, s (ix2 r d) * w (ix2 d j) = Up.pAt h nw sc sh W b (i.1 * 1024 + r.1 + 1) col :=
  Finset.sum_congr rfl fun d _ => by rw [hs, hw]; rfl

end

end Zin

end
-- ==== Proof.Zin.Array.lean ====
/-
  The result array of the state-space mixer's gate projection.

  The grid walks batch entry (8), block of 1024 rows (4) and block of 512 columns (8). The scratch is filled at the first
  of eight points; the block of the result is its product with a block of the weights.
-/
module

public import proofs.«01_k».proof.Proof.Zin.Reference
public import proofs.«01_k».proof.Proof.Zin.Block
public import proofs.«01_k».proof.Proof.Gen.Kernel7Ideal.Value
public import Idealize.ShloMosaic.Lib.StableHlo.Run
public import Idealize.ShloMosaic.Lib.ValueLayout
public import Idealize.ShloMosaic.Lib.WholeRead

@[expose] public section

set_option maxRecDepth 16384

noncomputable section

namespace Zin

open Cert.Kernel7Ideal Cert.Kernel7Ideal.Gen Idealize.ShloMosaic Idealize.ShloMosaic.TcCoe Idealize.SL.Sem
open Idealize.ShloMosaic.Pipeline (Dat)
open Up (Hid Nw Mod uAt pAt)

theorem idx0 : ∀ t : Fin cfg0.N, win0_0.index t = ![t.val / 32, t.val / 8 % 4, 0] :=
  (by decide +kernel : ∀ t : Fin grid0.N, win0_0.index t = ![t.val / 32, t.val / 8 % 4, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 32, 0, 0] :=
  (by decide +kernel : ∀ t : Fin grid0.N, win0_2.index t = ![t.val / 32, 0, 0])
theorem idx3 : ∀ t : Fin cfg0.N, win0_3.index t = ![t.val / 32, 0, 0] :=
  (by decide +kernel : ∀ t : Fin grid0.N, win0_3.index t = ![t.val / 32, 0, 0])
theorem idx4 : ∀ t : Fin cfg0.N, win0_4.index t = ![0, t.val % 8] :=
  (by decide +kernel : ∀ t : Fin grid0.N, win0_4.index t = ![0, t.val % 8])
theorem idx5 : ∀ t : Fin cfg0.N, win0_5.index t = ![t.val / 32, t.val / 8 % 4, t.val % 8] :=
  (by decide +kernel : ∀ t : Fin grid0.N, win0_5.index t = ![t.val / 32, t.val / 8 % 4, t.val % 8])

/-- The block of the result at an element. -/
theorem pay2_at (s : FVec Ideal S1024x2048 .bf16) (w : FVec Ideal S2048x512 .bf16) (r : Fin 1024) (j : Fin 512) :
    k0_pay2 (F := Ideal) s w (ix3 (0 : Fin 1) r j) = ∑ d : Fin 2048, s (ix2 r d) * w (ix2 d j) := by
  pointwise [k0_pay2]

section
variable (m : (ℓ : Loc nD τ sig) → Buf (Elt Ideal) ℓ) (c : Dev nD)

/-- The arguments as launched. -/
abbrev hid : Hid := m ((c.tc : Thread nD τ).loc main_arg0)
abbrev nwt : Nw := m ((c.tc : Thread nD τ).loc main_arg1)
abbrev scl : Mod := m ((c.tc : Thread nD τ).loc main_arg2)
abbrev shf : Mod := m ((c.tc : Thread nD τ).loc main_arg3)
abbrev wgt : Wt := m ((c.tc : Thread nD τ).loc main_arg4)

/-- The columns of the weights, cast. -/
theorem V_v1 (d : Fin 2048) (j : Fin 4096) : (V m c main_v1 : FVec Ideal S2048x4096 .bf16) (ix2 d j) = cols (wgt m c) (ix2 d j) := by
  show StableHlo.after hostOps0 _ (Proc.devRef .tc main_v1) (ix2 d j) = _
  after_results
  exact congrArg (wgt m c) (funext fun a => Fin.ext (by
    fin_cases a
    · show 0 + d.1 = d.1; omega
    · show 0 + j.1 = j.1; omega))

/-- The norm's weights as a row. -/
theorem V_v2 (d : Fin 2048) : (V m c main_v2 : FVec Ideal S1x2048 .f32) (ix2 (0 : Fin 1) d) = nwt m c (ix1 d) := by
  show StableHlo.after hostOps0 _ (Proc.devRef .tc main_v2) (ix2 (0 : Fin 1) d) = _
  after_results
  exact ValueIdx.shapeCast_a_1a_apply _ _ _ _

variable (t : Fin cfg0.N)

/-- Where point `t` is in the grid. -/
def ptB : Fin 8 := ⟨t.1 / 32, by have h : t.1 < 256 := lt_of_lt_of_eq t.2 N_0; omega⟩
def ptI : Fin 4 := ⟨t.1 / 8 % 4, by omega⟩

/-- A column of the block, in the array. -/
def col (j : Fin 512) : Fin 4096 := ⟨t.1 % 8 * 512 + j.1, by omega⟩

theorem blk0_at (r : Fin 1024) (d : Fin 2048) (k : Fin 4096) (hk : k.1 = (ptI t).1 * 1024 + r.1) :
    (iblk m c 0 t : FVec Ideal S1x1024x2048 .f32) (ix3 (0 : Fin 1) r d) = hid m c (ix3 (ptB t) k d) := by
  obtain ⟨k, hl⟩ := k
  obtain rfl : k = (ptI t).1 * 1024 + r.1 := hk
  refine Eq.trans ?_ (congrFun (V_main_arg0 m c) _)
  blk_ext [iblk, idx0, ptB, ptI]

theorem blk1_at (d : Fin 2048) : (iblk m c 1 t : FVec Ideal S1x2048 .f32) (ix2 (0 : Fin 1) d) = nwt m c (ix1 d) := by
  refine Eq.trans ?_ (V_v2 m c d)
  blk_ext [iblk, idx1]

theorem blk2_at (d : Fin 2048) :
    (iblk m c 2 t : FVec Ideal S1x1x2048 .f32) (ix3 (0 : Fin 1) (0 : Fin 1) d) = scl m c (ix3 (ptB t) (0 : Fin 1) d) := by
  refine Eq.trans ?_ (congrFun (V_main_arg2 m c) _)
  blk_ext [iblk, idx2, ptB]

theorem blk3_at (d : Fin 2048) :
    (iblk m c 3 t : FVec Ideal S1x1x2048 .f32) (ix3 (0 : Fin 1) (0 : Fin 1) d) = shf m c (ix3 (ptB t) (0 : Fin 1) d) := by
  refine Eq.trans ?_ (congrFun (V_main_arg3 m c) _)
  blk_ext [iblk, idx3, ptB]

theorem blk4_at (d : Fin 2048) (j : Fin 512) :
    (iblk m c 4 t : FVec Ideal S2048x512 .bf16) (ix2 d j) = cols (wgt m c) (ix2 d (col t j)) := by
  refine Eq.trans ?_ (V_v1 m c _ _)
  blk_ext [iblk, idx4, col]

/-- The scratch's rows, as filled at the first point of a block of rows. -/
theorem flat_at (p : S1024x2048.Idx) : flat (iblk m c 0 t) (iblk m c 1 t) (iblk m c 2 t) (iblk m c 3 t) p =
    uAt (hid m c) (nwt m c) (scl m c) (shf m c) (ptB t) ((ptI t).1 * 1024 + (p 0).1 + 1) (p 1) :=
  flat_rows (hid m c) (nwt m c) (scl m c) (shf m c) (ptB t) (ptI t) _ _ _ _ (blk1_at m c t) (blk2_at m c t) (blk3_at m c t)
    (blk0_at m c t) p

theorem scratch_A (h0 : t.val % 8 = 0) : (outsAt0 m c t.val t.isLt).2 =
    flat (iblk m c 0 t) (iblk m c 1 t) (iblk m c 2 t) (iblk m c 3 t) := by
  rw [outsAt0_A m c t h0]
  frame_out
  exact canon_pieces (iblk m c 0 t) (iblk m c 1 t) (iblk m c 2 t) (iblk m c 3 t)

theorem scratch_B (h0 : ¬t.val % 8 = 0) (hp) : (outsAt0 m c t.val t.isLt).2 = (outsAt0 m c (t.val - 1) hp).2 := by
  rw [outsAt0_B m c t h0]
  rfl

/-- The scratch at every point. -/
theorem scratch_at (n : ℕ) (hn : n < cfg0.N) (p : S1024x2048.Idx) : (outsAt0 m c n hn).2 p =
    uAt (hid m c) (nwt m c) (scl m c) (shf m c) (ptB ⟨n, hn⟩) ((ptI ⟨n, hn⟩).1 * 1024 + (p 0).1 + 1) (p 1) := by
  induction n with
  | zero => exact (congrFun (scratch_A m c ⟨0, hn⟩ rfl) p).trans (flat_at m c ⟨0, hn⟩ p)
  | succ n ih =>
    by_cases h0 : (n + 1) % 8 = 0
    · exact (congrFun (scratch_A m c ⟨n + 1, hn⟩ h0) p).trans (flat_at m c ⟨n + 1, hn⟩ p)
    · have hn' : n < cfg0.N := Nat.lt_of_succ_lt hn
      refine (congrFun (scratch_B m c ⟨n + 1, hn⟩ h0 hn') p).trans ((ih hn').trans ?_)
      have eb : ptB ⟨n, hn'⟩ = ptB ⟨n + 1, hn⟩ := Fin.ext (by show n / 32 = (n + 1) / 32; omega)
      have ei : ptI ⟨n, hn'⟩ = ptI ⟨n + 1, hn⟩ := Fin.ext (by show n / 8 % 4 = (n + 1) / 8 % 4; omega)
      rw [eb, ei]

/-- The block of the result, from the scratch. -/
def outBlk (s : FVec Ideal S1024x2048 .bf16) : FVec Ideal S1x1024x512 .f32 := k0_pay2 (F := Ideal) s (iblk m c 4 t)

theorem out_A (h0 : t.val % 8 = 0) : (outsAt0 m c t.val t.isLt).1 = outBlk m c t (outsAt0 m c t.val t.isLt).2 := by
  rw [scratch_A m c t h0, outsAt0_A m c t h0]
  refine funext fun p => ?_
  frame_out
  exact congrArg (fun s => outBlk m c t s p) (readCov_pieces (iblk m c 0 t) (iblk m c 1 t) (iblk m c 2 t) (iblk m c 3 t) (View.whole cc0_scratch0) inb_S1024x2048_S1024x2048_0_0)

theorem out_B (h0 : ¬t.val % 8 = 0) : (outsAt0 m c t.val t.isLt).1 = outBlk m c t (outsAt0 m c t.val t.isLt).2 := by
  rw [scratch_B m c t h0 (Nat.lt_of_le_of_lt (Nat.sub_le _ _) t.isLt), outsAt0_B m c t h0]
  refine funext fun p => ?_
  frame_out
  exact congrArg (fun s => outBlk m c t s p)
    (Memref.IsWhole.read_unread (m := Memref.whole cc0_scratch0) (Memref.isWhole_whole _) _)

/-- What the body leaves in the result's block at point `t`, at an index. -/
theorem block_eq (r : Fin 1024) (j : Fin 512) (g : Fin 4096) (hg : g.1 = (ptI t).1 * 1024 + r.1) :
    (outsAt0 m c t.val t.isLt).1 (ix3 (0 : Fin 1) r j) =
      Cert.Reference7Ideal.Read.val_main_v20 (F := Ideal) (hid m c) (nwt m c) (scl m c) (shf m c) (wgt m c)
        (ix3 (ptB t) g (col t j)) := by
  have e : (outsAt0 m c t.val t.isLt).1 = outBlk m c t (outsAt0 m c t.val t.isLt).2 := by
    by_cases h0 : t.val % 8 = 0
    · exact out_A m c t h0
    · exact out_B m c t h0
  refine (congrFun e _).trans ?_
  rw [ref_at]
  unfold outBlk
  rw [pay2_at, prod_rows (hid m c) (nwt m c) (scl m c) (shf m c) (ptB t) (ptI t) (cols (wgt m c)) _ _ r j (col t j)
      (scratch_at m c t.val t.isLt) (blk4_at m c t · j), ← hg]

end

section
variable (m : (ℓ : Loc nD τ sig) → Buf (Elt Ideal) ℓ) (ρ : Dev nD → PrngReg)

/-- THE RESULT ARRAY: the reference's. -/
theorem final (c : Dev nD) : (dats m 0 c).arrAt 5 cfg0.N =
    Cert.Reference7Ideal.Read.val_main_v20 (F := Ideal) (hid m c) (nwt m c) (scl m c) (shf m c) (wgt m c) := by
  refine (dats m 0 c).arrAt_eq_of_covers 5 _ (by decide +kernel) fun t hf y => ?_
  blk_simp
  rw [after0_5]
  obtain ⟨y0, r, j, rfl⟩ : ∃ (y0 : Fin 1) (r : Fin 1024) (j : Fin 512), y = ix3 y0 r j :=
    ⟨y 0, y 1, y 2, funext fun a => by fin_cases a <;> rfl⟩
  obtain rfl : y0 = 0 := Subsingleton.elim _ _
  have hi := (ptI t).2
  refine (block_eq m c t r j ⟨(ptI t).1 * 1024 + r.1, by omega⟩ rfl).trans (congrArg _ ?_)
  blk_ext [idx5, ptB, ptI, col]

/-- The run: the result array at the reference's, the arguments unchanged. -/
theorem run : θ_run defs (onTc (τ := τ) (main (F := Ideal))) ⟨m, fun _ => 0, ρ⟩ fun r => ∀ c : Dev nD,
      r.2.mem ((c.tc : Thread nD τ).loc main_v3) =
        Cert.Reference7Ideal.Read.val_main_v20 (F := Ideal) (hid m c) (nwt m c) (scl m c) (shf m c) (wgt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ k c => ⟨(k c).1.trans (final m c), (k c).2⟩)
    (Cert.Kernel7Ideal.Value.run_blocks m ρ)

end

end Zin

end
-- ==== Proof.Zin.Claims.lean ====
/-
  The claims about the state-space mixer's gate projection, from its parts: the generated frames, and the two runs ending at one
  array.
-/
module

public import proofs.«01_k».proof.Defs
public import proofs.«01_k».proof.Proof.Zin.Array
public import proofs.«01_k».proof.Proof.Gen.Kernel7.Frame
public import proofs.«01_k».proof.Proof.Gen.Reference7Ideal.Run
public import Idealize.ShloMosaic.Lib.Quiescent

@[expose] public section

noncomputable section

namespace Zin.Claims

open Idealize.ShloMosaic Idealize.ShloMosaic.TcCoe Idealize.SL.Sem

theorem frame_kernel : Cert.quiescent_Kernel7 := fun m ρ _ => Cert.Kernel7.Gen.frame m ρ
theorem frame_kernelIdeal : Cert.quiescent_Kernel7Ideal := fun m ρ _ => Cert.Kernel7Ideal.Gen.frame m ρ
theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => Cert.Reference7Ideal.Read.val_main_v20 (F := Ideal) (hid m c) (nwt m c) (scl m c) (shf m c) (wgt m c), run m ρ, ?_⟩
  refine (θ_run Cert.Reference7Ideal.defs _ _).mono (fun _ h c => ⟨(h c).1.trans ?_, (h c).2⟩)
    (Cert.Reference7Ideal.Value.run (F := Ideal) m' ρ')
  obtain ⟨h0, h1, h2, h3, h4⟩ := hagree c
  rw [Cert.Reference7Ideal.Read.val_main_v20_eq, h0, h1, h2, h3, h4]

end Zin.Claims

end
-- ==== Proof.Four.Reference.lean ====
/-
  The Fourier mixer's projection of the reference, read at one element: position `2 r + o` stands at row `r` of half `o`.
-/
module

public import proofs.«01_k».proof.Proof.Up.Reference
public import proofs.«01_k».proof.Proof.Gen.Reference8Ideal.Read

@[expose] public section

set_option maxRecDepth 16384

noncomputable section

namespace Four

open Cert.Reference8Ideal Cert.Reference8Ideal.Gen Cert.Reference8Ideal.Read Idealize.ShloMosaic
open Up (Hid Nw Mod uAt pAt)

/-- The folded weights. -/
abbrev Wt : Type := FVec Ideal S2048x4096 .bf16

/-- The folded weights, read as f32. -/
def wide (w : Wt) : FVec Ideal (⟨2, ![2048, 4096]⟩ : Shape) .f32 := fun p => w p

section
variable (h : Hid) (nw : Nw) (sc sh : Mod) (w : Wt) (b : Fin 8) (g : Fin 4096) (d : Fin 2048) (j : Fin 4096)

/-- The prepared rows are those of the feed-forward part. -/
theorem v18_at : val_main_v18 (F := Ideal) h nw sc sh (ix3 b g d) = uAt h nw sc sh b (g.1 + 1) d :=
  Up.v18_at h nw sc sh b g d

/-- The product at an element. -/
theorem v20_at : val_main_v20 (F := Ideal) h nw sc sh w (ix3 b g j) = pAt h nw sc sh (wide w) b (g.1 + 1) j := by
  rw [val_main_v20_apply]
  unfold pAt
  refine Finset.sum_congr rfl fun d _ => ?_
  rw [← v18_at h nw sc sh b g d]
  rw [show lidx_main_v20 (ix3 b g j) d = ix3 b g d from funext fun a => Fin.ext (by fin_cases a <;> rfl),
    show ridx_main_v20 (ix3 b g j) d = ix2 d j from funext fun a => Fin.ext (by fin_cases a <;> rfl)]
  rfl

/-- THE REFERENCE at an element. -/
theorem ref_at (o : Fin 2) (r : Fin 2048) : val_main_v23 (F := Ideal) h nw sc sh w (ix4 o b r j) =
    pAt h nw sc sh (wide w) b (r.1 * 2 + o.1 + 1) j := by
  have hb := b.2
  have ho := o.2
  have hr := r.2
  have hj := j.2
  refine Eq.trans ?_ (v20_at h nw sc sh w b ⟨r.1 * 2 + o.1, by omega⟩ j)
  refine (val_main_v22_apply (F := Ideal) _ _ _ _ _ _).trans ((val_main_v21_apply (F := Ideal) _ _ _ _ _ _).trans (congrArg _ ?_))
  refine funext fun a => Fin.ext ?_
  fin_cases a
  · show (((b.1 * 2048 + r.1) * 2 + o.1) * 4096 + j.1) / 16777216 = b.1; omega
  · show (((b.1 * 2048 + r.1) * 2 + o.1) * 4096 + j.1) / 4096 % 4096 = r.1 * 2 + o.1; omega
  · show (((b.1 * 2048 + r.1) * 2 + o.1) * 4096 + j.1) % 4096 = j.1; omega

end

end Four

end
-- ==== Proof.Four.Parked.lean ====
/-
  A product parked in a scratch, and every second row of it read back.

  A projection whose result is split by parity stores its product in four slabs of 128 columns (a scratch of shape
  1 × 4 × R × 128), then reads rows `o`, `o + 2`, `o + 4`, … of each slab and sets the four reads side by side. `parked` is
  the scratch as one array; `read_at` is what a strided read of it holds.
-/
module

public import Idealize.ShloMosaic.Lib.Pipeline.ValueKit
public import Idealize.ShloMosaic.Lib.Pointwise
public import proofs.«01_k».proof.Proof.Zin.Block

@[expose] public section

set_option maxRecDepth 16384

noncomputable section

namespace Four

open Idealize.ShloMosaic Idealize.ShloMosaic.Tactic

/-- Prepared rows, a block of weights, and the scratch of a product of the two. -/
abbrev Rows (R : ℕ) := FVec Ideal (⟨2, ![R, 2048]⟩ : Shape) .bf16
abbrev Wts := FVec Ideal (⟨2, ![2048, 512]⟩ : Shape) .bf16
abbrev Slabs (R : ℕ) : Shape := ⟨4, ![1, 4, R, 128]⟩

variable {R : ℕ}

/-- A column of a slab, in the product. -/
def slabCol (k : Fin 4) (q : Fin 128) : Fin 512 := ⟨k.1 * 128 + q.1, by omega⟩

/-- An entry of the product. -/
def prod (s : Rows R) (w : Wts) (r : Fin R) (j : Fin 512) : Ideal .f32 := ∑ d : Fin 2048, s (ix2 r d) * w (ix2 d j)

/-- The same entry with its column named otherwise. -/
theorem prod_col (s : Rows R) (w : Wts) (r : Fin R) (j j' : Fin 512) (h : j.1 = j'.1) :
    ∑ d : Fin 2048, s (ix2 r d) * w (ix2 d j) = prod s w r j' := by
  rw [Fin.ext h]
  rfl

/-- The scratch. -/
def parked (s : Rows R) (w : Wts) : FVec Ideal (Slabs R) .f32 := fun p => prod s w (p 2) (slabCol (p 1) (p 3))

/-- Where a slab holds the element, it has `parked`'s value. -/
theorem slab_tile (s : Rows R) (w : Wts) (p : (Slabs R).Idx) (k : ℕ) (hk : k < 4)
    (P : FVec Ideal (⟨4, ![1, 1, R, 128]⟩ : Shape) .f32)
    (hP : ∀ (r : Fin R) (q : Fin 128), P (ix4 (0 : Fin 1) (0 : Fin 1) r q) = prod s w r (slabCol ⟨k, hk⟩ q)) :
    View.TileAt (Val := Elt Ideal) (S := Slabs R) (e := .f32) p ![0, k, 0, 0] ![1, 1, R, 128] P (parked s w p) := by
  intro x hx
  obtain ⟨a, b, r, q, rfl⟩ : ∃ (a b : Fin 1) (r : Fin R) (q : Fin 128), x = ix4 a b r q :=
    ⟨x 0, x 1, x 2, x 3, funext fun a => by fin_cases a <;> rfl⟩
  have h1 : (p 1).1 = k + b.1 := hx 1
  have h2 : (p 2).1 = 0 + r.1 := hx 2
  have h3 : (p 3).1 = 0 + q.1 := hx 3
  obtain rfl : a = 0 := Subsingleton.elim _ _
  obtain rfl : b = 0 := Subsingleton.elim _ _
  have e1 : p 1 = (⟨k, hk⟩ : Fin 4) := Fin.ext (by simpa using h1)
  have e2 : p 2 = r := Fin.ext (by omega)
  have e3 : p 3 = q := Fin.ext (by omega)
  rw [hP]
  unfold parked
  rw [e1, e2, e3]

/-- Four slabs, the last stored first, are the scratch. -/
theorem canon_slabs (s : Rows R) (w : Wts) (P0 P1 P2 P3 : FVec Ideal (⟨4, ![1, 1, R, 128]⟩ : Shape) .f32)
    (i0 i1 i2 i3)
    (h0 : ∀ (r : Fin R) (q : Fin 128), P0 (ix4 (0 : Fin 1) (0 : Fin 1) r q) = prod s w r (slabCol 0 q))
    (h1 : ∀ (r : Fin R) (q : Fin 128), P1 (ix4 (0 : Fin 1) (0 : Fin 1) r q) = prod s w r (slabCol 1 q))
    (h2 : ∀ (r : Fin R) (q : Fin 128), P2 (ix4 (0 : Fin 1) (0 : Fin 1) r q) = prod s w r (slabCol 2 q))
    (h3 : ∀ (r : Fin R) (q : Fin 128), P3 (ix4 (0 : Fin 1) (0 : Fin 1) r q) = prod s w r (slabCol 3 q))
    (hc : ∀ p, ∃ q ∈ ([⟨Rect.unit ![0, 3, 0, 0] ![1, 1, R, 128] i3, P3⟩, ⟨Rect.unit ![0, 2, 0, 0] ![1, 1, R, 128] i2, P2⟩,
      ⟨Rect.unit ![0, 1, 0, 0] ![1, 1, R, 128] i1, P1⟩, ⟨Rect.unit ![0, 0, 0, 0] ![1, 1, R, 128] i0, P0⟩] :
        List (View.Piece (Elt Ideal) (Slabs R) .f32)), p ∈ q.1.set) :
    View.canon ([⟨Rect.unit ![0, 3, 0, 0] ![1, 1, R, 128] i3, P3⟩, ⟨Rect.unit ![0, 2, 0, 0] ![1, 1, R, 128] i2, P2⟩,
      ⟨Rect.unit ![0, 1, 0, 0] ![1, 1, R, 128] i1, P1⟩, ⟨Rect.unit ![0, 0, 0, 0] ![1, 1, R, 128] i0, P0⟩] :
        List (View.Piece (Elt Ideal) (Slabs R) .f32)) = parked s w := by
  funext p
  refine View.canon_eq_of_allAt _ p _ (hc p) ?_
  refine View.allAt_cons_unit _ _ _ _ _ (slab_tile s w p 3 (by omega) _ h3) ?_
  refine View.allAt_cons_unit _ _ _ _ _ (slab_tile s w p 2 (by omega) _ h2) ?_
  refine View.allAt_cons_unit _ _ _ _ _ (slab_tile s w p 1 (by omega) _ h1) ?_
  refine View.allAt_cons_unit _ _ _ _ _ (slab_tile s w p 0 (by omega) _ h0) ?_
  exact View.allAt_nil _ _

/-- The strided read of a slab: rows `o`, `o + 2`, …. -/
def second (s : Rows R) (w : Wts) (k : Fin 4) (o : ℕ) (ho : o + 1022 < R) : FVec Ideal (⟨4, ![1, 1, 512, 128]⟩ : Shape) .f32 :=
  fun j => prod s w ⟨o + 2 * (j 2).1, by have h : (j 2).1 < 512 := (j 2).2; omega⟩ (slabCol k (j 3))

theorem read_at {sig : RefSig} {κ : Kind} {sp : Space} (v : View sig κ sp (Slabs R) .f32) (s : Rows R) (w : Wts)
    (L : List (View.Piece (Elt Ideal) (Slabs R) .f32)) (hL : View.canon L = parked s w) (k : ℕ) (hk : k < 4) (o : ℕ)
    (ho : o + 1022 < R) (inb) :
    v.readCov L (⟨![0, k, o, 0], ![1, 1, 512, 128], ![1, 1, 2, 1], inb⟩ : LoadRect (Slabs R)) = second s w ⟨k, hk⟩ o ho := by
  rw [View.readCov_eq_canon', hL]
  funext j
  obtain ⟨a, b, r, q, rfl⟩ : ∃ (a b : Fin 1) (r : Fin 512) (q : Fin 128), j = ix4 a b r q :=
    ⟨j 0, j 1, j 2, j 3, funext fun a => by fin_cases a <;> rfl⟩
  show prod s w _ (slabCol _ _) = prod s w _ (slabCol _ _)
  refine congrArg₂ (prod s w) (Fin.ext ?_) (congrArg₂ slabCol (Fin.ext ?_) (Fin.ext ?_))
  · show o + 2 * r.1 = o + 2 * r.1; rfl
  · show k + 1 * b.1 = k; omega
  · show 0 + 1 * q.1 = q.1; omega

/-- Four reads side by side are one row. -/
theorem beside (a b c d : Fin 128 → Ideal .f32) (g : Fin 512 → Ideal .f32)
    (ha : ∀ q, a q = g (slabCol 0 q)) (hb : ∀ q, b q = g (slabCol 1 q)) (hc : ∀ q, c q = g (slabCol 2 q))
    (hd : ∀ q, d q = g (slabCol 3 q)) (j : Fin 512) (h3 : ¬j.1 < 128 → ¬j.1 - 128 < 128 → ¬j.1 - 128 - 128 < 128 → j.1 - 128 - 128 - 128 < 128) :
    (if h : j.1 < 128 then a ⟨j.1, h⟩
      else if h' : j.1 - 128 < 128 then b ⟨j.1 - 128, h'⟩
      else if h'' : j.1 - 128 - 128 < 128 then c ⟨j.1 - 128 - 128, h''⟩
      else d ⟨j.1 - 128 - 128 - 128, h3 h h' h''⟩) = g j := by
  have hj := j.2
  split_ifs with h h' h''
  · exact (ha _).trans (congrArg g (Fin.ext (by show 0 * 128 + j.1 = j.1; omega)))
  · exact (hb _).trans (congrArg g (Fin.ext (by show 1 * 128 + (j.1 - 128) = j.1; omega)))
  · exact (hc _).trans (congrArg g (Fin.ext (by show 2 * 128 + (j.1 - 128 - 128) = j.1; omega)))
  · exact (hd _).trans (congrArg g (Fin.ext (by show 3 * 128 + (j.1 - 128 - 128 - 128) = j.1; omega)))

/-- A block of the result: even rows first, then odd ones. -/
abbrev Halves : Shape := ⟨4, ![2, 1, 512, 512]⟩

/-- Where half `o` holds the element, it has the value given by parity, row and column. -/
theorem half_tile {e : EltTy} (g : ℕ → Fin 512 → Fin 512 → Elt Ideal e) (p : Halves.Idx) (o : ℕ)
    (P : (⟨4, ![1, 1, 512, 512]⟩ : Shape).Idx → Elt Ideal e)
    (hP : ∀ r j : Fin 512, P (ix4 (0 : Fin 1) (0 : Fin 1) r j) = g o r j) :
    View.TileAt (Val := Elt Ideal) (S := Halves) (e := e) p ![o, 0, 0, 0] ![1, 1, 512, 512] P (g (p 0).1 (p 2) (p 3)) := by
  intro x hx
  obtain ⟨a, b, r, q, rfl⟩ : ∃ (a b : Fin 1) (r q : Fin 512), x = ix4 a b r q :=
    ⟨x 0, x 1, x 2, x 3, funext fun a => by fin_cases a <;> rfl⟩
  have h0 : (p 0).1 = o + a.1 := hx 0
  have h2 : (p 2).1 = 0 + r.1 := hx 2
  have h3 : (p 3).1 = 0 + q.1 := hx 3
  obtain rfl : a = 0 := Subsingleton.elim _ _
  obtain rfl : b = 0 := Subsingleton.elim _ _
  have e0 : (p 0).1 = o := by simpa using h0
  have e2 : p 2 = r := Fin.ext (by omega)
  have e3 : p 3 = q := Fin.ext (by omega)
  rw [hP, e0, e2, e3]

/-- Two halves, the odd one stored last, are the block. -/
theorem canon_halves {e : EltTy} (g : ℕ → Fin 512 → Fin 512 → Elt Ideal e)
    (P0 P1 : (⟨4, ![1, 1, 512, 512]⟩ : Shape).Idx → Elt Ideal e) (i0 i1)
    (h0 : ∀ r j : Fin 512, P0 (ix4 (0 : Fin 1) (0 : Fin 1) r j) = g 0 r j)
    (h1 : ∀ r j : Fin 512, P1 (ix4 (0 : Fin 1) (0 : Fin 1) r j) = g 1 r j) (p : Halves.Idx) :
    View.canon ([⟨Rect.unit ![1, 0, 0, 0] ![1, 1, 512, 512] i1, P1⟩, ⟨Rect.unit ![0, 0, 0, 0] ![1, 1, 512, 512] i0, P0⟩] :
        List (View.Piece (Elt Ideal) Halves e)) p = g (p 0).1 (p 2) (p 3) := by
  refine View.canon_eq_of_allAt _ p _ (View.cover_of_tiledBy _ ![1, 1, 512, 512] (by sl_kernel_rfl) p) ?_
  refine View.allAt_cons_unit _ _ _ _ _ (half_tile g p 1 _ h1) ?_
  refine View.allAt_cons_unit _ _ _ _ _ (half_tile g p 0 _ h0) ?_
  exact View.allAt_nil _ _

end Four

end
-- ==== Proof.Four.Block.lean ====
/-
  The block the Fourier mixer's projection leaves: half a block of even rows and half a block of odd rows.

  `outBlk` is the block as one array; `canon_out` says that the two stores of the body amount to it.
-/
module

public import proofs.«01_k».proof.Proof.Four.Parked
public import proofs.«01_k».proof.Proof.Gen.Kernel8Ideal.Frame

@[expose] public section

set_option maxRecDepth 16384

noncomputable section

namespace Four

open Cert.Kernel8Ideal Cert.Kernel8Ideal.Gen Idealize.ShloMosaic Idealize.ShloMosaic.Tactic

section
variable (s : Rows 1024) (w : Wts)

theorem pay18_at (r : Fin 1024) (q : Fin 128) :
    k0_pay18 (F := Ideal) s w (ix4 (0 : Fin 1) (0 : Fin 1) r q) = prod s w r (slabCol 0 q) := by
  pointwise [k0_pay18, k0_pay17]
  exact prod_col s w r _ _ (by show _ = 0 * 128 + q.1; simp)
theorem pay19_at (r : Fin 1024) (q : Fin 128) :
    k0_pay19 (F := Ideal) s w (ix4 (0 : Fin 1) (0 : Fin 1) r q) = prod s w r (slabCol 1 q) := by
  pointwise [k0_pay19, k0_pay17]
  exact prod_col s w r _ _ (by show _ = 1 * 128 + q.1; simp)
theorem pay20_at (r : Fin 1024) (q : Fin 128) :
    k0_pay20 (F := Ideal) s w (ix4 (0 : Fin 1) (0 : Fin 1) r q) = prod s w r (slabCol 2 q) := by
  pointwise [k0_pay20, k0_pay17]
  exact prod_col s w r _ _ (by show _ = 2 * 128 + q.1; simp)
theorem pay21_at (r : Fin 1024) (q : Fin 128) :
    k0_pay21 (F := Ideal) s w (ix4 (0 : Fin 1) (0 : Fin 1) r q) = prod s w r (slabCol 3 q) := by
  pointwise [k0_pay21, k0_pay17]
  exact prod_col s w r _ _ (by show _ = 3 * 128 + q.1; simp)

/-- The slabs, the last stored first. -/
def slabs : List (View.Piece (Elt Ideal) S1x4x1024x128 .f32) :=
  [⟨Rect.unit ![0, 3, 0, 0] ![1, 1, 1024, 128] inb_S1x4x1024x128_S1x1x1024x128_0_3_0_0, k0_pay21 (F := Ideal) s w⟩,
    ⟨Rect.unit ![0, 2, 0, 0] ![1, 1, 1024, 128] inb_S1x4x1024x128_S1x1x1024x128_0_2_0_0, k0_pay20 (F := Ideal) s w⟩,
    ⟨Rect.unit ![0, 1, 0, 0] ![1, 1, 1024, 128] inb_S1x4x1024x128_S1x1x1024x128_0_1_0_0, k0_pay19 (F := Ideal) s w⟩,
    ⟨Rect.unit ![0, 0, 0, 0] ![1, 1, 1024, 128] inb_S1x4x1024x128_S1x1x1024x128_0_0_0_0, k0_pay18 (F := Ideal) s w⟩]

theorem canon_parked : View.canon (slabs s w) = parked s w :=
  canon_slabs s w _ _ _ _ _ _ _ _ (pay18_at s w) (pay19_at s w) (pay20_at s w) (pay21_at s w)
    fun p => View.cover_of_tiledBy (slabs s w) ![1, 1, 1024, 128] (by sl_kernel_rfl) p

/-- Four reads side by side: an element of the even half, and of the odd half. -/
theorem even_at (a b c d : FVec Ideal S1x1x512x128 .f32) (g : Fin 512 → Fin 512 → Ideal .f32)
    (ha : ∀ r q, a (ix4 (0 : Fin 1) (0 : Fin 1) r q) = g r (slabCol 0 q))
    (hb : ∀ r q, b (ix4 (0 : Fin 1) (0 : Fin 1) r q) = g r (slabCol 1 q))
    (hc : ∀ r q, c (ix4 (0 : Fin 1) (0 : Fin 1) r q) = g r (slabCol 2 q))
    (hd : ∀ r q, d (ix4 (0 : Fin 1) (0 : Fin 1) r q) = g r (slabCol 3 q)) (r j : Fin 512) :
    k0_pay23 (F := Ideal) (k0_pay22 (F := Ideal) a) b c d (ix4 (0 : Fin 1) (0 : Fin 1) r j) = g r j := by
  pointwise [k0_pay23, k0_pay22]
  exact beside _ _ _ _ (g r) (ha r) (hb r) (hc r) (hd r) j _

theorem odd_at (a b c d : FVec Ideal S1x1x512x128 .f32) (g : Fin 512 → Fin 512 → Ideal .f32)
    (ha : ∀ r q, a (ix4 (0 : Fin 1) (0 : Fin 1) r q) = g r (slabCol 0 q))
    (hb : ∀ r q, b (ix4 (0 : Fin 1) (0 : Fin 1) r q) = g r (slabCol 1 q))
    (hc : ∀ r q, c (ix4 (0 : Fin 1) (0 : Fin 1) r q) = g r (slabCol 2 q))
    (hd : ∀ r q, d (ix4 (0 : Fin 1) (0 : Fin 1) r q) = g r (slabCol 3 q)) (r j : Fin 512) :
    k0_pay1 (F := Ideal) (k0_pay24 (F := Ideal) a b c d) (ix4 (0 : Fin 1) (0 : Fin 1) r j) = g r j := by
  pointwise [k0_pay1, k0_pay24]
  exact beside _ _ _ _ (g r) (ha r) (hb r) (hc r) (hd r) j _

/-- A strided read of the slabs, at an element. -/
theorem read_slabs {sig : RefSig} {κ : Kind} {sp : Space} (v : View sig κ sp S1x4x1024x128 .f32) (k : ℕ) (hk : k < 4) (o : ℕ)
    (ho : o + 1022 < 1024) (inb) (r : Fin 512) (q : Fin 128) :
    v.readCov (slabs s w) (⟨![0, k, o, 0], ![1, 1, 512, 128], ![1, 1, 2, 1], inb⟩ : LoadRect S1x4x1024x128)
      (ix4 (0 : Fin 1) (0 : Fin 1) r q) = prod s w ⟨o + 2 * r.1, by omega⟩ (slabCol ⟨k, hk⟩ q) :=
  congrFun (read_at v s w (slabs s w) (canon_parked s w) k hk o ho inb) _

/-- The block: row `r` of half `o` is row `o + 2 r` of the product. -/
def outBlk : FVec Ideal S2x1x512x512 .bf16 := fun p =>
  prod s w ⟨(p 0).1 + 2 * (p 2).1, by have h0 : (p 0).1 < 2 := (p 0).2; have h2 : (p 2).1 < 512 := (p 2).2; omega⟩ (p 3)

/-- THE TWO STORES ARE THE BLOCK. -/
theorem canon_out {sig : RefSig} {κ : Kind} {sp : Space} (v : View sig κ sp S1x4x1024x128 .f32) (p : S2x1x512x512.Idx) :
    View.canon ([⟨Rect.unit ![1, 0, 0, 0] ![1, 1, 512, 512] inb_S2x1x512x512_S1x1x512x512_1_0_0_0,
      k0_pay1 (F := Ideal) (k0_pay24 (F := Ideal)
        (v.readCov (slabs s w) ⟨![0, 0, 1, 0], ![1, 1, 512, 128], ![1, 1, 2, 1], inb_S1x4x1024x128_S1x1x512x128_0_0_1_0_s_1_1_2_1⟩)
        (v.readCov (slabs s w) ⟨![0, 1, 1, 0], ![1, 1, 512, 128], ![1, 1, 2, 1], inb_S1x4x1024x128_S1x1x512x128_0_1_1_0_s_1_1_2_1⟩)
        (v.readCov (slabs s w) ⟨![0, 2, 1, 0], ![1, 1, 512, 128], ![1, 1, 2, 1], inb_S1x4x1024x128_S1x1x512x128_0_2_1_0_s_1_1_2_1⟩)
        (v.readCov (slabs s w) ⟨![0, 3, 1, 0], ![1, 1, 512, 128], ![1, 1, 2, 1], inb_S1x4x1024x128_S1x1x512x128_0_3_1_0_s_1_1_2_1⟩))⟩,
      ⟨Rect.unit ![0, 0, 0, 0] ![1, 1, 512, 512] inb_S2x1x512x512_S1x1x512x512_0_0_0_0,
      k0_pay23 (F := Ideal) (k0_pay22 (F := Ideal)
        (v.readCov (slabs s w) ⟨![0, 0, 0, 0], ![1, 1, 512, 128], ![1, 1, 2, 1], inb_S1x4x1024x128_S1x1x512x128_0_0_0_0_s_1_1_2_1⟩))
        (v.readCov (slabs s w) ⟨![0, 1, 0, 0], ![1, 1, 512, 128], ![1, 1, 2, 1], inb_S1x4x1024x128_S1x1x512x128_0_1_0_0_s_1_1_2_1⟩)
        (v.readCov (slabs s w) ⟨![0, 2, 0, 0], ![1, 1, 512, 128], ![1, 1, 2, 1], inb_S1x4x1024x128_S1x1x512x128_0_2_0_0_s_1_1_2_1⟩)
        (v.readCov (slabs s w) ⟨![0, 3, 0, 0], ![1, 1, 512, 128], ![1, 1, 2, 1], inb_S1x4x1024x128_S1x1x512x128_0_3_0_0_s_1_1_2_1⟩)⟩] :
      List (View.Piece (Elt Ideal) S2x1x512x512 .bf16)) p = outBlk s w p := by
  have hp : (p 0).1 < 2 := (p 0).2
  refine (canon_halves (e := .bf16) (fun o r j => if h : o < 2 then prod s w ⟨o + 2 * r.1, by omega⟩ j else 0) _ _ _ _
    (even_at _ _ _ _ _ (read_slabs s w v 0 (by omega) 0 (by omega) _) (read_slabs s w v 1 (by omega) 0 (by omega) _)
      (read_slabs s w v 2 (by omega) 0 (by omega) _) (read_slabs s w v 3 (by omega) 0 (by omega) _))
    (odd_at _ _ _ _ _ (read_slabs s w v 0 (by omega) 1 (by omega) _) (read_slabs s w v 1 (by omega) 1 (by omega) _)
      (read_slabs s w v 2 (by omega) 1 (by omega) _) (read_slabs s w v 3 (by omega) 1 (by omega) _)) p).trans ?_
  rw [dif_pos hp]
  rfl

end

end Four

end
-- ==== Proof.Four.Array.lean ====
/-
  The result array of the Fourier mixer's projection.

  The grid walks batch entry (8), block of 1024 rows (4) and block of 512 columns (8). The scratch of prepared rows is filled at
  the first of eight points; the block of the result is its product with a block of the weights, even rows first.
-/
module

public import proofs.«01_k».proof.Proof.Four.Reference
public import proofs.«01_k».proof.Proof.Four.Block
public import proofs.«01_k».proof.Proof.Gen.Kernel8Ideal.Value
public import Idealize.ShloMosaic.Lib.StableHlo.Run
public import Idealize.ShloMosaic.Lib.ValueLayout
public import Idealize.ShloMosaic.Lib.WholeRead

@[expose] public section

set_option maxRecDepth 16384

noncomputable section

namespace Four

open Cert.Kernel8Ideal Cert.Kernel8Ideal.Gen Idealize.ShloMosaic Idealize.ShloMosaic.TcCoe Idealize.SL.Sem
open Idealize.ShloMosaic.Pipeline (Dat)
open Up (Hid Nw Mod uAt pAt)
open Zin (flat flat_rows canon_pieces readCov_pieces prod_rows)

theorem idx0 : ∀ t : Fin cfg0.N, win0_0.index t = ![t.val / 32, t.val / 8 % 4, 0] :=
  (by decide +kernel : ∀ t : Fin grid0.N, win0_0.index t = ![t.val / 32, t.val / 8 % 4, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 32, 0, 0] :=
  (by decide +kernel : ∀ t : Fin grid0.N, win0_2.index t = ![t.val / 32, 0, 0])
theorem idx3 : ∀ t : Fin cfg0.N, win0_3.index t = ![t.val / 32, 0, 0] :=
  (by decide +kernel : ∀ t : Fin grid0.N, win0_3.index t = ![t.val / 32, 0, 0])
theorem idx4 : ∀ t : Fin cfg0.N, win0_4.index t = ![0, t.val % 8] :=
  (by decide +kernel : ∀ t : Fin grid0.N, win0_4.index t = ![0, t.val % 8])
theorem idx5 : ∀ t : Fin cfg0.N, win0_5.index t = ![0, t.val / 32, t.val / 8 % 4, t.val % 8] :=
  (by decide +kernel : ∀ t : Fin grid0.N, win0_5.index t = ![0, t.val / 32, t.val / 8 % 4, t.val % 8])

section
variable (m : (ℓ : Loc nD τ sig) → Buf (Elt Ideal) ℓ) (c : Dev nD)

/-- The arguments as launched. -/
abbrev hid : Hid := m ((c.tc : Thread nD τ).loc main_arg0)
abbrev nwt : Nw := m ((c.tc : Thread nD τ).loc main_arg1)
abbrev scl : Mod := m ((c.tc : Thread nD τ).loc main_arg2)
abbrev shf : Mod := m ((c.tc : Thread nD τ).loc main_arg3)
abbrev wgt : Wt := m ((c.tc : Thread nD τ).loc main_arg4)

/-- The norm's weights as a row. -/
theorem V_v0 (d : Fin 2048) : (V m c main_v0 : FVec Ideal S1x2048 .f32) (ix2 (0 : Fin 1) d) = nwt m c (ix1 d) := by
  show StableHlo.after hostOps0 _ (Proc.devRef .tc main_v0) (ix2 (0 : Fin 1) d) = _
  after_results
  exact ValueIdx.shapeCast_a_1a_apply _ _ _ _

variable (t : Fin cfg0.N)

/-- Where point `t` is in the grid. -/
def ptB : Fin 8 := ⟨t.1 / 32, by have h : t.1 < 256 := lt_of_lt_of_eq t.2 N_0; omega⟩
def ptI : Fin 4 := ⟨t.1 / 8 % 4, by omega⟩

/-- A column of the block, in the array. -/
def col (j : Fin 512) : Fin 4096 := ⟨t.1 % 8 * 512 + j.1, by omega⟩

theorem blk0_at (r : Fin 1024) (d : Fin 2048) (k : Fin 4096) (hk : k.1 = (ptI t).1 * 1024 + r.1) :
    (iblk m c 0 t : FVec Ideal S1x1024x2048 .f32) (ix3 (0 : Fin 1) r d) = hid m c (ix3 (ptB t) k d) := by
  obtain ⟨k, hl⟩ := k
  obtain rfl : k = (ptI t).1 * 1024 + r.1 := hk
  refine Eq.trans ?_ (congrFun (V_main_arg0 m c) _)
  blk_ext [iblk, idx0, ptB, ptI]

theorem blk1_at (d : Fin 2048) : (iblk m c 1 t : FVec Ideal S1x2048 .f32) (ix2 (0 : Fin 1) d) = nwt m c (ix1 d) := by
  refine Eq.trans ?_ (V_v0 m c d)
  blk_ext [iblk, idx1]

theorem blk2_at (d : Fin 2048) :
    (iblk m c 2 t : FVec Ideal S1x1x2048 .f32) (ix3 (0 : Fin 1) (0 : Fin 1) d) = scl m c (ix3 (ptB t) (0 : Fin 1) d) := by
  refine Eq.trans ?_ (congrFun (V_main_arg2 m c) _)
  blk_ext [iblk, idx2, ptB]

theorem blk3_at (d : Fin 2048) :
    (iblk m c 3 t : FVec Ideal S1x1x2048 .f32) (ix3 (0 : Fin 1) (0 : Fin 1) d) = shf m c (ix3 (ptB t) (0 : Fin 1) d) := by
  refine Eq.trans ?_ (congrFun (V_main_arg3 m c) _)
  blk_ext [iblk, idx3, ptB]

theorem blk4_at (d : Fin 2048) (j : Fin 512) :
    (iblk m c 4 t : FVec Ideal S2048x512 .bf16) (ix2 d j) = wide (wgt m c) (ix2 d (col t j)) := by
  refine Eq.trans ?_ (congrFun (V_main_arg4 m c) _)
  blk_ext [iblk, idx4, col]

/-- The scratch's rows, as filled at the first point of a block of rows. -/
theorem flat_at (p : S1024x2048.Idx) : flat (iblk m c 0 t) (iblk m c 1 t) (iblk m c 2 t) (iblk m c 3 t) p =
    uAt (hid m c) (nwt m c) (scl m c) (shf m c) (ptB t) ((ptI t).1 * 1024 + (p 0).1 + 1) (p 1) :=
  flat_rows (hid m c) (nwt m c) (scl m c) (shf m c) (ptB t) (ptI t) _ _ _ _ (blk1_at m c t) (blk2_at m c t) (blk3_at m c t)
    (blk0_at m c t) p

theorem scratch_A (h0 : t.val % 8 = 0) : (outsAt0 m c t.val t.isLt).2 =
    flat (iblk m c 0 t) (iblk m c 1 t) (iblk m c 2 t) (iblk m c 3 t) := by
  rw [outsAt0_A m c t h0]
  frame_out
  exact canon_pieces (iblk m c 0 t) (iblk m c 1 t) (iblk m c 2 t) (iblk m c 3 t)

theorem scratch_B (h0 : ¬t.val % 8 = 0) (hp) : (outsAt0 m c t.val t.isLt).2 = (outsAt0 m c (t.val - 1) hp).2 := by
  rw [outsAt0_B m c t h0]
  rfl

/-- The scratch at every point. -/
theorem scratch_at (n : ℕ) (hn : n < cfg0.N) (p : S1024x2048.Idx) : (outsAt0 m c n hn).2 p =
    uAt (hid m c) (nwt m c) (scl m c) (shf m c) (ptB ⟨n, hn⟩) ((ptI ⟨n, hn⟩).1 * 1024 + (p 0).1 + 1) (p 1) := by
  induction n with
  | zero => exact (congrFun (scratch_A m c ⟨0, hn⟩ rfl) p).trans (flat_at m c ⟨0, hn⟩ p)
  | succ n ih =>
    by_cases h0 : (n + 1) % 8 = 0
    · exact (congrFun (scratch_A m c ⟨n + 1, hn⟩ h0) p).trans (flat_at m c ⟨n + 1, hn⟩ p)
    · have hn' : n < cfg0.N := Nat.lt_of_succ_lt hn
      refine (congrFun (scratch_B m c ⟨n + 1, hn⟩ h0 hn') p).trans ((ih hn').trans ?_)
      have eb : ptB ⟨n, hn'⟩ = ptB ⟨n + 1, hn⟩ := Fin.ext (by show n / 32 = (n + 1) / 32; omega)
      have ei : ptI ⟨n, hn'⟩ = ptI ⟨n + 1, hn⟩ := Fin.ext (by show n / 8 % 4 = (n + 1) / 8 % 4; omega)
      rw [eb, ei]

theorem out_A (h0 : t.val % 8 = 0) : (outsAt0 m c t.val t.isLt).1 = outBlk (outsAt0 m c t.val t.isLt).2 (iblk m c 4 t) := by
  rw [scratch_A m c t h0, outsAt0_A m c t h0]
  refine funext fun p => ?_
  frame_out
  rw [← readCov_pieces (iblk m c 0 t) (iblk m c 1 t) (iblk m c 2 t) (iblk m c 3 t) (View.whole cc0_scratch0) inb_S1024x2048_S1024x2048_0_0]
  exact canon_out _ (iblk m c 4 t) (View.whole cc0_scratch1) p

theorem out_B (h0 : ¬t.val % 8 = 0) : (outsAt0 m c t.val t.isLt).1 = outBlk (outsAt0 m c t.val t.isLt).2 (iblk m c 4 t) := by
  rw [scratch_B m c t h0 (Nat.lt_of_le_of_lt (Nat.sub_le _ _) t.isLt), outsAt0_B m c t h0]
  refine funext fun p => ?_
  frame_out
  refine (canon_out _ (iblk m c 4 t) (View.whole cc0_scratch1) p).trans ?_
  exact congrArg (fun s => outBlk s (iblk m c 4 t) p)
    (Memref.IsWhole.read_unread (m := Memref.whole cc0_scratch0) (Memref.isWhole_whole _) _)

/-- What the body leaves in the result's block at point `t`, at an index. -/
theorem block_eq (o : Fin 2) (r j : Fin 512) (g : Fin 2048) (hg : g.1 = (ptI t).1 * 512 + r.1) :
    (outsAt0 m c t.val t.isLt).1 (ix4 o (0 : Fin 1) r j) =
      Cert.Reference8Ideal.Read.val_main_v23 (F := Ideal) (hid m c) (nwt m c) (scl m c) (shf m c) (wgt m c)
        (ix4 o (ptB t) g (col t j)) := by
  have e : (outsAt0 m c t.val t.isLt).1 = outBlk (outsAt0 m c t.val t.isLt).2 (iblk m c 4 t) := by
    by_cases h0 : t.val % 8 = 0
    · exact out_A m c t h0
    · exact out_B m c t h0
  have ho := o.2
  have hr := r.2
  refine (congrFun e _).trans ?_
  rw [ref_at]
  refine (prod_rows (hid m c) (nwt m c) (scl m c) (shf m c) (ptB t) (ptI t) (wide (wgt m c)) _ _ ⟨o.1 + 2 * r.1, by omega⟩ j
      (col t j) (scratch_at m c t.val t.isLt) (blk4_at m c t · j)).trans ?_
  refine congrArg (fun k => pAt (hid m c) (nwt m c) (scl m c) (shf m c) (wide (wgt m c)) (ptB t) k (col t j)) ?_
  show (ptI t).1 * 1024 + (o.1 + 2 * r.1) + 1 = g.1 * 2 + o.1 + 1
  omega

end

section
variable (m : (ℓ : Loc nD τ sig) → Buf (Elt Ideal) ℓ) (ρ : Dev nD → PrngReg)

/-- THE RESULT ARRAY: the reference's. -/
theorem final (c : Dev nD) : (dats m 0 c).arrAt 5 cfg0.N =
    Cert.Reference8Ideal.Read.val_main_v23 (F := Ideal) (hid m c) (nwt m c) (scl m c) (shf m c) (wgt m c) := by
  refine (dats m 0 c).arrAt_eq_of_covers 5 _ (by decide +kernel) fun t hf y => ?_
  blk_simp
  rw [after0_5]
  obtain ⟨o, y1, r, j, rfl⟩ : ∃ (o : Fin 2) (y1 : Fin 1) (r j : Fin 512), y = ix4 o y1 r j :=
    ⟨y 0, y 1, y 2, y 3, funext fun a => by fin_cases a <;> rfl⟩
  obtain rfl : y1 = 0 := Subsingleton.elim _ _
  have hi := (ptI t).2
  refine (block_eq m c t o r j ⟨(ptI t).1 * 512 + r.1, by omega⟩ rfl).trans (congrArg _ ?_)
  blk_ext [idx5, ptB, ptI, col]

/-- The run: the result array at the reference's, the arguments unchanged. -/
theorem run : θ_run defs (onTc (τ := τ) (main (F := Ideal))) ⟨m, fun _ => 0, ρ⟩ fun r => ∀ c : Dev nD,
      r.2.mem ((c.tc : Thread nD τ).loc main_v1) =
        Cert.Reference8Ideal.Read.val_main_v23 (F := Ideal) (hid m c) (nwt m c) (scl m c) (shf m c) (wgt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ k c => ⟨(k c).1.trans (final m c), (k c).2⟩)
    (Cert.Kernel8Ideal.Value.run_blocks m ρ)

end

end Four

end
-- ==== Proof.Four.Claims.lean ====
/-
  The claims about the Fourier mixer's projection, from its parts: the generated frames, and the two runs ending at one
  array.
-/
module

public import proofs.«01_k».proof.Defs
public import proofs.«01_k».proof.Proof.Four.Array
public import proofs.«01_k».proof.Proof.Gen.Kernel8.Frame
public import proofs.«01_k».proof.Proof.Gen.Reference8Ideal.Run
public import Idealize.ShloMosaic.Lib.Quiescent

@[expose] public section

noncomputable section

namespace Four.Claims

open Idealize.ShloMosaic Idealize.ShloMosaic.TcCoe Idealize.SL.Sem

theorem frame_kernel : Cert.quiescent_Kernel8 := fun m ρ _ => Cert.Kernel8.Gen.frame m ρ
theorem frame_kernelIdeal : Cert.quiescent_Kernel8Ideal := fun m ρ _ => Cert.Kernel8Ideal.Gen.frame m ρ
theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨fun c => Cert.Reference8Ideal.Read.val_main_v23 (F := Ideal) (hid m c) (nwt m c) (scl m c) (shf m c) (wgt m c), run m ρ, ?_⟩
  refine (θ_run Cert.Reference8Ideal.defs _ _).mono (fun _ h c => ⟨(h c).1.trans ?_, (h c).2⟩)
    (Cert.Reference8Ideal.Value.run (F := Ideal) m' ρ')
  obtain ⟨h0, h1, h2, h3, h4⟩ := hagree c
  rw [Cert.Reference8Ideal.Read.val_main_v23_eq, h0, h1, h2, h3, h4]

end Four.Claims

end
-- ==== Proof.Hy.Reference.lean ====
/-
  The Hyena mixer's projection in the reference, read at one element: an entry of the three-row convolution of the product of
  the prepared rows with the whole weights, at the position the half and the row name.
-/
module

public import proofs.«01_k».proof.Proof.Xbc.Reference
public import proofs.«01_k».proof.Proof.Gen.Reference9Ideal.Read

@[expose] public section

set_option maxRecDepth 16384

noncomputable section

namespace Hy

open Cert.Reference9Ideal Cert.Reference9Ideal.Gen Cert.Reference9Ideal.Read Idealize.ShloMosaic
open Up (Hid Nw Mod uAt pAt pAt_out convAt)
open Xbc (Cw Cb)

/-- The projection's weights. -/
abbrev Wt : Type := FVec Ideal S2048x6144 .f32

section
variable (h : Hid) (nw : Nw) (sc sh : Mod) (w : Wt) (cw : Cw) (cb : Cb)
variable (b : Fin 8) (g : Fin 4096) (d : Fin 2048) (j : Fin 6144)

/-- The prepared rows are those of the feed-forward part. -/
theorem v18_at : val_main_v18 (F := Ideal) h nw sc sh (ix3 b g d) = uAt h nw sc sh b (g.1 + 1) d :=
  Up.v18_at h nw sc sh b g d

theorem v19_at : val_main_v19 (F := Ideal) h nw sc sh w (ix3 b g j) = pAt h nw sc sh w b (g.1 + 1) j := by
  rw [val_main_v19_apply]
  unfold pAt
  refine Finset.sum_congr rfl fun d _ => ?_
  rw [← v18_at h nw sc sh b g d]
  rw [show lidx_main_v19 (ix3 b g j) d = ix3 b g d from funext fun a => Fin.ext (by fin_cases a <;> rfl),
    show ridx_main_v19 (ix3 b g j) d = ix2 d j from funext fun a => Fin.ext (by fin_cases a <;> rfl)]

theorem v20_at (i : S8x1x6144.Idx) : val_main_v20 (F := Ideal) i = 0 := by
  rw [val_main_v20_apply, val_main_cst_3_apply]
  show Ideal.ofBits .f32 0x00000000#32 = 0
  simp [Ideal.ofBits, Ideal.ieee]

/-- The row before. -/
theorem v22_at : val_main_v22 (F := Ideal) h nw sc sh w (ix3 b g j) = pAt h nw sc sh w b g.1 j := by
  unfold val_main_v22
  by_cases hg : g.1 = 0
  · refine (concatenate_pair_apply_left (t := S8x4096x6144) (s₁ := S8x1x6144) (s₂ := S8x4095x6144) 1 _ _ _ _ rfl
      (ix3 b (0 : Fin 1) j) (by intro a; fin_cases a <;> first | rfl | exact hg.symm)).trans ?_
    rw [v20_at, pAt_out _ _ _ _ _ _ _ _ (by omega)]
  · refine (concatenate_pair_apply_right (t := S8x4096x6144) (s₁ := S8x1x6144) (s₂ := S8x4095x6144) 1 _ _ _ _ rfl rfl
      (ix3 b (⟨g.1 - 1, by omega⟩ : Fin 4095) j)
      (by intro a ha; fin_cases a <;> first | rfl | exact absurd rfl ha)
      (by show g.1 - 1 + 1 = g.1; omega)).trans ?_
    rw [val_main_v21_apply, show idx_main_v21 (ix3 b (⟨g.1 - 1, by omega⟩ : Fin 4095) j) = ix3 b (⟨g.1 - 1, by omega⟩ : Fin 4096) j from
      funext fun a => Fin.ext (by fin_cases a <;> rfl), v19_at]
    exact congrArg (fun n => pAt h nw sc sh w b n j) (by show g.1 - 1 + 1 = g.1; omega)

/-- The row after. -/
theorem v24_at : val_main_v24 (F := Ideal) h nw sc sh w (ix3 b g j) = pAt h nw sc sh w b (g.1 + 2) j := by
  unfold val_main_v24
  by_cases hg : g.1 = 4095
  · refine (concatenate_pair_apply_right (t := S8x4096x6144) (s₁ := S8x4095x6144) (s₂ := S8x1x6144) 1 _ _ _ _ rfl rfl
      (ix3 b (0 : Fin 1) j)
      (by intro a ha; fin_cases a <;> first | rfl | exact absurd rfl ha)
      (by show 0 + 4095 = g.1; omega)).trans ?_
    rw [v20_at, pAt_out _ _ _ _ _ _ _ _ (by omega)]
  · refine (concatenate_pair_apply_left (t := S8x4096x6144) (s₁ := S8x4095x6144) (s₂ := S8x1x6144) 1 _ _ _ _ rfl
      (ix3 b (⟨g.1, by omega⟩ : Fin 4095) j) (by intro a; fin_cases a <;> rfl)).trans ?_
    rw [val_main_v23_apply, show idx_main_v23 (ix3 b (⟨g.1, by omega⟩ : Fin 4095) j) = ix3 b (⟨1 + g.1, by omega⟩ : Fin 4096) j from
      funext fun a => Fin.ext (by fin_cases a <;> rfl), v19_at]
    exact congrArg (fun n => pAt h nw sc sh w b n j) (by show 1 + g.1 + 1 = g.1 + 2; omega)

/-- The taps and the bias are read as in the state-space mixer's projection. -/
theorem v44_at : val_main_v44 (F := Ideal) h nw sc sh w cw cb (ix3 b g j) = convAt h nw sc sh w cw cb b g.1 j := by
  rw [val_main_v44_apply, val_main_v41_apply, val_main_v40_apply, val_main_v35_apply, val_main_v34_apply, val_main_v29_apply,
    show val_main_v28 (F := Ideal) cw (ix3 b g j) = _ from Xbc.v29_at cw b g j,
    show val_main_v33 (F := Ideal) cw (ix3 b g j) = _ from Xbc.v34_at cw b g j,
    show val_main_v39 (F := Ideal) cw (ix3 b g j) = _ from Xbc.v40_at cw b g j,
    show val_main_v43 (F := Ideal) cb (ix3 b g j) = _ from Xbc.v44_at cb b g j, v22_at, v19_at, v24_at]
  rfl

/-- THE REFERENCE'S FIRST RESULT at an element. -/
theorem ref_at (o : Fin 2) (r : Fin 2048) : val_main_v46 (F := Ideal) h nw sc sh w cw cb (ix4 o b r j) =
    convAt h nw sc sh w cw cb b (r.1 * 2 + o.1) j := by
  have hb := b.2
  have ho := o.2
  have hr := r.2
  have hj := j.2
  refine Eq.trans ?_ (v44_at h nw sc sh w cw cb b ⟨r.1 * 2 + o.1, by omega⟩ j)
  refine (val_main_v46_apply (F := Ideal) _ _ _ _ _ _ _ _).trans
    ((val_main_v45_apply (F := Ideal) _ _ _ _ _ _ _ _).trans (congrArg _ ?_))
  refine funext fun a => Fin.ext ?_
  fin_cases a
  · show (((b.1 * 2048 + r.1) * 2 + o.1) * 6144 + j.1) / 25165824 = b.1; omega
  · show (((b.1 * 2048 + r.1) * 2 + o.1) * 6144 + j.1) / 6144 % 4096 = r.1 * 2 + o.1; omega
  · show (((b.1 * 2048 + r.1) * 2 + o.1) * 6144 + j.1) % 6144 = j.1; omega

/-- THE REFERENCE'S SECOND RESULT at an element: the same number. -/
theorem ref_bf_at (o : Fin 2) (r : Fin 2048) : val_main_v47 (F := Ideal) h nw sc sh w cw cb (ix4 o b r j) =
    convAt h nw sc sh w cw cb b (r.1 * 2 + o.1) j :=
  ref_at h nw sc sh w cw cb b j o r

end

end Hy

end
-- ==== Proof.Hy.Block.lean ====
/-
  The block the Hyena mixer's projection leaves: half a block of even rows and half a block of odd rows of the three-row
  convolution, once as f32 and once as bf16.

  The product of the 1056 scratch rows with the weights is kept in four slabs of 128 columns; each row of a result is formed from
  three strided reads of a slab. `canon_sliced` reads two stores that go through a slice of the block.
-/
module

public import proofs.«01_k».proof.Proof.Four.Parked
public import proofs.«01_k».proof.Proof.Up.Array
public import proofs.«01_k».proof.Proof.Gen.Kernel9Ideal.Frame

@[expose] public section

set_option maxRecDepth 16384

noncomputable section

namespace Hy

open Cert.Kernel9Ideal Cert.Kernel9Ideal.Gen Idealize.ShloMosaic Idealize.ShloMosaic.Tactic
open Four (Rows Wts prod slabCol prod_col parked canon_slabs read_at beside Halves)

/-- Half a block, stored through the slice that names the half. -/
theorem sliced_tile {e : EltTy} (g : ℕ → Fin 512 → Fin 512 → Elt Ideal e) (p : Halves.Idx) (o : ℕ) (i0 i1 h0 h1 h2) (hR)
    (P : (⟨3, ![1, 512, 512]⟩ : Shape).Idx → Elt Ideal e)
    (hP : ∀ r j : Fin 512, P (ix3 (0 : Fin 1) r j) = g o r j) :
    View.RectAt (Val := Elt Ideal) p ((Rect.unit (s := Halves) ![o, 0, 0, 0] ![1, 1, 512, 512] i0).within
        ((Rect.unit (s := ⟨3, ![1, 512, 512]⟩) ![0, 0, 0] ![1, 512, 512] i1).consLift ![1, 1, 512, 512] h0 h1) h2)
      (Rect.payAlong (r := Rect.unit (s := ⟨3, ![1, 512, 512]⟩) ![0, 0, 0] ![1, 512, 512] i1) hR P) (g (p 0).1 (p 2) (p 3)) := by
  intro x hx
  have e0 : o + 0 + 1 * (x 0).1 = (p 0).1 := congrArg (fun y : Halves.Idx => (y 0).1) hx
  have e2 : 0 + 0 + 1 * (x 2).1 = (p 2).1 := congrArg (fun y : Halves.Idx => (y 2).1) hx
  have e3 : 0 + 0 + 1 * (x 3).1 = (p 3).1 := congrArg (fun y : Halves.Idx => (y 3).1) hx
  have x0 : (x 0).1 < 1 := (x 0).2
  have x1 : (x 1).1 < 1 := (x 1).2
  have x2 : (x 2).1 < 512 := (x 2).2
  have x3 : (x 3).1 < 512 := (x 3).2
  refine (Rect.payAlong_consLift _ ![1, 1, 512, 512] h0 h1 P hR x (ix3 (0 : Fin 1) ⟨(x 2).1, x2⟩ ⟨(x 3).1, x3⟩) (by
    intro i
    fin_cases i
    · exact (Nat.lt_one_iff.mp x1).symm
    · rfl
    · rfl)).trans ((hP _ _).trans ?_)
  have f0 : (p 0).1 = o := e0.symm.trans ((by intro n hn; omega : ∀ n : ℕ, n < 1 → o + 0 + 1 * n = o) _ x0)
  have f (n : ℕ) : 0 + 0 + 1 * n = n := by omega
  rw [f0, show p 2 = (⟨(x 2).1, x2⟩ : Fin 512) from Fin.ext (e2.symm.trans (f _)),
    show p 3 = (⟨(x 3).1, x3⟩ : Fin 512) from Fin.ext (e3.symm.trans (f _))]

/-- Two such halves, the odd one stored last, are the block. -/
theorem canon_sliced {e : EltTy} (g : ℕ → Fin 512 → Fin 512 → Elt Ideal e) (i0 i1 i2 i3 h0 h1 h2 h3 h4 h5) (hR hR')
    (P0 P1 : (⟨3, ![1, 512, 512]⟩ : Shape).Idx → Elt Ideal e)
    (H0 : ∀ r j : Fin 512, P0 (ix3 (0 : Fin 1) r j) = g 0 r j)
    (H1 : ∀ r j : Fin 512, P1 (ix3 (0 : Fin 1) r j) = g 1 r j) (p : Halves.Idx) :
    View.canon ([⟨(Rect.unit (s := Halves) ![1, 0, 0, 0] ![1, 1, 512, 512] i0).within
          ((Rect.unit (s := ⟨3, ![1, 512, 512]⟩) ![0, 0, 0] ![1, 512, 512] i1).consLift ![1, 1, 512, 512] h0 h1) h2,
          Rect.payAlong (r := Rect.unit (s := ⟨3, ![1, 512, 512]⟩) ![0, 0, 0] ![1, 512, 512] i1) hR P1⟩,
        ⟨(Rect.unit (s := Halves) ![0, 0, 0, 0] ![1, 1, 512, 512] i2).within
          ((Rect.unit (s := ⟨3, ![1, 512, 512]⟩) ![0, 0, 0] ![1, 512, 512] i3).consLift ![1, 1, 512, 512] h3 h4) h5,
          Rect.payAlong (r := Rect.unit (s := ⟨3, ![1, 512, 512]⟩) ![0, 0, 0] ![1, 512, 512] i3) hR' P0⟩] :
        List (View.Piece (Elt Ideal) Halves e)) p = g (p 0).1 (p 2) (p 3) := by
  refine View.canon_eq_of_allAt _ p _ (View.cover_of_tiledBy _ ![1, 1, 512, 512] (by sl_kernel_rfl) p) ?_
  refine View.allAt_cons _ _ _ (sliced_tile g p 1 _ _ _ _ _ _ P1 H1) ?_
  refine View.allAt_cons _ _ _ (sliced_tile g p 0 _ _ _ _ _ _ P0 H0) ?_
  exact View.allAt_nil _ _

section
variable (s : Rows 1056) (w : Wts)

theorem pay21_at (r : Fin 1056) (q : Fin 128) :
    k0_pay21 (F := Ideal) s w (ix4 (0 : Fin 1) (0 : Fin 1) r q) = prod s w r (slabCol 0 q) := by
  pointwise [k0_pay21, k0_pay20]
  exact prod_col s w r _ _ (by show _ = 0 * 128 + q.1; simp)
theorem pay22_at (r : Fin 1056) (q : Fin 128) :
    k0_pay22 (F := Ideal) s w (ix4 (0 : Fin 1) (0 : Fin 1) r q) = prod s w r (slabCol 1 q) := by
  pointwise [k0_pay22, k0_pay20]
  exact prod_col s w r _ _ (by show _ = 1 * 128 + q.1; simp)
theorem pay23_at (r : Fin 1056) (q : Fin 128) :
    k0_pay23 (F := Ideal) s w (ix4 (0 : Fin 1) (0 : Fin 1) r q) = prod s w r (slabCol 2 q) := by
  pointwise [k0_pay23, k0_pay20]
  exact prod_col s w r _ _ (by show _ = 2 * 128 + q.1; simp)
theorem pay24_at (r : Fin 1056) (q : Fin 128) :
    k0_pay24 (F := Ideal) s w (ix4 (0 : Fin 1) (0 : Fin 1) r q) = prod s w r (slabCol 3 q) := by
  pointwise [k0_pay24, k0_pay20]
  exact prod_col s w r _ _ (by show _ = 3 * 128 + q.1; simp)

/-- The slabs, the last stored first. -/
def slabs : List (View.Piece (Elt Ideal) S1x4x1056x128 .f32) :=
  [⟨Rect.unit ![0, 3, 0, 0] ![1, 1, 1056, 128] inb_S1x4x1056x128_S1x1x1056x128_0_3_0_0, k0_pay24 (F := Ideal) s w⟩,
    ⟨Rect.unit ![0, 2, 0, 0] ![1, 1, 1056, 128] inb_S1x4x1056x128_S1x1x1056x128_0_2_0_0, k0_pay23 (F := Ideal) s w⟩,
    ⟨Rect.unit ![0, 1, 0, 0] ![1, 1, 1056, 128] inb_S1x4x1056x128_S1x1x1056x128_0_1_0_0, k0_pay22 (F := Ideal) s w⟩,
    ⟨Rect.unit ![0, 0, 0, 0] ![1, 1, 1056, 128] inb_S1x4x1056x128_S1x1x1056x128_0_0_0_0, k0_pay21 (F := Ideal) s w⟩]

theorem canon_parked : View.canon (slabs s w) = parked s w :=
  canon_slabs s w _ _ _ _ _ _ _ _ (pay21_at s w) (pay22_at s w) (pay23_at s w) (pay24_at s w)
    fun p => View.cover_of_tiledBy (slabs s w) ![1, 1, 1056, 128] (by sl_kernel_rfl) p

/-- A strided read of the slabs, at an element. -/
theorem read_slabs {sig : RefSig} {κ : Kind} {sp : Space} (v : View sig κ sp S1x4x1056x128 .f32) (k : ℕ) (hk : k < 4) (o : ℕ)
    (ho : o + 1022 < 1056) (inb) (r : Fin 512) (q : Fin 128) :
    v.readCov (slabs s w) (⟨![0, k, o, 0], ![1, 1, 512, 128], ![1, 1, 2, 1], inb⟩ : LoadRect S1x4x1056x128)
      (ix4 (0 : Fin 1) (0 : Fin 1) r q) = prod s w ⟨o + 2 * r.1, by omega⟩ (slabCol ⟨k, hk⟩ q) :=
  congrFun (read_at v s w (slabs s w) (canon_parked s w) k hk o ho inb) _

end

/-! ## One slab of the convolution -/

section
variable (C : FVec Ideal S3x128 .f32) (y0 y1 y2 : FVec Ideal S1x1x512x128 .f32) (D : FVec Ideal S1x128 .f32)

/-- Three rows weighted by the taps, and the bias. -/
def tap (r : Fin 512) (q : Fin 128) : Ideal .f32 :=
  C (ix2 (0 : Fin 3) q) * y0 (ix4 (0 : Fin 1) (0 : Fin 1) r q) + C (ix2 (1 : Fin 3) q) * y1 (ix4 (0 : Fin 1) (0 : Fin 1) r q)
    + C (ix2 (2 : Fin 3) q) * y2 (ix4 (0 : Fin 1) (0 : Fin 1) r q) + D (ix2 (0 : Fin 1) q)

variable (r : Fin 512) (q : Fin 128)

theorem pay26_at : k0_pay26 (F := Ideal) C (k0_pay25 (F := Ideal) C) y0 y1 y2 D (ix2 r q) = tap C y0 y1 y2 D r q := by
  pointwise [k0_pay26, k0_pay25]
  rfl

theorem pay29_at : k0_pay29 (F := Ideal) (k0_pay27 (F := Ideal) C y0 y1) (k0_pay28 (F := Ideal) C) y2 D (ix2 r q) = tap C y0 y1 y2 D r q := by
  pointwise [k0_pay29, k0_pay28, k0_pay27]
  rfl

theorem pay30_at : k0_pay30 (F := Ideal) C y0 y1 y2 D (ix2 r q) = tap C y0 y1 y2 D r q := by
  pointwise [k0_pay30]
  rfl

theorem pay36_at : k0_pay36 (F := Ideal) C (k0_pay35 (F := Ideal) C) y0 y1 y2 D (ix2 r q) = tap C y0 y1 y2 D r q := by
  pointwise [k0_pay36, k0_pay35]
  rfl

theorem pay39_at : k0_pay39 (F := Ideal) (k0_pay37 (F := Ideal) C y0 y1) (k0_pay38 (F := Ideal) C) y2 D (ix2 r q) = tap C y0 y1 y2 D r q := by
  pointwise [k0_pay39, k0_pay38, k0_pay37]
  rfl

theorem pay40_at : k0_pay40 (F := Ideal) C y0 y1 y2 D (ix2 r q) = tap C y0 y1 y2 D r q := by
  pointwise [k0_pay40]
  rfl

end

/-! ## The halves: four slabs side by side -/

section
variable (C0 C1 C2 C3 : FVec Ideal S3x128 .f32) (D0 D1 D2 D3 : FVec Ideal S1x128 .f32)
variable (a0 a1 a2 b0 b1 b2 c0 c1 c2 d0 d1 d2 : FVec Ideal S1x1x512x128 .f32)

/-- The even half as f32, as stored. -/
def evenF : FVec Ideal S1x512x512 .f32 :=
  k0_pay33 (F := Ideal) (k0_pay26 (F := Ideal) C0 (k0_pay25 (F := Ideal) C0) a0 a1 a2 D0)
    (k0_pay29 (F := Ideal) (k0_pay27 (F := Ideal) C1 b0 b1) (k0_pay28 (F := Ideal) C1) b2 D1)
    (k0_pay30 (F := Ideal) C2 c0 c1 c2 D2) C3 (k0_pay31 (F := Ideal) C3 d0) d1 d2 D3

/-- The even half as bf16, as stored. -/
def evenB : FVec Ideal S1x1x512x512 .bf16 :=
  k0_pay34 (F := Ideal) (k0_pay26 (F := Ideal) C0 (k0_pay25 (F := Ideal) C0) a0 a1 a2 D0)
    (k0_pay29 (F := Ideal) (k0_pay27 (F := Ideal) C1 b0 b1) (k0_pay28 (F := Ideal) C1) b2 D1)
    (k0_pay30 (F := Ideal) C2 c0 c1 c2 D2) C3 (k0_pay31 (F := Ideal) C3 d0) d1 d2 D3

/-- The odd half as f32, as stored. -/
def oddF : FVec Ideal S1x512x512 .f32 :=
  k0_pay44 (F := Ideal) (k0_pay36 (F := Ideal) C0 (k0_pay35 (F := Ideal) C0) a0 a1 a2 D0)
    (k0_pay39 (F := Ideal) (k0_pay37 (F := Ideal) C1 b0 b1) (k0_pay38 (F := Ideal) C1) b2 D1)
    (k0_pay40 (F := Ideal) C2 c0 c1 c2 D2) C3 (k0_pay41 (F := Ideal) d0) (k0_pay42 (F := Ideal) C3) d1 d2 D3

/-- The odd half as bf16, as stored. -/
def oddB : FVec Ideal S1x1x512x512 .bf16 :=
  k0_pay1 (F := Ideal) (k0_pay45 (F := Ideal) (k0_pay36 (F := Ideal) C0 (k0_pay35 (F := Ideal) C0) a0 a1 a2 D0)
    (k0_pay39 (F := Ideal) (k0_pay37 (F := Ideal) C1 b0 b1) (k0_pay38 (F := Ideal) C1) b2 D1)
    (k0_pay40 (F := Ideal) C2 c0 c1 c2 D2) C3 (k0_pay41 (F := Ideal) d0) (k0_pay42 (F := Ideal) C3) d1 d2 D3)

variable (g : Fin 512 → Fin 512 → Ideal .f32)
  (ha : ∀ r q, tap C0 a0 a1 a2 D0 r q = g r (slabCol 0 q)) (hb : ∀ r q, tap C1 b0 b1 b2 D1 r q = g r (slabCol 1 q))
  (hc : ∀ r q, tap C2 c0 c1 c2 D2 r q = g r (slabCol 2 q)) (hd : ∀ r q, tap C3 d0 d1 d2 D3 r q = g r (slabCol 3 q))
  (r j : Fin 512)

include ha hb hc hd

theorem evenF_at : evenF C0 C1 C2 C3 D0 D1 D2 D3 a0 a1 a2 b0 b1 b2 c0 c1 c2 d0 d1 d2 (ix3 (0 : Fin 1) r j) = g r j := by
  unfold evenF
  pointwise [k0_pay33, k0_pay32, k0_pay31]
  exact beside _ _ _ _ (g r) (fun q => (pay26_at C0 a0 a1 a2 D0 r q).trans (ha r q))
    (fun q => (pay29_at C1 b0 b1 b2 D1 r q).trans (hb r q)) (fun q => (pay30_at C2 c0 c1 c2 D2 r q).trans (hc r q))
    (fun q => hd r q) j _

theorem evenB_at : evenB C0 C1 C2 C3 D0 D1 D2 D3 a0 a1 a2 b0 b1 b2 c0 c1 c2 d0 d1 d2 (ix4 (0 : Fin 1) (0 : Fin 1) r j) = g r j := by
  unfold evenB
  pointwise [k0_pay34, k0_pay32, k0_pay31]
  exact beside _ _ _ _ (g r) (fun q => (pay26_at C0 a0 a1 a2 D0 r q).trans (ha r q))
    (fun q => (pay29_at C1 b0 b1 b2 D1 r q).trans (hb r q)) (fun q => (pay30_at C2 c0 c1 c2 D2 r q).trans (hc r q))
    (fun q => hd r q) j _

theorem oddF_at : oddF C0 C1 C2 C3 D0 D1 D2 D3 a0 a1 a2 b0 b1 b2 c0 c1 c2 d0 d1 d2 (ix3 (0 : Fin 1) r j) = g r j := by
  unfold oddF
  pointwise [k0_pay44, k0_pay43, k0_pay42, k0_pay41]
  exact beside _ _ _ _ (g r) (fun q => (pay36_at C0 a0 a1 a2 D0 r q).trans (ha r q))
    (fun q => (pay39_at C1 b0 b1 b2 D1 r q).trans (hb r q)) (fun q => (pay40_at C2 c0 c1 c2 D2 r q).trans (hc r q))
    (fun q => hd r q) j _

theorem oddB_at : oddB C0 C1 C2 C3 D0 D1 D2 D3 a0 a1 a2 b0 b1 b2 c0 c1 c2 d0 d1 d2 (ix4 (0 : Fin 1) (0 : Fin 1) r j) = g r j := by
  unfold oddB
  pointwise [k0_pay1, k0_pay45, k0_pay43, k0_pay42, k0_pay41]
  exact beside _ _ _ _ (g r) (fun q => (pay36_at C0 a0 a1 a2 D0 r q).trans (ha r q))
    (fun q => (pay39_at C1 b0 b1 b2 D1 r q).trans (hb r q)) (fun q => (pay40_at C2 c0 c1 c2 D2 r q).trans (hc r q))
    (fun q => hd r q) j _

end

/-! ## The stored halves, from the scratch rows -/

section
variable (s : Rows 1056) (w : Wts) (cw : FVec Ideal S3x512 .f32) (cb : FVec Ideal S1x512 .f32)

/-- The convolution at row `r` of half `o` of a block. -/
def blkAt (o : ℕ) (r j : Fin 512) : Ideal .f32 := if h : o < 2 then Up.conv s w cw cb ⟨o + 2 * r.1, by omega⟩ j else 0

/-- The taps and the bias of 128 columns, and a strided read of a slab. -/
abbrev tp (c : ℕ) (inb : ∀ a, (![0, c] : Fin 2 → ℕ) a + (![3, 128] : Fin 2 → ℕ) a ≤ S3x512.size a) : FVec Ideal S3x128 .f32 :=
  View.ld (Val := Elt Ideal) (e' := .f32) cw (Rect.unit (s := S3x512) ![0, c] ![3, 128] inb)
abbrev bs (c : ℕ) (inb : ∀ a, (![0, c] : Fin 2 → ℕ) a + (![1, 128] : Fin 2 → ℕ) a ≤ S1x512.size a) : FVec Ideal S1x128 .f32 :=
  View.ld (Val := Elt Ideal) (e' := .f32) cb (Rect.unit (s := S1x512) ![0, c] ![1, 128] inb)

theorem tp_at (k : Fin 4) (inb) (a : Fin 3) (q : Fin 128) : tp cw (k.1 * 128) inb (ix2 a q) = cw (ix2 a (slabCol k q)) :=
  View.ld_unit_apply_of (Val := Elt Ideal) (e := .f32) cw ![0, k.1 * 128] ![3, 128] inb (ix2 a q) (ix2 a (slabCol k q)) (by
    intro x
    fin_cases x
    · show a.1 = 0 + a.1; omega
    · rfl)

theorem bs_at (k : Fin 4) (inb) (q : Fin 128) : bs cb (k.1 * 128) inb (ix2 (0 : Fin 1) q) = cb (ix2 (0 : Fin 1) (slabCol k q)) :=
  View.ld_unit_apply_of (Val := Elt Ideal) (e := .f32) cb ![0, k.1 * 128] ![1, 128] inb (ix2 (0 : Fin 1) q)
    (ix2 (0 : Fin 1) (slabCol k q)) (by
    intro x
    fin_cases x <;> rfl)

variable {sig : RefSig} {κ : Kind} {sp : Space} (v : View sig κ sp S1x4x1056x128 .f32)

abbrev rd (k o : ℕ) (inb : ∀ a, (![1, 1, 512, 128] : Fin 4 → ℕ) a = 0 ∨
    (![0, k, o, 0] : Fin 4 → ℕ) a + (![1, 1, 2, 1] : Fin 4 → ℕ) a * ((![1, 1, 512, 128] : Fin 4 → ℕ) a - 1) < S1x4x1056x128.size a) : FVec Ideal S1x1x512x128 .f32 :=
  v.readCov (slabs s w) (⟨![0, k, o, 0], ![1, 1, 512, 128], ![1, 1, 2, 1], inb⟩ : LoadRect S1x4x1056x128)

theorem rd_at (k : Fin 4) (o : ℕ) (ho : o + 1022 < 1056) (inb) (r : Fin 512) (q : Fin 128) :
    rd s w v k.1 o inb (ix4 (0 : Fin 1) (0 : Fin 1) r q) = prod s w ⟨o + 2 * r.1, by omega⟩ (slabCol k q) :=
  read_slabs s w v k.1 k.2 o ho inb r q

/-- Three reads, one row apart, make the convolution. -/
theorem tap_conv (o : ℕ) (ho : o < 2) (k : Fin 4) (c a0 a1 a2 : ℕ) (hc : c = k.1 * 128) (e0 : a0 = 15 + o) (e1 : a1 = 16 + o)
    (e2 : a2 = 17 + o) (i0 i1 i2 i3 i4) (r : Fin 512) (q : Fin 128) :
    tap (tp cw c i0) (rd s w v k.1 a0 i1) (rd s w v k.1 a1 i2) (rd s w v k.1 a2 i3) (bs cb c i4) r q =
      blkAt s w cw cb o r (slabCol k q) := by
  subst hc e0 e1 e2
  unfold tap blkAt
  rw [tp_at, tp_at, tp_at, bs_at, rd_at s w v k _ (by omega), rd_at s w v k _ (by omega),
    rd_at s w v k _ (by omega), dif_pos ho]
  have e (n : ℕ) (h : n + o + 2 * r.1 < 1056) (h' : n + (o + 2 * r.1) < 1056) :
      prod s w ⟨n + o + 2 * r.1, h⟩ (slabCol k q) = Up.prod s w ⟨n + (o + 2 * r.1), h'⟩ (slabCol k q) :=
    congrArg (fun x => Up.prod s w x (slabCol k q)) (Fin.ext (by show n + o + 2 * r.1 = n + (o + 2 * r.1); omega))
  rw [e 15 _ (by omega), e 16 _ (by omega), e 17 _ (by omega)]
  rfl

/-- What is stored of the even half: `f` of the taps, the biases and the reads from row 15 on. -/
def withEven {α : Type} (f : FVec Ideal S3x128 .f32 → FVec Ideal S3x128 .f32 → FVec Ideal S3x128 .f32 → FVec Ideal S3x128 .f32 → FVec Ideal S1x128 .f32 → FVec Ideal S1x128 .f32 → FVec Ideal S1x128 .f32 → FVec Ideal S1x128 .f32 →
    FVec Ideal S1x1x512x128 .f32 → FVec Ideal S1x1x512x128 .f32 → FVec Ideal S1x1x512x128 .f32 → FVec Ideal S1x1x512x128 .f32 → FVec Ideal S1x1x512x128 .f32 → FVec Ideal S1x1x512x128 .f32 →
    FVec Ideal S1x1x512x128 .f32 → FVec Ideal S1x1x512x128 .f32 → FVec Ideal S1x1x512x128 .f32 → FVec Ideal S1x1x512x128 .f32 → FVec Ideal S1x1x512x128 .f32 → FVec Ideal S1x1x512x128 .f32 → α) : α :=
  f (tp cw 0 inb_S3x512_S3x128_0_0) (tp cw 128 inb_S3x512_S3x128_0_128) (tp cw 256 inb_S3x512_S3x128_0_256) (tp cw 384 inb_S3x512_S3x128_0_384)
    (bs cb 0 inb_S1x512_S1x128_0_0) (bs cb 128 inb_S1x512_S1x128_0_128) (bs cb 256 inb_S1x512_S1x128_0_256) (bs cb 384 inb_S1x512_S1x128_0_384)
    (rd s w v 0 15 inb_S1x4x1056x128_S1x1x512x128_0_0_15_0_s_1_1_2_1) (rd s w v 0 16 inb_S1x4x1056x128_S1x1x512x128_0_0_16_0_s_1_1_2_1) (rd s w v 0 17 inb_S1x4x1056x128_S1x1x512x128_0_0_17_0_s_1_1_2_1)
    (rd s w v 1 15 inb_S1x4x1056x128_S1x1x512x128_0_1_15_0_s_1_1_2_1) (rd s w v 1 16 inb_S1x4x1056x128_S1x1x512x128_0_1_16_0_s_1_1_2_1) (rd s w v 1 17 inb_S1x4x1056x128_S1x1x512x128_0_1_17_0_s_1_1_2_1)
    (rd s w v 2 15 inb_S1x4x1056x128_S1x1x512x128_0_2_15_0_s_1_1_2_1) (rd s w v 2 16 inb_S1x4x1056x128_S1x1x512x128_0_2_16_0_s_1_1_2_1) (rd s w v 2 17 inb_S1x4x1056x128_S1x1x512x128_0_2_17_0_s_1_1_2_1)
    (rd s w v 3 15 inb_S1x4x1056x128_S1x1x512x128_0_3_15_0_s_1_1_2_1) (rd s w v 3 16 inb_S1x4x1056x128_S1x1x512x128_0_3_16_0_s_1_1_2_1) (rd s w v 3 17 inb_S1x4x1056x128_S1x1x512x128_0_3_17_0_s_1_1_2_1)

/-- What is stored of the odd half: the same from row 16 on. -/
def withOdd {α : Type} (f : FVec Ideal S3x128 .f32 → FVec Ideal S3x128 .f32 → FVec Ideal S3x128 .f32 → FVec Ideal S3x128 .f32 → FVec Ideal S1x128 .f32 → FVec Ideal S1x128 .f32 → FVec Ideal S1x128 .f32 → FVec Ideal S1x128 .f32 →
    FVec Ideal S1x1x512x128 .f32 → FVec Ideal S1x1x512x128 .f32 → FVec Ideal S1x1x512x128 .f32 → FVec Ideal S1x1x512x128 .f32 → FVec Ideal S1x1x512x128 .f32 → FVec Ideal S1x1x512x128 .f32 →
    FVec Ideal S1x1x512x128 .f32 → FVec Ideal S1x1x512x128 .f32 → FVec Ideal S1x1x512x128 .f32 → FVec Ideal S1x1x512x128 .f32 → FVec Ideal S1x1x512x128 .f32 → FVec Ideal S1x1x512x128 .f32 → α) : α :=
  f (tp cw 0 inb_S3x512_S3x128_0_0) (tp cw 128 inb_S3x512_S3x128_0_128) (tp cw 256 inb_S3x512_S3x128_0_256) (tp cw 384 inb_S3x512_S3x128_0_384)
    (bs cb 0 inb_S1x512_S1x128_0_0) (bs cb 128 inb_S1x512_S1x128_0_128) (bs cb 256 inb_S1x512_S1x128_0_256) (bs cb 384 inb_S1x512_S1x128_0_384)
    (rd s w v 0 16 inb_S1x4x1056x128_S1x1x512x128_0_0_16_0_s_1_1_2_1) (rd s w v 0 17 inb_S1x4x1056x128_S1x1x512x128_0_0_17_0_s_1_1_2_1) (rd s w v 0 18 inb_S1x4x1056x128_S1x1x512x128_0_0_18_0_s_1_1_2_1)
    (rd s w v 1 16 inb_S1x4x1056x128_S1x1x512x128_0_1_16_0_s_1_1_2_1) (rd s w v 1 17 inb_S1x4x1056x128_S1x1x512x128_0_1_17_0_s_1_1_2_1) (rd s w v 1 18 inb_S1x4x1056x128_S1x1x512x128_0_1_18_0_s_1_1_2_1)
    (rd s w v 2 16 inb_S1x4x1056x128_S1x1x512x128_0_2_16_0_s_1_1_2_1) (rd s w v 2 17 inb_S1x4x1056x128_S1x1x512x128_0_2_17_0_s_1_1_2_1) (rd s w v 2 18 inb_S1x4x1056x128_S1x1x512x128_0_2_18_0_s_1_1_2_1)
    (rd s w v 3 16 inb_S1x4x1056x128_S1x1x512x128_0_3_16_0_s_1_1_2_1) (rd s w v 3 17 inb_S1x4x1056x128_S1x1x512x128_0_3_17_0_s_1_1_2_1) (rd s w v 3 18 inb_S1x4x1056x128_S1x1x512x128_0_3_18_0_s_1_1_2_1)

variable (r j : Fin 512)

theorem evenF_conv : withEven s w cw cb v evenF (ix3 (0 : Fin 1) r j) = blkAt s w cw cb 0 r j :=
  evenF_at _ _ _ _ _ _ _ _ _ _ _ _ _ _ _ _ _ _ _ _ (blkAt s w cw cb 0)
    (tap_conv s w cw cb v 0 (by omega) 0 0 15 16 17 rfl rfl rfl rfl _ _ _ _ _)
    (tap_conv s w cw cb v 0 (by omega) 1 128 15 16 17 rfl rfl rfl rfl _ _ _ _ _)
    (tap_conv s w cw cb v 0 (by omega) 2 256 15 16 17 rfl rfl rfl rfl _ _ _ _ _)
    (tap_conv s w cw cb v 0 (by omega) 3 384 15 16 17 rfl rfl rfl rfl _ _ _ _ _) r j

theorem evenB_conv : withEven s w cw cb v evenB (ix4 (0 : Fin 1) (0 : Fin 1) r j) = blkAt s w cw cb 0 r j :=
  evenB_at _ _ _ _ _ _ _ _ _ _ _ _ _ _ _ _ _ _ _ _ (blkAt s w cw cb 0)
    (tap_conv s w cw cb v 0 (by omega) 0 0 15 16 17 rfl rfl rfl rfl _ _ _ _ _)
    (tap_conv s w cw cb v 0 (by omega) 1 128 15 16 17 rfl rfl rfl rfl _ _ _ _ _)
    (tap_conv s w cw cb v 0 (by omega) 2 256 15 16 17 rfl rfl rfl rfl _ _ _ _ _)
    (tap_conv s w cw cb v 0 (by omega) 3 384 15 16 17 rfl rfl rfl rfl _ _ _ _ _) r j

theorem oddF_conv : withOdd s w cw cb v oddF (ix3 (0 : Fin 1) r j) = blkAt s w cw cb 1 r j :=
  oddF_at _ _ _ _ _ _ _ _ _ _ _ _ _ _ _ _ _ _ _ _ (blkAt s w cw cb 1)
    (tap_conv s w cw cb v 1 (by omega) 0 0 16 17 18 rfl rfl rfl rfl _ _ _ _ _)
    (tap_conv s w cw cb v 1 (by omega) 1 128 16 17 18 rfl rfl rfl rfl _ _ _ _ _)
    (tap_conv s w cw cb v 1 (by omega) 2 256 16 17 18 rfl rfl rfl rfl _ _ _ _ _)
    (tap_conv s w cw cb v 1 (by omega) 3 384 16 17 18 rfl rfl rfl rfl _ _ _ _ _) r j

theorem oddB_conv : withOdd s w cw cb v oddB (ix4 (0 : Fin 1) (0 : Fin 1) r j) = blkAt s w cw cb 1 r j :=
  oddB_at _ _ _ _ _ _ _ _ _ _ _ _ _ _ _ _ _ _ _ _ (blkAt s w cw cb 1)
    (tap_conv s w cw cb v 1 (by omega) 0 0 16 17 18 rfl rfl rfl rfl _ _ _ _ _)
    (tap_conv s w cw cb v 1 (by omega) 1 128 16 17 18 rfl rfl rfl rfl _ _ _ _ _)
    (tap_conv s w cw cb v 1 (by omega) 2 256 16 17 18 rfl rfl rfl rfl _ _ _ _ _)
    (tap_conv s w cw cb v 1 (by omega) 3 384 16 17 18 rfl rfl rfl rfl _ _ _ _ _) r j

end

end Hy

end
-- ==== Proof.Hy.Array.lean ====
/-
  The two result arrays of the Hyena mixer's input projection.

  The grid walks batch entry (8), block of 1024 rows (4) and block of 512 columns (12). The scratch is filled as in the
  feed-forward part, at the first of twelve points; both results hold the convolution of its products, even rows in the first
  half and odd rows in the second.
-/
module

public import proofs.«01_k».proof.Proof.Hy.Reference
public import proofs.«01_k».proof.Proof.Hy.Block
public import proofs.«01_k».proof.Proof.Gen.Kernel9Ideal.Value
public import Idealize.ShloMosaic.Lib.StableHlo.Run
public import Idealize.ShloMosaic.Lib.ValueLayout
public import Idealize.ShloMosaic.Lib.WholeRead

@[expose] public section

set_option maxRecDepth 16384

noncomputable section

namespace Hy

open Cert.Kernel9Ideal Cert.Kernel9Ideal.Gen Idealize.ShloMosaic Idealize.ShloMosaic.TcCoe Idealize.SL.Sem
open Idealize.ShloMosaic.Pipeline (Dat)
open Xbc (Cw Cb)
open Up (Hid Nw Mod uAt conv prod convAt scr scr_rows conv_rows canon_pieces readCov_pieces)

theorem crd1 : ∀ t : Fin cfg0.N, (grid0.coords t 1 : ℕ) = t.val / 12 % 4 :=
  (by decide +kernel : ∀ t : Fin grid0.N, (grid0.coords t 1 : ℕ) = t.val / 12 % 4)

theorem idx0 : ∀ t : Fin cfg0.N, win0_0.index t = ![t.val / 48, t.val / 12 % 4, 0] :=
  (by decide +kernel : ∀ t : Fin grid0.N, win0_0.index t = ![t.val / 48, t.val / 12 % 4, 0])
theorem idx1 : ∀ t : Fin cfg0.N, win0_1.index t = ![t.val / 48, t.val / 12 % 4 * 64 - 1, 0] :=
  (by decide +kernel : ∀ t : Fin grid0.N, win0_1.index t = ![t.val / 48, t.val / 12 % 4 * 64 - 1, 0])
theorem idx2 : ∀ t : Fin cfg0.N, win0_2.index t = ![t.val / 48, min (t.val / 12 % 4 * 64 + 64) 255, 0] :=
  (by decide +kernel : ∀ t : Fin grid0.N, win0_2.index t = ![t.val / 48, min (t.val / 12 % 4 * 64 + 64) 255, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val / 48, 0, 0] :=
  (by decide +kernel : ∀ t : Fin grid0.N, win0_4.index t = ![t.val / 48, 0, 0])
theorem idx5 : ∀ t : Fin cfg0.N, win0_5.index t = ![t.val / 48, 0, 0] :=
  (by decide +kernel : ∀ t : Fin grid0.N, win0_5.index t = ![t.val / 48, 0, 0])
theorem idx6 : ∀ t : Fin cfg0.N, win0_6.index t = ![0, t.val % 12] :=
  (by decide +kernel : ∀ t : Fin grid0.N, win0_6.index t = ![0, t.val % 12])
theorem idx7 : ∀ t : Fin cfg0.N, win0_7.index t = ![0, t.val % 12] :=
  (by decide +kernel : ∀ t : Fin grid0.N, win0_7.index t = ![0, t.val % 12])
theorem idx8 : ∀ t : Fin cfg0.N, win0_8.index t = ![0, t.val % 12] :=
  (by decide +kernel : ∀ t : Fin grid0.N, win0_8.index t = ![0, t.val % 12])
theorem idx9 : ∀ t : Fin cfg0.N, win0_9.index t = ![0, t.val / 48, t.val / 12 % 4, t.val % 12] :=
  (by decide +kernel : ∀ t : Fin grid0.N, win0_9.index t = ![0, t.val / 48, t.val / 12 % 4, t.val % 12])
theorem idx10 : ∀ t : Fin cfg0.N, win0_10.index t = ![0, t.val / 48, t.val / 12 % 4, t.val % 12] :=
  (by decide +kernel : ∀ t : Fin grid0.N, win0_10.index t = ![0, t.val / 48, t.val / 12 % 4, t.val % 12])

section
variable (m : (ℓ : Loc nD τ sig) → Buf (Elt Ideal) ℓ) (c : Dev nD)

/-- The arguments as launched. -/
abbrev hid : Hid := m ((c.tc : Thread nD τ).loc main_arg0)
abbrev nwt : Nw := m ((c.tc : Thread nD τ).loc main_arg1)
abbrev scl : Mod := m ((c.tc : Thread nD τ).loc main_arg2)
abbrev shf : Mod := m ((c.tc : Thread nD τ).loc main_arg3)
abbrev wgt : Wt := m ((c.tc : Thread nD τ).loc main_arg4)
abbrev cwt : Cw := m ((c.tc : Thread nD τ).loc main_arg5)
abbrev cbs : Cb := m ((c.tc : Thread nD τ).loc main_arg6)

/-- The weights, cast. -/
theorem V_v0 (p : S2048x6144.Idx) : (V m c main_v0 : FVec Ideal S2048x6144 .bf16) p = wgt m c p := by
  show StableHlo.after hostOps0 _ (Proc.devRef .tc main_v0) p = _
  after_results
  rfl

/-- The convolution's bias as a row. -/
theorem V_v1 (j : Fin 6144) : (V m c main_v1 : FVec Ideal S1x6144 .f32) (ix2 (0 : Fin 1) j) = cbs m c (ix1 j) := by
  show StableHlo.after hostOps0 _ (Proc.devRef .tc main_v1) (ix2 (0 : Fin 1) j) = _
  after_results
  exact ValueIdx.shapeCast_a_1a_apply _ _ _ _

/-- The norm's weights as a row. -/
theorem V_v2 (d : Fin 2048) : (V m c main_v2 : FVec Ideal S1x2048 .f32) (ix2 (0 : Fin 1) d) = nwt m c (ix1 d) := by
  show StableHlo.after hostOps0 _ (Proc.devRef .tc main_v2) (ix2 (0 : Fin 1) d) = _
  after_results
  exact ValueIdx.shapeCast_a_1a_apply _ _ _ _

variable (t : Fin cfg0.N)

/-- Where point `t` is in the grid. -/
def ptB : Fin 8 := ⟨t.1 / 48, by have h : t.1 < 384 := lt_of_lt_of_eq t.2 N_0; omega⟩
def ptI : Fin 4 := ⟨t.1 / 12 % 4, by omega⟩

/-- A column of the block, in the array. -/
def col (j : Fin 512) : Fin 6144 := ⟨t.1 % 12 * 512 + j.1, by omega⟩

theorem blk0_at (r : Fin 1024) (d : Fin 2048) (k : Fin 4096) (hk : k.1 = (ptI t).1 * 1024 + r.1) :
    (iblk m c 0 t : FVec Ideal S1x1024x2048 .f32) (ix3 (0 : Fin 1) r d) = hid m c (ix3 (ptB t) k d) := by
  obtain ⟨k, hl⟩ := k
  obtain rfl : k = (ptI t).1 * 1024 + r.1 := hk
  refine Eq.trans ?_ (congrFun (V_main_arg0 m c) _)
  blk_ext [iblk, idx0, ptB, ptI]

theorem blk1_at (hi : (ptI t).1 ≠ 0) (r : Fin 16) (d : Fin 2048) (k : Fin 4096) (hk : k.1 + 16 = (ptI t).1 * 1024 + r.1) :
    (iblk m c 1 t : FVec Ideal S1x16x2048 .f32) (ix3 (0 : Fin 1) r d) = hid m c (ix3 (ptB t) k d) := by
  obtain ⟨k, hl⟩ := k
  obtain rfl : k = ((ptI t).1 * 64 - 1) * 16 + r.1 := by simp only at hk; omega
  refine Eq.trans ?_ (congrFun (V_main_arg0 m c) _)
  blk_ext [iblk, idx1, ptB, ptI]

theorem blk2_at (hi : (ptI t).1 ≠ 3) (r : Fin 16) (d : Fin 2048) (k : Fin 4096) (hk : k.1 = (ptI t).1 * 1024 + 1024 + r.1) :
    (iblk m c 2 t : FVec Ideal S1x16x2048 .f32) (ix3 (0 : Fin 1) r d) = hid m c (ix3 (ptB t) k d) := by
  obtain ⟨k, hl⟩ := k
  obtain rfl : k = min ((ptI t).1 * 64 + 64) 255 * 16 + r.1 := by have := (ptI t).2; simp only at hk; omega
  refine Eq.trans ?_ (congrFun (V_main_arg0 m c) _)
  blk_ext [iblk, idx2, ptB, ptI]

theorem blk3_at (d : Fin 2048) : (iblk m c 3 t : FVec Ideal S1x2048 .f32) (ix2 (0 : Fin 1) d) = nwt m c (ix1 d) := by
  refine Eq.trans ?_ (V_v2 m c d)
  blk_ext [iblk, idx3]

theorem blk4_at (d : Fin 2048) :
    (iblk m c 4 t : FVec Ideal S1x1x2048 .f32) (ix3 (0 : Fin 1) (0 : Fin 1) d) = scl m c (ix3 (ptB t) (0 : Fin 1) d) := by
  refine Eq.trans ?_ (congrFun (V_main_arg2 m c) _)
  blk_ext [iblk, idx4, ptB]

theorem blk5_at (d : Fin 2048) :
    (iblk m c 5 t : FVec Ideal S1x1x2048 .f32) (ix3 (0 : Fin 1) (0 : Fin 1) d) = shf m c (ix3 (ptB t) (0 : Fin 1) d) := by
  refine Eq.trans ?_ (congrFun (V_main_arg3 m c) _)
  blk_ext [iblk, idx5, ptB]

theorem blk6_at (d : Fin 2048) (j : Fin 512) :
    (iblk m c 6 t : FVec Ideal S2048x512 .bf16) (ix2 d j) = wgt m c (ix2 d (col t j)) := by
  refine Eq.trans ?_ (V_v0 m c _)
  blk_ext [iblk, idx6, col]

theorem blk7_at (k : Fin 3) (j : Fin 512) :
    (iblk m c 7 t : FVec Ideal S3x512 .f32) (ix2 k j) = cwt m c (ix2 k (col t j)) := by
  refine Eq.trans ?_ (congrFun (V_main_arg5 m c) _)
  blk_ext [iblk, idx7, col]

theorem blk8_at (j : Fin 512) :
    (iblk m c 8 t : FVec Ideal S1x512 .f32) (ix2 (0 : Fin 1) j) = cbs m c (ix1 (col t j)) := by
  refine Eq.trans ?_ (V_v1 m c _)
  blk_ext [iblk, idx8, col]

/-- The scratch's rows, as filled at the first point of a block of rows. -/
theorem scr_at (p : S1056x2048.Idx) :
    scr (iblk m c 0 t) (iblk m c 1 t) (iblk m c 2 t) (iblk m c 3 t) (iblk m c 4 t) (iblk m c 5 t)
      (BitVec.ofNat 32 (grid0.coords t 1 : ℕ)) p =
      uAt (hid m c) (nwt m c) (scl m c) (shf m c) (ptB t) ((ptI t).1 * 1024 + (p 0).1 - 15) (p 1) := by
  rw [show (grid0.coords t 1 : ℕ) = (ptI t).1 from crd1 t]
  exact scr_rows (hid m c) (nwt m c) (scl m c) (shf m c) (ptB t) _ _ _ (blk3_at m c t) (blk4_at m c t) (blk5_at m c t) (ptI t)
    _ _ _ (blk0_at m c t) (blk1_at m c t) (blk2_at m c t) p

theorem scratch_A (h0 : t.val % 12 = 0) : (outsAt0 m c t.val t.isLt).2.2 =
    scr (iblk m c 0 t) (iblk m c 1 t) (iblk m c 2 t) (iblk m c 3 t) (iblk m c 4 t) (iblk m c 5 t)
      (BitVec.ofNat 32 (grid0.coords t 1 : ℕ)) := by
  rw [outsAt0_A m c t h0]
  frame_out
  exact canon_pieces (iblk m c 0 t) (iblk m c 1 t) (iblk m c 2 t) (iblk m c 3 t) (iblk m c 4 t) (iblk m c 5 t)
    (BitVec.ofNat 32 (grid0.coords t 1 : ℕ))

theorem scratch_B (h0 : ¬t.val % 12 = 0) (hp) : (outsAt0 m c t.val t.isLt).2.2 = (outsAt0 m c (t.val - 1) hp).2.2 := by
  rw [outsAt0_B m c t h0]
  rfl

/-- The scratch at every point. -/
theorem scratch_at (n : ℕ) (hn : n < cfg0.N) (p : S1056x2048.Idx) : (outsAt0 m c n hn).2.2 p =
    uAt (hid m c) (nwt m c) (scl m c) (shf m c) (ptB ⟨n, hn⟩) ((ptI ⟨n, hn⟩).1 * 1024 + (p 0).1 - 15) (p 1) := by
  induction n with
  | zero => exact (congrFun (scratch_A m c ⟨0, hn⟩ rfl) p).trans (scr_at m c ⟨0, hn⟩ p)
  | succ n ih =>
    by_cases h0 : (n + 1) % 12 = 0
    · exact (congrFun (scratch_A m c ⟨n + 1, hn⟩ h0) p).trans (scr_at m c ⟨n + 1, hn⟩ p)
    · have hn' : n < cfg0.N := Nat.lt_of_succ_lt hn
      refine (congrFun (scratch_B m c ⟨n + 1, hn⟩ h0 hn') p).trans ((ih hn').trans ?_)
      have eb : ptB ⟨n, hn'⟩ = ptB ⟨n + 1, hn⟩ := Fin.ext (by show n / 48 = (n + 1) / 48; omega)
      have ei : ptI ⟨n, hn'⟩ = ptI ⟨n + 1, hn⟩ := Fin.ext (by show n / 12 % 4 = (n + 1) / 12 % 4; omega)
      rw [eb, ei]

/-- What the two stores leave, from the scratch. -/
def outBlk (s : FVec Ideal S1056x2048 .bf16) : S2x1x512x512.Idx → EReal := fun p =>
  blkAt s (iblk m c 6 t) (iblk m c 7 t) (iblk m c 8 t) (p 0).1 (p 2) (p 3)

theorem out_A (h0 : t.val % 12 = 0) (p : S2x1x512x512.Idx) :
    (outsAt0 m c t.val t.isLt).1 p = outBlk m c t (outsAt0 m c t.val t.isLt).2.2 p := by
  rw [scratch_A m c t h0, outsAt0_A m c t h0]
  frame_out
  rw [← readCov_pieces (iblk m c 0 t) (iblk m c 1 t) (iblk m c 2 t) (iblk m c 3 t)
    (iblk m c 4 t) (iblk m c 5 t) (BitVec.ofNat 32 (grid0.coords t 1 : ℕ)) (View.whole cc0_scratch0) inb_S1056x2048_S1056x2048_0_0]
  exact (canon_sliced (e := .f32) (blkAt _ (iblk m c 6 t) (iblk m c 7 t) (iblk m c 8 t)) _ _ _ _ _ _ _ _ _ _ _ _
    (withEven _ (iblk m c 6 t) (iblk m c 7 t) (iblk m c 8 t) (View.whole cc0_scratch1) evenF)
    (withOdd _ (iblk m c 6 t) (iblk m c 7 t) (iblk m c 8 t) (View.whole cc0_scratch1) oddF)
    (evenF_conv _ _ _ _ _) (oddF_conv _ _ _ _ _) p)

theorem out_B (h0 : ¬t.val % 12 = 0) (p : S2x1x512x512.Idx) :
    (outsAt0 m c t.val t.isLt).1 p = outBlk m c t (outsAt0 m c t.val t.isLt).2.2 p := by
  rw [scratch_B m c t h0 (Nat.lt_of_le_of_lt (Nat.sub_le _ _) t.isLt), outsAt0_B m c t h0]
  frame_out
  refine (canon_sliced (e := .f32) (blkAt _ (iblk m c 6 t) (iblk m c 7 t) (iblk m c 8 t)) _ _ _ _ _ _ _ _ _ _ _ _
    (withEven _ (iblk m c 6 t) (iblk m c 7 t) (iblk m c 8 t) (View.whole cc0_scratch1) evenF)
    (withOdd _ (iblk m c 6 t) (iblk m c 7 t) (iblk m c 8 t) (View.whole cc0_scratch1) oddF)
    (evenF_conv _ _ _ _ _) (oddF_conv _ _ _ _ _) p).trans ?_
  exact congrArg (fun s => outBlk m c t s p)
    (Memref.IsWhole.read_unread (m := Memref.whole cc0_scratch0) (Memref.isWhole_whole _) _)

theorem outBf_A (h0 : t.val % 12 = 0) (p : S2x1x512x512.Idx) :
    (outsAt0 m c t.val t.isLt).2.1 p = outBlk m c t (outsAt0 m c t.val t.isLt).2.2 p := by
  rw [scratch_A m c t h0, outsAt0_A m c t h0]
  frame_out
  rw [← readCov_pieces (iblk m c 0 t) (iblk m c 1 t) (iblk m c 2 t) (iblk m c 3 t)
    (iblk m c 4 t) (iblk m c 5 t) (BitVec.ofNat 32 (grid0.coords t 1 : ℕ)) (View.whole cc0_scratch0) inb_S1056x2048_S1056x2048_0_0]
  exact (Four.canon_halves (e := .bf16) (blkAt _ (iblk m c 6 t) (iblk m c 7 t) (iblk m c 8 t))
    (withEven _ (iblk m c 6 t) (iblk m c 7 t) (iblk m c 8 t) (View.whole cc0_scratch1) evenB)
    (withOdd _ (iblk m c 6 t) (iblk m c 7 t) (iblk m c 8 t) (View.whole cc0_scratch1) oddB) _ _
    (evenB_conv _ _ _ _ _) (oddB_conv _ _ _ _ _) p)

theorem outBf_B (h0 : ¬t.val % 12 = 0) (p : S2x1x512x512.Idx) :
    (outsAt0 m c t.val t.isLt).2.1 p = outBlk m c t (outsAt0 m c t.val t.isLt).2.2 p := by
  rw [scratch_B m c t h0 (Nat.lt_of_le_of_lt (Nat.sub_le _ _) t.isLt), outsAt0_B m c t h0]
  frame_out
  refine (Four.canon_halves (e := .bf16) (blkAt _ (iblk m c 6 t) (iblk m c 7 t) (iblk m c 8 t))
    (withEven _ (iblk m c 6 t) (iblk m c 7 t) (iblk m c 8 t) (View.whole cc0_scratch1) evenB)
    (withOdd _ (iblk m c 6 t) (iblk m c 7 t) (iblk m c 8 t) (View.whole cc0_scratch1) oddB) _ _
    (evenB_conv _ _ _ _ _) (oddB_conv _ _ _ _ _) p).trans ?_
  exact congrArg (fun s => outBlk m c t s p)
    (Memref.IsWhole.read_unread (m := Memref.whole cc0_scratch0) (Memref.isWhole_whole _) _)

/-- What the stores leave, at an index: the reference's first result. -/
theorem outBlk_at (o : Fin 2) (r j : Fin 512) (g : Fin 2048) (hg : g.1 = (ptI t).1 * 512 + r.1) :
    outBlk m c t (outsAt0 m c t.val t.isLt).2.2 (ix4 o (0 : Fin 1) r j) =
      Cert.Reference9Ideal.Read.val_main_v46 (F := Ideal) (hid m c) (nwt m c) (scl m c) (shf m c) (wgt m c) (cwt m c) (cbs m c) (ix4 o (ptB t) g (col t j)) := by
  have ho := o.2
  have hr := r.2
  rw [ref_at]
  refine (dif_pos ho).trans ?_
  refine (conv_rows (hid m c) (nwt m c) (scl m c) (shf m c) (ptB t) (ptI t) (wgt m c) (cwt m c) (cbs m c) _ _ _ _
    ⟨o.1 + 2 * r.1, by omega⟩ j (col t j) (scratch_at m c t.val t.isLt) (blk6_at m c t · j) (blk7_at m c t · j)
    (blk8_at m c t j)).trans ?_
  refine congrArg (fun k => convAt (hid m c) (nwt m c) (scl m c) (shf m c) (wgt m c) (cwt m c) (cbs m c) (ptB t) k (col t j)) ?_
  show (ptI t).1 * 1024 + (o.1 + 2 * r.1) = g.1 * 2 + o.1
  omega

theorem out_at (p : S2x1x512x512.Idx) : (outsAt0 m c t.val t.isLt).1 p = outBlk m c t (outsAt0 m c t.val t.isLt).2.2 p := by
  by_cases h0 : t.val % 12 = 0
  · exact out_A m c t h0 p
  · exact out_B m c t h0 p

theorem outBf_at (p : S2x1x512x512.Idx) : (outsAt0 m c t.val t.isLt).2.1 p = outBlk m c t (outsAt0 m c t.val t.isLt).2.2 p := by
  by_cases h0 : t.val % 12 = 0
  · exact outBf_A m c t h0 p
  · exact outBf_B m c t h0 p

end

section
variable (m : (ℓ : Loc nD τ sig) → Buf (Elt Ideal) ℓ) (ρ : Dev nD → PrngReg)

/-- THE F32 RESULT: the reference's. -/
theorem final (c : Dev nD) : (dats m 0 c).arrAt 9 cfg0.N =
    Cert.Reference9Ideal.Read.val_main_v46 (F := Ideal) (hid m c) (nwt m c) (scl m c) (shf m c) (wgt m c) (cwt m c) (cbs m c) := by
  refine (dats m 0 c).arrAt_eq_of_covers 9 _ (by decide +kernel) fun t hf y => ?_
  blk_simp
  rw [after0_9]
  obtain ⟨o, y1, r, j, rfl⟩ : ∃ (o : Fin 2) (y1 : Fin 1) (r j : Fin 512), y = ix4 o y1 r j :=
    ⟨y 0, y 1, y 2, y 3, funext fun a => by fin_cases a <;> rfl⟩
  obtain rfl : y1 = 0 := Subsingleton.elim _ _
  have hi := (ptI t).2
  refine ((out_at m c t _).trans (outBlk_at m c t o r j ⟨(ptI t).1 * 512 + r.1, by omega⟩ rfl)).trans ?_
  refine congrArg (Cert.Reference9Ideal.Read.val_main_v46 (F := Ideal) (hid m c) (nwt m c) (scl m c) (shf m c) (wgt m c) (cwt m c) (cbs m c)) ?_
  blk_ext [idx9, ptB, ptI, col]

/-- THE BF16 RESULT: the reference's. -/
theorem finalBf (c : Dev nD) : (dats m 0 c).arrAt 10 cfg0.N =
    Cert.Reference9Ideal.Read.val_main_v47 (F := Ideal) (hid m c) (nwt m c) (scl m c) (shf m c) (wgt m c) (cwt m c) (cbs m c) := by
  refine (dats m 0 c).arrAt_eq_of_covers 10 _ (by decide +kernel) fun t hf y => ?_
  blk_simp
  rw [after0_10]
  obtain ⟨o, y1, r, j, rfl⟩ : ∃ (o : Fin 2) (y1 : Fin 1) (r j : Fin 512), y = ix4 o y1 r j :=
    ⟨y 0, y 1, y 2, y 3, funext fun a => by fin_cases a <;> rfl⟩
  obtain rfl : y1 = 0 := Subsingleton.elim _ _
  have hi := (ptI t).2
  refine ((outBf_at m c t _).trans (outBlk_at m c t o r j ⟨(ptI t).1 * 512 + r.1, by omega⟩ rfl)).trans ?_
  refine congrArg (Cert.Reference9Ideal.Read.val_main_v47 (F := Ideal) (hid m c) (nwt m c) (scl m c) (shf m c) (wgt m c) (cwt m c) (cbs m c)) ?_
  blk_ext [idx10, ptB, ptI, col]

/-- The run: the result arrays at the reference's, the arguments unchanged. -/
theorem run : θ_run defs (onTc (τ := τ) (main (F := Ideal))) ⟨m, fun _ => 0, ρ⟩ fun r => ∀ c : Dev nD,
      r.2.mem ((c.tc : Thread nD τ).loc main_v3_0) =
        Cert.Reference9Ideal.Read.val_main_v46 (F := Ideal) (hid m c) (nwt m c) (scl m c) (shf m c) (wgt m c) (cwt m c) (cbs m c)
      ∧ r.2.mem ((c.tc : Thread nD τ).loc main_v3_1) =
        Cert.Reference9Ideal.Read.val_main_v47 (F := Ideal) (hid m c) (nwt m c) (scl m c) (shf m c) (wgt m c) (cwt m c) (cbs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ k c => ⟨(k c).1.trans (final m c), (k c).2.1.trans (finalBf m c), (k c).2.2⟩)
    (Cert.Kernel9Ideal.Value.run_blocks m ρ)

end

end Hy

end
-- ==== Proof.Hy.Claims.lean ====
/-
  The claims about the Hyier mixer's projection, from its parts: the generated frames, and the two runs ending at the same
  two arrays.
-/
module

public import proofs.«01_k».proof.Defs
public import proofs.«01_k».proof.Proof.Hy.Array
public import proofs.«01_k».proof.Proof.Gen.Kernel9.Frame
public import proofs.«01_k».proof.Proof.Gen.Reference9Ideal.Run
public import Idealize.ShloMosaic.Lib.Quiescent

@[expose] public section

noncomputable section

namespace Hy.Claims

open Idealize.ShloMosaic Idealize.ShloMosaic.TcCoe Idealize.SL.Sem

theorem frame_kernel : Cert.quiescent_Kernel9 := fun m ρ _ => Cert.Kernel9.Gen.frame m ρ
theorem frame_kernelIdeal : Cert.quiescent_Kernel9Ideal := fun m ρ _ => Cert.Kernel9Ideal.Gen.frame m ρ
theorem frame_reference : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨fun c => Cert.Reference9Ideal.Read.val_main_v46 (F := Ideal) (hid m c) (nwt m c) (scl m c) (shf m c) (wgt m c) (cwt m c) (cbs m c),
    fun c => Cert.Reference9Ideal.Read.val_main_v47 (F := Ideal) (hid m c) (nwt m c) (scl m c) (shf m c) (wgt m c) (cwt m c) (cbs m c), run m ρ, ?_⟩
  refine (θ_run Cert.Reference9Ideal.defs _ _).mono (fun _ h c => ⟨(h c).1.trans ?_, (h c).2.1.trans ?_, (h c).2.2⟩)
    (Cert.Reference9Ideal.Value.run (F := Ideal) m' ρ')
  · obtain ⟨h0, h1, h2, h3, h4, h5, h6⟩ := hagree c
    rw [Cert.Reference9Ideal.Read.val_main_v46_eq, h0, h1, h2, h3, h4, h5, h6]
  · obtain ⟨h0, h1, h2, h3, h4, h5, h6⟩ := hagree c
    rw [Cert.Reference9Ideal.Read.val_main_v47_eq, h0, h1, h2, h3, h4, h5, h6]

end Hy.Claims

end
-- ==== Proof.FourOut.Claims.lean ====
/-
  The claims about the Fourier mixer's output projection. Its kernel, before and after the ideal pass, and its reference are
  the text of the attention's output projection under another name, so that the runs proved there are its runs (`defs_eq`,
  `idealDefs_eq`).
-/
module

public import proofs.«01_k».proof.Defs
public import proofs.«01_k».proof.Proof.AttnOut.Claims
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read

@[expose] public section

set_option backward.isDefEq.respectTransparency.types false
set_option backward.isDefEq.respectTransparency false

noncomputable section

namespace FourOut.Claims

open Idealize.ShloMosaic Idealize.ShloMosaic.TcCoe Idealize.SL.Sem
open AttnOut (act wgt res gte nwt)

theorem bodies_eq : Cert.Kernel10.defs₀ (F := Bits) = Cert.Kernel6Ideal.defs₀ (F := Bits) := by
  unfold Cert.Kernel10.defs₀ Cert.Kernel6Ideal.defs₀
  refine congrArg Defs.onTc (funext fun b => funext fun a => ?_)
  obtain ⟨k, hk⟩ := b
  cases k with
  | zero => rfl
  | succ k => exact absurd hk (by omega)

theorem defs_eq : Cert.Kernel10.defs (F := Bits) = Cert.Kernel6Ideal.defs (F := Bits) :=
  congrArg (Pipeline.defs (Cert.Kernel10.pcfgs (F := Bits))) bodies_eq

theorem idealBodies_eq : Cert.Kernel10Ideal.defs₀ (F := Ideal) = Cert.Kernel6Ideal.defs₀ (F := Ideal) := by
  unfold Cert.Kernel10Ideal.defs₀ Cert.Kernel6Ideal.defs₀
  refine congrArg Defs.onTc (funext fun b => funext fun a => ?_)
  obtain ⟨k, hk⟩ := b
  cases k with
  | zero => rfl
  | succ k => exact absurd hk (by omega)

theorem idealDefs_eq : Cert.Kernel10Ideal.defs (F := Ideal) = Cert.Kernel6Ideal.defs (F := Ideal) :=
  congrArg (Pipeline.defs (Cert.Kernel10Ideal.pcfgs (F := Ideal))) idealBodies_eq

theorem frame_kernel : Cert.quiescent_Kernel10 := fun m ρ _ => by
  rw [defs_eq]
  exact AttnOut.unchanged (F := Bits) m ρ
theorem frame_kernelIdeal : Cert.quiescent_Kernel10Ideal := fun m ρ _ => by
  rw [idealDefs_eq]
  exact AttnOut.unchanged (F := Ideal) m ρ
theorem frame_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem algebraic : Cert.algebraic_Kernel10Ideal_Reference10Ideal := by
  intro m ρ m' ρ' _ hagree
  rw [idealDefs_eq]
  refine ⟨fun c => Cert.Reference10Ideal.Read.val_main_v17 (F := Ideal) (act m c) (wgt m c) (res m c) (gte m c) (nwt m c),
    AttnOut.run_final m ρ, ?_⟩
  refine (θ_run Cert.Reference10Ideal.defs _ _).mono (fun _ h c => ⟨(h c).1.trans ?_, (h c).2⟩)
    (Cert.Reference10Ideal.Value.run (F := Ideal) m' ρ')
  obtain ⟨h0, h1, h2, h3, h4⟩ := hagree c
  rw [Cert.Reference10Ideal.Read.val_main_v17_eq, h0, h1, h2, h3, h4]

end FourOut.Claims

end
-- ==== Proof.lean ====
/-
  The claims about the attention core, the two feed-forward products and the projections around the mixers of a hybrid
  diffusion block, put together.
-/
module

public import proofs.«01_k».proof.Defs
public import proofs.«01_k».proof.Proof.Attn.Claims
public import proofs.«01_k».proof.Proof.Up.Claims
public import proofs.«01_k».proof.Proof.Down.Claims
public import proofs.«01_k».proof.Proof.Xbc.Claims
public import proofs.«01_k».proof.Proof.SsdOut.Claims
public import proofs.«01_k».proof.Proof.AttnOut.Claims
public import proofs.«01_k».proof.Proof.Zin.Claims
public import proofs.«01_k».proof.Proof.Four.Claims
public import proofs.«01_k».proof.Proof.Hy.Claims
public import proofs.«01_k».proof.Proof.FourOut.Claims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite_scores.Gen.facts,
    Attn.Claims.frame_kernel, Attn.Claims.frame_kernelIdeal, Attn.Claims.frame_kernelIdeal_pre,
    Attn.Claims.frame_reference, Attn.Claims.frame_reference_pre,
    Up.Claims.frame_kernel, Up.Claims.frame_kernelIdeal, Up.Claims.frame_reference,
    Down.Claims.frame_kernel, Down.Claims.frame_kernelIdeal, Down.Claims.frame_reference,
    Xbc.Claims.frame_kernel, Xbc.Claims.frame_kernelIdeal, Xbc.Claims.frame_reference,
    SsdOut.Claims.frame_kernel, SsdOut.Claims.frame_kernelIdeal, SsdOut.Claims.frame_reference,
    AttnOut.Claims.frame_kernel, AttnOut.Claims.frame_kernelIdeal, AttnOut.Claims.frame_reference,
    Zin.Claims.frame_kernel, Zin.Claims.frame_kernelIdeal, Zin.Claims.frame_reference,
    Four.Claims.frame_kernel, Four.Claims.frame_kernelIdeal, Four.Claims.frame_reference,
    Hy.Claims.frame_kernel, Hy.Claims.frame_kernelIdeal, Hy.Claims.frame_reference,
    FourOut.Claims.frame_kernel, FourOut.Claims.frame_kernelIdeal, FourOut.Claims.frame_reference,
    trivial, Attn.Claims.algebraic, trivial, Up.Claims.algebraic, trivial, Down.Claims.algebraic,
    trivial, Xbc.Claims.algebraic, trivial, SsdOut.Claims.algebraic, trivial, AttnOut.Claims.algebraic,
    trivial, Zin.Claims.algebraic,
    trivial, Four.Claims.algebraic,
    trivial, Hy.Claims.algebraic,
    trivial, FourOut.Claims.algebraic⟩

end Cert.Proof

end
